-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_v229) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  IdealRules.named_const.Statement Cert.FfnIdeal.κ "c2" .f32 0x3D122279#32 ((80338380498831 / 2251799813685248 : ℝ) : EReal)

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v60) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v2_0)) (v1 : (c : Dev Cert.MergeIdeal.nD) → Buf (Elt Ideal) ((c.tc : Thread Cert.MergeIdeal.nD Cert.MergeIdeal.τ).loc Cert.MergeIdeal.main_v2_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2_0) = v0 c
          ∧ r.2.mem ((c.tc : Thread Cert.MergeIdeal.nD Cert.MergeIdeal.τ).loc Cert.MergeIdeal.main_v2_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v54) = v0 c
          ∧ r.2.mem ((c.tc : Thread Cert.MergeRefIdeal.nD Cert.MergeRefIdeal.τ).loc Cert.MergeRefIdeal.main_v56) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Merge_MergeIdeal
    ∧ algebraic_MergeIdeal_MergeRefIdeal (hMergeIdeal := hMergeIdeal) (hMergeRefIdeal := hMergeRefIdeal)
-- ==== Pre_finite.lean ====
abbrev S8192x11264 : Shape := ⟨2, ![8192, 11264]⟩
abbrev S2x8 : Shape := ⟨2, ![2, 8]⟩
abbrev S1024 : Shape := ⟨1, ![1024]⟩
abbrev S8192x3072 : Shape := ⟨2, ![8192, 3072]⟩
abbrev S_ : Shape := ⟨0, ![]⟩

class Facts : Prop where
  slices_S8192x11264_S8192x3072_0_3072 : S8192x11264.Slices ![0, 3072] S8192x3072
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S2x8 : S_.BroadcastsInDim S2x8 (![] : Fin 0 → Fin S2x8.rank)
  reducesTo_S2x8_S_d0_1 : S2x8.ReducesTo [0, 1] S_

variable [Facts]

def fn {F : FTy → Type} [FloatOps F] (main_arg0 : FVec F S8192x11264 .bf16) (main_arg1 : FVec F S2x8 .f32) (main_arg2 : FVec F S1024 .f32) : IVec S_ 1 :=
  let main_v0 : FVec F S8192x3072 .bf16 := (extractStridedSlice S8192x3072 ![0, 3072] · slices_S8192x11264_S8192x3072_0_3072) main_arg0
  let main_v1 : FVec F S8192x3072 .f32 := (extf .f32 · bitsLt_bf16_f32) main_v0
  let main_v2 : FVec F S8192x3072 .f32 := Host.absf main_v1
  let main_cst : FVec F S_ .f32 := constant S_ .f32 0x7F800000#32
  let main_v3 : FVec F S8192x3072 .f32 := broadcastInDim S8192x3072 ![] bcast_S_S8192x3072 main_cst
  let main_v4 : IVec S8192x3072 1 := cmpf .olt main_v2 main_v3
  let main_c : IVec S_ 1 := constantI S_ 1 1#1
  let main_v5 : IVec S_ 1 := (fun x v => Host.reduce IntOp.andi x v reducesTo_S8192x3072_S_d0_1 h_S_) main_v4 main_c
  let main_v6 : FVec F S2x8 .f32 := Host.absf main_arg1
  let main_cst_0 : FVec F S_ .f32 := constant S_ .f32 0x7F800000#32
  let main_v7 : FVec F S2x8 .f32 := broadcastInDim S2x8 ![] bcast_S_S2x8 main_cst_0
  let main_v8 : IVec S2x8 1 := cmpf .olt main_v6 main_v7
  let main_c_1 : IVec S_ 1 := constantI S_ 1 1#1
  let main_v9 : IVec S_ 1 := (fun x v => Host.reduce IntOp.andi x v reducesTo_S2x8_S_d0_1 h_S_) main_v8 main_c_1
  let main_v10 : IVec S_ 1 := andi main_v5 main_v9
  main_v10
-- ==== Pre_finite_ffn.lean ====
abbrev S8192x2048 : Shape := ⟨2, ![8192, 2048]⟩
abbrev S1x1x2048 : Shape := ⟨3, ![1, 1, 2048]⟩
abbrev S2048 : Shape := ⟨1, ![2048]⟩
abbrev S2048x11264 : Shape := ⟨2, ![2048, 11264]⟩
abbrev S3x11264 : Shape := ⟨2, ![3, 11264]⟩
abbrev S5632x2048 : Shape := ⟨2, ![5632, 2048]⟩
abbrev S_ : Shape := ⟨0, ![]⟩
abbrev S2048x5632 : Shape := ⟨2, ![2048, 5632]⟩
abbrev S3x5632 : Shape := ⟨2, ![3, 5632]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  slices_S2048x11264_S2048x5632_0_0 : S2048x11264.Slices ![0, 0] S2048x5632
  bcast_S_S2048x5632 : S_.BroadcastsInDim S2048x5632 (![] : Fin 0 → Fin S2048x5632.rank)
  reducesTo_S2048x5632_S_d0_1 : S2048x5632.ReducesTo [0, 1] S_
  slices_S3x11264_S3x5632_0_0 : S3x11264.Slices ![0, 0] S3x5632
  bcast_S_S3x5632 : S_.BroadcastsInDim S3x5632 (![] : Fin 0 → Fin S3x5632.rank)
  reducesTo_S3x5632_S_d0_1 : S3x5632.ReducesTo [0, 1] S_

variable [Facts]

def fn {F : FTy → Type} [FloatOps F] (main_arg0 : FVec F S8192x2048 .f32) (main_arg1 : FVec F S8192x2048 .bf16) (main_arg2 : FVec F S1x1x2048 .f32) (main_arg3 : FVec F S2048 .f32) (main_arg4 : FVec F S2048x11264 .bf16) (main_arg5 : FVec F S3x11264 .f32) (main_arg6 : FVec F S5632x2048 .bf16) : IVec S_ 1 :=
  let main_v0 : FVec F S8192x2048 .f32 := (extf .f32 · bitsLt_bf16_f32) main_arg1
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S2048x5632 .bf16 := (extractStridedSlice S2048x5632 ![0, 0] · slices_S2048x11264_S2048x5632_0_0) main_arg4
  let main_v6 : FVec F S2048x5632 .f32 := (extf .f32 · bitsLt_bf16_f32) main_v5
  let main_v7 : FVec F S2048x5632 .f32 := Host.absf main_v6
  let main_cst_0 : FVec F S_ .f32 := constant S_ .f32 0x7F800000#32
  let main_v8 : FVec F S2048x5632 .f32 := broadcastInDim S2048x5632 ![] bcast_S_S2048x5632 main_cst_0
  let main_v9 : IVec S2048x5632 1 := cmpf .olt main_v7 main_v8
  let main_c_1 : IVec S_ 1 := constantI S_ 1 1#1
  let main_v10 : IVec S_ 1 := (fun x v => Host.reduce IntOp.andi x v reducesTo_S2048x5632_S_d0_1 h_S_) main_v9 main_c_1
  let main_v11 : IVec S_ 1 := andi main_v4 main_v10
  let main_v12 : FVec F S3x5632 .f32 := (extractStridedSlice S3x5632 ![0, 0] · slices_S3x11264_S3x5632_0_0) main_arg5
  let main_v13 : FVec F S3x5632 .f32 := Host.absf main_v12
  let main_cst_2 : FVec F S_ .f32 := constant S_ .f32 0x7F800000#32
  let main_v14 : FVec F S3x5632 .f32 := broadcastInDim S3x5632 ![] bcast_S_S3x5632 main_cst_2
  let main_v15 : IVec S3x5632 1 := cmpf .olt main_v13 main_v14
  let main_c_3 : IVec S_ 1 := constantI S_ 1 1#1
  let main_v16 : IVec S_ 1 := (fun x v => Host.reduce IntOp.andi x v reducesTo_S3x5632_S_d0_1 h_S_) main_v15 main_c_3
  let main_v17 : IVec S_ 1 := andi main_v11 main_v16
  main_v17
-- ==== Kernel.lean ====
abbrev S8192x11264 : Shape := ⟨2, ![8192, 11264]⟩
abbrev S2x8 : Shape := ⟨2, ![2, 8]⟩
abbrev S1024 : Shape := ⟨1, ![1024]⟩
abbrev S8x2 : Shape := ⟨2, ![8, 2]⟩
abbrev S8x2x1x1 : Shape := ⟨4, ![8, 2, 1, 1]⟩
abbrev S8x2x1x128 : Shape := ⟨4, ![8, 2, 1, 128]⟩
abbrev S1x1024 : Shape := ⟨2, ![1, 1024]⟩
abbrev S8192x1024 : Shape := ⟨2, ![8192, 1024]⟩
abbrev S32x2x8x128x128 : Shape := ⟨5, ![32, 2, 8, 128, 128]⟩
abbrev S1024x1024 : Shape := ⟨2, ![1024, 1024]⟩
abbrev S4x2x8x128x128 : Shape := ⟨5, ![4, 2, 8, 128, 128]⟩
abbrev S8x256x256 : Shape := ⟨3, ![8, 256, 256]⟩
abbrev S8x2x256x128 : Shape := ⟨4, ![8, 2, 256, 128]⟩
abbrev S128x128 : Shape := ⟨2, ![128, 128]⟩
abbrev S1x1x1x128 : Shape := ⟨4, ![1, 1, 1, 128]⟩
abbrev S1x128 : Shape := ⟨2, ![1, 128]⟩
abbrev S1x1 : Shape := ⟨2, ![1, 1]⟩
abbrev S1x128x128 : Shape := ⟨3, ![1, 128, 128]⟩
abbrev S256x128 : Shape := ⟨2, ![256, 128]⟩
abbrev S1x1x256x128 : Shape := ⟨4, ![1, 1, 256, 128]⟩
abbrev S256x256 : Shape := ⟨2, ![256, 256]⟩
abbrev S1x256x256 : Shape := ⟨3, ![1, 256, 256]⟩
abbrev S1x1x1x128x128 : Shape := ⟨5, ![1, 1, 1, 128, 128]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S8192x11264, .bf16⟩
  | .hbm, ⟨1, _⟩ => ⟨S2x8, .f32⟩
  | .hbm, ⟨2, _⟩ => ⟨S1024, .f32⟩
  | .hbm, ⟨3, _⟩ => ⟨S8x2, .f32⟩
  | .hbm, ⟨4, _⟩ => ⟨S8x2x1x1, .f32⟩
  | .hbm, ⟨5, _⟩ => ⟨S8x2x1x128, .f32⟩
  | .hbm, ⟨6, _⟩ => ⟨S1x1024, .f32⟩
  | .hbm, ⟨7, _⟩ => ⟨S8192x1024, .bf16⟩
  | .hbm, ⟨8, _⟩ => ⟨S32x2x8x128x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x2x1x128, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S4x2x8x128x128, .f32⟩
  | .local _ .vmem, ⟨13, _⟩ => ⟨S4x2x8x128x128, .f32⟩
  | .local _ .vmem, ⟨14, _⟩ => ⟨S8x256x256, .f32⟩
  | .local _ .vmem, ⟨15, _⟩ => ⟨S8x2x256x128, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x2x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x2x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8192x11264 : Shape := ⟨2, ![8192, 11264]⟩
abbrev S2x8 : Shape := ⟨2, ![2, 8]⟩
abbrev S1024 : Shape := ⟨1, ![1024]⟩
abbrev S32x256x11264 : Shape := ⟨3, ![32, 256, 11264]⟩
abbrev S32x256x4096 : Shape := ⟨3, ![32, 256, 4096]⟩
abbrev S32x256x1024 : Shape := ⟨3, ![32, 256, 1024]⟩
abbrev S32x256x8x128 : Shape := ⟨4, ![32, 256, 8, 128]⟩
abbrev S_ : Shape := ⟨0, ![]⟩
abbrev S32x2x8x128x128 : Shape := ⟨5, ![32, 2, 8, 128, 128]⟩
abbrev S1x8 : Shape := ⟨2, ![1, 8]⟩
abbrev S8 : Shape := ⟨1, ![8]⟩
abbrev S32x1x8x128x128 : Shape := ⟨5, ![32, 1, 8, 128, 128]⟩
abbrev S32x8x128x128 : Shape := ⟨4, ![32, 8, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S128x8 : Shape := ⟨2, ![128, 8]⟩
abbrev S32x128x8x128 : Shape := ⟨4, ![32, 128, 8, 128]⟩
abbrev S1x8x128x128 : Shape := ⟨4, ![1, 8, 128, 128]⟩
abbrev S1x128x8x1 : Shape := ⟨4, ![1, 128, 8, 1]⟩
abbrev S1x8x1x1 : Shape := ⟨4, ![1, 8, 1, 1]⟩
abbrev S32x256x8 : Shape := ⟨3, ![32, 256, 8]⟩
abbrev S32x256x8x1 : Shape := ⟨4, ![32, 256, 8, 1]⟩
abbrev S1x1x1024 : Shape := ⟨3, ![1, 1, 1024]⟩
abbrev S8192x1024 : Shape := ⟨2, ![8192, 1024]⟩

abbrev nBuf : Space → Nat
  | .hbm => 260
  | .vmem => 0
  | .smem => 0
  | _ => 0

abbrev hbmTy0_0 (i : Nat) : BufTy := match i % 128 with
  | 0 => ⟨S8192x11264, .bf16⟩
  | 1 => ⟨S2x8, .f32⟩
  | 2 => ⟨S1024, .f32⟩
  | 3 => ⟨S32x256x11264, .bf16⟩
  | 4 => ⟨S32x256x4096, .bf16⟩
  | 5 => ⟨S32x256x4096, .f32⟩
  | 6 => ⟨S32x256x1024, .f32⟩
  | 7 => ⟨S32x256x1024, .f32⟩
  | 8 => ⟨S32x256x1024, .f32⟩
  | 9 => ⟨S32x256x1024, .f32⟩
  | 10 => ⟨S32x256x8x128, .f32⟩
  | 11 => ⟨S32x256x8x128, .f32⟩
  | 12 => ⟨S32x256x8x128, .f32⟩
  | 13 => ⟨S_, .f32⟩
  | 14 => ⟨S32x256x8x128, .f32⟩
  | 15 => ⟨S32x256x8x128, .f32⟩
  | 16 => ⟨S2x8, .f32⟩
  | 17 => ⟨S2x8, .f32⟩
  | 18 => ⟨S_, .f32⟩
  | 19 => ⟨S2x8, .f32⟩
  | 20 => ⟨S2x8, .f32⟩
  | 21 => ⟨S_, .f32⟩
  | 22 => ⟨S2x8, .f32⟩
  | 23 => ⟨S2x8, .f32⟩
  | 24 => ⟨S_, .f32⟩
  | 25 => ⟨S32x2x8x128x128, .f32⟩
  | 26 => ⟨S1x8, .f32⟩
  | 27 => ⟨S8, .f32⟩
  | 28 => ⟨S32x1x8x128x128, .f32⟩
  | 29 => ⟨S32x8x128x128, .f32⟩
  | 30 => ⟨S8, .f32⟩
  | 31 => ⟨S128, .f32⟩
  | 32 => ⟨S128x1, .f32⟩
  | 33 => ⟨S1x128, .f32⟩
  | 34 => ⟨S128x128, .f32⟩
  | 35 => ⟨S128x128, .f32⟩
  | 36 => ⟨S128x128, .f32⟩
  | 37 => ⟨S1x128x128, .f32⟩
  | 38 => ⟨S_, .f32⟩
  | 39 => ⟨S1x128x128, .f32⟩
  | 40 => ⟨S1x128x128, .i1⟩
  | 41 => ⟨S8x1x1, .f32⟩
  | 42 => ⟨S_, .f32⟩
  | 43 => ⟨S128x128, .f32⟩
  | 44 => ⟨S128x128, .f32⟩
  | 45 => ⟨S1x128x128, .f32⟩
  | 46 => ⟨S8x128x128, .f32⟩
  | 47 => ⟨S8x128x128, .f32⟩
  | 48 => ⟨S8x128x128, .f32⟩
  | 49 => ⟨S8x128x128, .f32⟩
  | 50 => ⟨S_, .f32⟩
  | 51 => ⟨S_, .f32⟩
  | 52 => ⟨S8x128x128, .i1⟩
  | 53 => ⟨S8x128x128, .f32⟩
  | 54 => ⟨S8x128x128, .f32⟩
  | 55 => ⟨S1x8, .f32⟩
  | 56 => ⟨S128x1, .f32⟩
  | 57 => ⟨S_, .f32⟩
  | 58 => ⟨S128x1, .f32⟩
  | 59 => ⟨S128x1, .f32⟩
  | 60 => ⟨S128x8, .f32⟩
  | 61 => ⟨S128x8, .f32⟩
  | 62 => ⟨S128x8, .f32⟩
  | 63 => ⟨S128x8, .f32⟩
  | 64 => ⟨S1x8, .f32⟩
  | 65 => ⟨S_, .f32⟩
  | 66 => ⟨S128, .f32⟩
  | 67 => ⟨S128, .f32⟩
  | 68 => ⟨S128x1, .f32⟩
  | 69 => ⟨S128x8, .f32⟩
  | 70 => ⟨S128x8, .f32⟩
  | 71 => ⟨S128x8, .f32⟩
  | 72 => ⟨S128x8, .f32⟩
  | 73 => ⟨S_, .f32⟩
  | 74 => ⟨S8, .f32⟩
  | 75 => ⟨S8, .f32⟩
  | 76 => ⟨S8, .f32⟩
  | 77 => ⟨S32x128x8x128, .f32⟩
  | 78 => ⟨S32x128x8x128, .f32⟩
  | 79 => ⟨S32x128x8x128, .f32⟩
  | 80 => ⟨S32x8x128x128, .f32⟩
  | 81 => ⟨S1x8x128x128, .f32⟩
  | 82 => ⟨S32x8x128x128, .f32⟩
  | 83 => ⟨S32x8x128x128, .f32⟩
  | 84 => ⟨S32x8x128x128, .f32⟩
  | 85 => ⟨S32x128x8x128, .f32⟩
  | 86 => ⟨S32x8x128x128, .f32⟩
  | 87 => ⟨S32x128x8x128, .f32⟩
  | 88 => ⟨S1x128x8x1, .f32⟩
  | 89 => ⟨S32x128x8x128, .f32⟩
  | 90 => ⟨S32x128x8x128, .f32⟩
  | 91 => ⟨S32x128x8x128, .f32⟩
  | 92 => ⟨S1x8x1x1, .f32⟩
  | 93 => ⟨S32x8x128x128, .f32⟩
  | 94 => ⟨S32x8x128x128, .f32⟩
  | 95 => ⟨S1x128x8x1, .f32⟩
  | 96 => ⟨S32x128x8x128, .f32⟩
  | 97 => ⟨S32x128x8x128, .f32⟩
  | 98 => ⟨S32x8x128x128, .f32⟩
  | 99 => ⟨S32x8x128x128, .f32⟩
  | 100 => ⟨S32x128x8x128, .f32⟩
  | 101 => ⟨S32x128x8x128, .f32⟩
  | 102 => ⟨S32x128x8x128, .f32⟩
  | 103 => ⟨S32x8x128x128, .f32⟩
  | 104 => ⟨S1x8x128x128, .f32⟩
  | 105 => ⟨S32x8x128x128, .f32⟩
  | 106 => ⟨S32x8x128x128, .f32⟩
  | 107 => ⟨S32x8x128x128, .f32⟩
  | 108 => ⟨S32x128x8x128, .f32⟩
  | 109 => ⟨S32x8x128x128, .f32⟩
  | 110 => ⟨S32x128x8x128, .f32⟩
  | 111 => ⟨S1x128x8x1, .f32⟩
  | 112 => ⟨S32x128x8x128, .f32⟩
  | 113 => ⟨S32x128x8x128, .f32⟩
  | 114 => ⟨S32x128x8x128, .f32⟩
  | 115 => ⟨S1x8x1x1, .f32⟩
  | 116 => ⟨S32x8x128x128, .f32⟩
  | 117 => ⟨S32x8x128x128, .f32⟩
  | 118 => ⟨S1x128x8x1, .f32⟩
  | 119 => ⟨S32x128x8x128, .f32⟩
  | 120 => ⟨S32x128x8x128, .f32⟩
  | 121 => ⟨S32x8x128x128, .f32⟩
  | 122 => ⟨S32x8x128x128, .f32⟩
  | 123 => ⟨S32x256x8x128, .f32⟩
  | 124 => ⟨S32x256x8x128, .f32⟩
  | 125 => ⟨S32x256x8x128, .f32⟩
  | 126 => ⟨S32x256x8x128, .f32⟩
  | 127 => ⟨S1x8, .f32⟩
  | _ => ⟨S8192x11264, .bf16⟩

abbrev hbmTy0_1 (i : Nat) : BufTy := match i % 128 with
  | 0 => ⟨S8, .f32⟩
  | 1 => ⟨S32x1x8x128x128, .f32⟩
  | 2 => ⟨S32x8x128x128, .f32⟩
  | 3 => ⟨S8, .f32⟩
  | 4 => ⟨S128, .f32⟩
  | 5 => ⟨S128x1, .f32⟩
  | 6 => ⟨S1x128, .f32⟩
  | 7 => ⟨S128x128, .f32⟩
  | 8 => ⟨S128x128, .f32⟩
  | 9 => ⟨S128x128, .f32⟩
  | 10 => ⟨S1x128x128, .f32⟩
  | 11 => ⟨S_, .f32⟩
  | 12 => ⟨S1x128x128, .f32⟩
  | 13 => ⟨S1x128x128, .i1⟩
  | 14 => ⟨S8x1x1, .f32⟩
  | 15 => ⟨S_, .f32⟩
  | 16 => ⟨S128x128, .f32⟩
  | 17 => ⟨S128x128, .f32⟩
  | 18 => ⟨S1x128x128, .f32⟩
  | 19 => ⟨S8x128x128, .f32⟩
  | 20 => ⟨S8x128x128, .f32⟩
  | 21 => ⟨S8x128x128, .f32⟩
  | 22 => ⟨S8x128x128, .f32⟩
  | 23 => ⟨S_, .f32⟩
  | 24 => ⟨S_, .f32⟩
  | 25 => ⟨S8x128x128, .i1⟩
  | 26 => ⟨S8x128x128, .f32⟩
  | 27 => ⟨S8x128x128, .f32⟩
  | 28 => ⟨S1x8, .f32⟩
  | 29 => ⟨S128x1, .f32⟩
  | 30 => ⟨S_, .f32⟩
  | 31 => ⟨S128x1, .f32⟩
  | 32 => ⟨S128x1, .f32⟩
  | 33 => ⟨S128x8, .f32⟩
  | 34 => ⟨S128x8, .f32⟩
  | 35 => ⟨S128x8, .f32⟩
  | 36 => ⟨S128x8, .f32⟩
  | 37 => ⟨S1x8, .f32⟩
  | 38 => ⟨S_, .f32⟩
  | 39 => ⟨S128, .f32⟩
  | 40 => ⟨S128, .f32⟩
  | 41 => ⟨S128x1, .f32⟩
  | 42 => ⟨S128x8, .f32⟩
  | 43 => ⟨S128x8, .f32⟩
  | 44 => ⟨S128x8, .f32⟩
  | 45 => ⟨S128x8, .f32⟩
  | 46 => ⟨S_, .f32⟩
  | 47 => ⟨S8, .f32⟩
  | 48 => ⟨S8, .f32⟩
  | 49 => ⟨S8, .f32⟩
  | 50 => ⟨S32x128x8x128, .f32⟩
  | 51 => ⟨S32x128x8x128, .f32⟩
  | 52 => ⟨S32x128x8x128, .f32⟩
  | 53 => ⟨S32x8x128x128, .f32⟩
  | 54 => ⟨S1x8x128x128, .f32⟩
  | 55 => ⟨S32x8x128x128, .f32⟩
  | 56 => ⟨S32x8x128x128, .f32⟩
  | 57 => ⟨S32x8x128x128, .f32⟩
  | 58 => ⟨S32x128x8x128, .f32⟩
  | 59 => ⟨S32x8x128x128, .f32⟩
  | 60 => ⟨S32x128x8x128, .f32⟩
  | 61 => ⟨S1x128x8x1, .f32⟩
  | 62 => ⟨S32x128x8x128, .f32⟩
  | 63 => ⟨S32x128x8x128, .f32⟩
  | 64 => ⟨S32x128x8x128, .f32⟩
  | 65 => ⟨S1x8x1x1, .f32⟩
  | 66 => ⟨S32x8x128x128, .f32⟩
  | 67 => ⟨S32x8x128x128, .f32⟩
  | 68 => ⟨S1x128x8x1, .f32⟩
  | 69 => ⟨S32x128x8x128, .f32⟩
  | 70 => ⟨S32x128x8x128, .f32⟩
  | 71 => ⟨S32x8x128x128, .f32⟩
  | 72 => ⟨S32x8x128x128, .f32⟩
  | 73 => ⟨S32x128x8x128, .f32⟩
  | 74 => ⟨S32x128x8x128, .f32⟩
  | 75 => ⟨S32x128x8x128, .f32⟩
  | 76 => ⟨S32x8x128x128, .f32⟩
  | 77 => ⟨S1x8x128x128, .f32⟩
  | 78 => ⟨S32x8x128x128, .f32⟩
  | 79 => ⟨S32x8x128x128, .f32⟩
  | 80 => ⟨S32x8x128x128, .f32⟩
  | 81 => ⟨S32x128x8x128, .f32⟩
  | 82 => ⟨S32x8x128x128, .f32⟩
  | 83 => ⟨S32x128x8x128, .f32⟩
  | 84 => ⟨S1x128x8x1, .f32⟩
  | 85 => ⟨S32x128x8x128, .f32⟩
  | 86 => ⟨S32x128x8x128, .f32⟩
  | 87 => ⟨S32x128x8x128, .f32⟩
  | 88 => ⟨S1x8x1x1, .f32⟩
  | 89 => ⟨S32x8x128x128, .f32⟩
  | 90 => ⟨S32x8x128x128, .f32⟩
  | 91 => ⟨S1x128x8x1, .f32⟩
  | 92 => ⟨S32x128x8x128, .f32⟩
  | 93 => ⟨S32x128x8x128, .f32⟩
  | 94 => ⟨S32x8x128x128, .f32⟩
  | 95 => ⟨S32x8x128x128, .f32⟩
  | 96 => ⟨S32x256x8x128, .f32⟩
  | 97 => ⟨S32x256x8x128, .f32⟩
  | 98 => ⟨S32x256x8x128, .f32⟩
  | 99 => ⟨S_, .f32⟩
  | 100 => ⟨S32x256x8, .f32⟩
  | 101 => ⟨S32x256x8x1, .f32⟩
  | 102 => ⟨S_, .f32⟩
  | 103 => ⟨S32x256x8x1, .f32⟩
  | 104 => ⟨S32x256x8x1, .f32⟩
  | 105 => ⟨S32x256x8x128, .f32⟩
  | 106 => ⟨S32x256x8x128, .f32⟩
  | 107 => ⟨S32x256x8x128, .f32⟩
  | 108 => ⟨S_, .f32⟩
  | 109 => ⟨S32x256x8, .f32⟩
  | 110 => ⟨S32x256x8x1, .f32⟩
  | 111 => ⟨S_, .f32⟩
  | 112 => ⟨S32x256x8x1, .f32⟩
  | 113 => ⟨S32x256x8x1, .f32⟩
  | 114 => ⟨S32x256x8x128, .f32⟩
  | 115 => ⟨S32x256x8x128, .f32⟩
  | 116 => ⟨S_, .f32⟩
  | 117 => ⟨S32x256x8x1, .f32⟩
  | 118 => ⟨S32x256x8x1, .f32⟩
  | 119 => ⟨S32x256x8x1, .f32⟩
  | 120 => ⟨S32x256x8x128, .f32⟩
  | 121 => ⟨S32x256x8x128, .f32⟩
  | 122 => ⟨S32x256x1024, .f32⟩
  | 123 => ⟨S1x1x1024, .f32⟩
  | 124 => ⟨S32x256x1024, .f32⟩
  | 125 => ⟨S32x256x1024, .f32⟩
  | 126 => ⟨S32x256x1024, .f32⟩
  | 127 => ⟨S8192x1024, .f32⟩
  | _ => ⟨S8192x11264, .bf16⟩

abbrev hbmTy0_2 (i : Nat) : BufTy := match i % 128 with
  | 0 => ⟨S8192x1024, .bf16⟩
  | 1 => ⟨S32x1x8x128x128, .f32⟩
  | 2 => ⟨S32x1x8x128x128, .f32⟩
  | 3 => ⟨S32x2x8x128x128, .f32⟩
  | _ => ⟨S8192x11264, .bf16⟩

abbrev hbmTy (i : Nat) : BufTy := match i / 128 with
  | 0 => hbmTy0_0 i
  | 1 => hbmTy0_1 i
  | 2 => hbmTy0_2 i
  | _ => ⟨S8192x11264, .bf16⟩

abbrev bufTy : (tb : Table) → Fin (tcTables nBuf tb) → BufTy
  | .hbm, ⟨i, _⟩ => hbmTy i
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_cst_9 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_cst_10 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_cst_11 : Ref sig .tc := ⟨.hbm, 151, rfl⟩
abbrev main_call1_v0 : Ref sig .tc := ⟨.hbm, 152, rfl⟩
abbrev main_call1_v1 : Ref sig .tc := ⟨.hbm, 153, rfl⟩
abbrev main_call1_v2 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_cst_12 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_cst_13 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_cst_14 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_cst_15 : Ref sig .tc := ⟨.hbm, 227, rfl⟩
abbrev main_v202 : Ref sig .tc := ⟨.hbm, 228, rfl⟩
abbrev main_v203 : Ref sig .tc := ⟨.hbm, 229, rfl⟩
abbrev main_cst_16 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_cst_17 : Ref sig .tc := ⟨.hbm, 236, rfl⟩
abbrev main_v209 : Ref sig .tc := ⟨.hbm, 237, rfl⟩
abbrev main_v210 : Ref sig .tc := ⟨.hbm, 238, rfl⟩
abbrev main_cst_18 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_cst_19 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩

abbrev nD : Nat := 1
abbrev τ : Topo := Topo.v7x

variable {F : FTy → Type} [FloatOps F]
-- ==== Ffn.lean ====
abbrev S8192x2048 : Shape := ⟨2, ![8192, 2048]⟩
abbrev S1x1x2048 : Shape := ⟨3, ![1, 1, 2048]⟩
abbrev S2048 : Shape := ⟨1, ![2048]⟩
abbrev S2048x11264 : Shape := ⟨2, ![2048, 11264]⟩
abbrev S3x11264 : Shape := ⟨2, ![3, 11264]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S3x512 : Shape := ⟨2, ![3, 512]⟩
abbrev S512x2048 : Shape := ⟨2, ![512, 2048]⟩
abbrev S2x1024x512 : Shape := ⟨3, ![2, 1024, 512]⟩
abbrev S_ : Shape := ⟨0, ![]⟩
abbrev S1024x512 : Shape := ⟨2, ![1024, 512]⟩
abbrev S1x512 : Shape := ⟨2, ![1, 512]⟩
abbrev S1x1024x512 : Shape := ⟨3, ![1, 1024, 512]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x1x2048, .f32⟩
  | .hbm, ⟨3, _⟩ => ⟨S2048, .f32⟩
  | .hbm, ⟨4, _⟩ => ⟨S2048x11264, .bf16⟩
  | .hbm, ⟨5, _⟩ => ⟨S3x11264, .f32⟩
  | .hbm, ⟨6, _⟩ => ⟨S5632x2048, .bf16⟩
  | .hbm, ⟨7, _⟩ => ⟨S1x2048, .f32⟩
  | .hbm, ⟨8, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048, .f32⟩
  | .local _ .vmem, ⟨3, _⟩ => ⟨S1x1x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S512x2048, .bf16⟩
  | .local _ .vmem, ⟨14, _⟩ => ⟨S512x2048, .bf16⟩
  | .local _ .vmem, ⟨15, _⟩ => ⟨S1024x2048, .f32⟩
  | .local _ .vmem, ⟨16, _⟩ => ⟨S1024x2048, .f32⟩
  | .local _ .vmem, ⟨17, _⟩ => ⟨S2x1024x512, .bf16⟩
  | .local _ .vmem, ⟨18, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c1024_i32 : BitVec 32 := 1024#32
  let v14 : BitVec 32 := Scalar.muli arg0 c1024_i32
  let c0_i32_6 : BitVec 32 := 0#32
  ![v14.toNat, 0]
def k0_cond3 (i : grid0.Coords) : BitVec 1 :=
  let arg1 : BitVec 32 := BitVec.ofNat 32 (i 1).val
  let c1_i32_2 : BitVec 32 := 1#32
  let v6 : BitVec 1 := Scalar.cmpi .sgt arg1 c1_i32_2
  let c11_i32 : BitVec 32 := 11#32
  let v7 : BitVec 1 := Scalar.cmpi .slt arg1 c11_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off2 (i : grid0.Coords) : Fin 3 → Nat :=
  let c1_i32_12 : BitVec 32 := 1#32
  let arg1 : BitVec 32 := BitVec.ofNat 32 (i 1).val
  let c2_i32 : BitVec 32 := 2#32
  let c0_i32_6 : BitVec 32 := 0#32
  let v14 : BitVec 1 := Scalar.cmpi .eq c2_i32 c0_i32_6
  let c1_i32_7 : BitVec 32 := 1#32
  let v15 : BitVec 32 := Scalar.select v14 c1_i32_7 c2_i32
  let v16 : BitVec 32 := Scalar.remsi arg1 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let v26 : BitVec 32 := Scalar.subi c1_i32_12 v23
  let v27 : Index := Scalar.indexCast v26
  let c0_13 : Index := 0#32
  let c0_14 : Index := 0#32
  ![v27.toNat, 0, 0]
def k0_off3 (i : grid0.Coords) : Fin 3 → Nat :=
  let arg1 : BitVec 32 := BitVec.ofNat 32 (i 1).val
  let c2_i32 : BitVec 32 := 2#32
  let c0_i32_6 : BitVec 32 := 0#32
  let v14 : BitVec 1 := Scalar.cmpi .eq c2_i32 c0_i32_6
  let c1_i32_7 : BitVec 32 := 1#32
  let v15 : BitVec 32 := Scalar.select v14 c1_i32_7 c2_i32
  let v16 : BitVec 32 := Scalar.remsi arg1 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let v109 : Index := Scalar.indexCast v23
  let c0_47 : Index := 0#32
  let c0_48 : Index := 0#32
  ![v109.toNat, 0, 0]
def k0_cond4 (i : grid0.Coords) : BitVec 1 :=
  let arg1 : BitVec 32 := BitVec.ofNat 32 (i 1).val
  let c11_i32_4 : BitVec 32 := 11#32
  let v11 : BitVec 1 := Scalar.cmpi .eq arg1 c11_i32_4
  let v12 : BitVec 32 := Scalar.extui v11
  let c0_i32_5 : BitVec 32 := 0#32
  let v13 : BitVec 1 := Scalar.cmpi .ne v12 c0_i32_5
  v13

def k0_off4 (i : grid0.Coords) : Fin 2 → Nat :=
  let arg0 : BitVec 32 := BitVec.ofNat 32 (i 0).val
  let c1024_i32 : BitVec 32 := 1024#32
  let v14 : BitVec 32 := Scalar.muli arg0 c1024_i32
  let c0_i32_6 : BitVec 32 := 0#32
  ![v14.toNat, 0]
def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnIdeal.lean ====
variable {F : FTy → Type} [FloatOps F] [Named F]
def κ : String → Option EReal := fun
  | "c2" => some ((80338380498831 / 2251799813685248 : ℝ) : EReal)
  | _ => none
-- ==== FfnRefIdeal.lean ====
abbrev S8192x2048 : Shape := ⟨2, ![8192, 2048]⟩
abbrev S1x1x2048 : Shape := ⟨3, ![1, 1, 2048]⟩
abbrev S2048 : Shape := ⟨1, ![2048]⟩
abbrev S2048x11264 : Shape := ⟨2, ![2048, 11264]⟩
abbrev S3x11264 : Shape := ⟨2, ![3, 11264]⟩
abbrev S5632x2048 : Shape := ⟨2, ![5632, 2048]⟩
abbrev S32x256x2048 : Shape := ⟨3, ![32, 256, 2048]⟩
abbrev S32x256x11264 : Shape := ⟨3, ![32, 256, 11264]⟩
abbrev S_ : Shape := ⟨0, ![]⟩
abbrev S32x258x11264 : Shape := ⟨3, ![32, 258, 11264]⟩
abbrev S1x11264 : Shape := ⟨2, ![1, 11264]⟩
abbrev S11264 : Shape := ⟨1, ![11264]⟩
abbrev S1x1x11264 : Shape := ⟨3, ![1, 1, 11264]⟩
abbrev S32x256x5632 : Shape := ⟨3, ![32, 256, 5632]⟩
abbrev S32x256 : Shape := ⟨2, ![32, 256]⟩
abbrev S32x256x1 : Shape := ⟨3, ![32, 256, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x1x2048, .f32⟩
  | .hbm, ⟨3, _⟩ => ⟨S2048, .f32⟩
  | .hbm, ⟨4, _⟩ => ⟨S2048x11264, .bf16⟩
  | .hbm, ⟨5, _⟩ => ⟨S3x11264, .f32⟩
  | .hbm, ⟨6, _⟩ => ⟨S5632x2048, .bf16⟩
  | .hbm, ⟨7, _⟩ => ⟨S32x256x2048, .f32⟩
  | .hbm, ⟨8, _⟩ => ⟨S8192x2048, .f32⟩
  | .hbm, ⟨9, _⟩ => ⟨S32x256x2048, .f32⟩
  | .hbm, ⟨10, _⟩ => ⟨S2048x11264, .f32⟩
  | .hbm, ⟨11, _⟩ => ⟨S32x256x11264, .f32⟩
  | .hbm, ⟨12, _⟩ => ⟨S_, .i32⟩
  | .hbm, ⟨13, _⟩ => ⟨S_, .f32⟩
  | .hbm, ⟨14, _⟩ => ⟨S32x258x11264, .f32⟩
  | .hbm, ⟨15, _⟩ => ⟨S32x256x11264, .f32⟩
  | .hbm, ⟨16, _⟩ => ⟨S1x11264, .f32⟩
  | .hbm, ⟨17, _⟩ => ⟨S11264, .f32⟩
  | .hbm, ⟨18, _⟩ => ⟨S1x1x11264, .f32⟩
  | .hbm, ⟨19, _⟩ => ⟨S32x256x11264, .f32⟩
  | .hbm, ⟨20, _⟩ => ⟨S32x256x11264, .f32⟩
  | .hbm, ⟨21, _⟩ => ⟨S32x256x11264, .f32⟩
  | .hbm, ⟨22, _⟩ => ⟨S1x11264, .f32⟩
  | .hbm, ⟨23, _⟩ => ⟨S11264, .f32⟩
  | .hbm, ⟨24, _⟩ => ⟨S1x1x11264, .f32⟩
  | .hbm, ⟨25, _⟩ => ⟨S32x256x11264, .f32⟩
  | .hbm, ⟨26, _⟩ => ⟨S32x256x11264, .f32⟩
  | .hbm, ⟨27, _⟩ => ⟨S32x256x11264, .f32⟩
  | .hbm, ⟨28, _⟩ => ⟨S32x256x11264, .f32⟩
  | .hbm, ⟨29, _⟩ => ⟨S1x11264, .f32⟩
  | .hbm, ⟨30, _⟩ => ⟨S11264, .f32⟩
  | .hbm, ⟨31, _⟩ => ⟨S1x1x11264, .f32⟩
  | .hbm, ⟨32, _⟩ => ⟨S32x256x11264, .f32⟩
  | .hbm, ⟨33, _⟩ => ⟨S32x256x11264, .f32⟩
  | .hbm, ⟨34, _⟩ => ⟨S32x256x11264, .f32⟩
  | .hbm, ⟨35, _⟩ => ⟨S32x256x5632, .f32⟩
  | .hbm, ⟨36, _⟩ => ⟨S32x256x5632, .f32⟩
  | .hbm, ⟨37, _⟩ => ⟨S32x256x5632, .f32⟩
  | .hbm, ⟨38, _⟩ => ⟨S32x256x5632, .f32⟩
  | .hbm, ⟨39, _⟩ => ⟨S_, .f32⟩
  | .hbm, ⟨40, _⟩ => ⟨S32x256x5632, .f32⟩
  | .hbm, ⟨41, _⟩ => ⟨S32x256x5632, .f32⟩
  | .hbm, ⟨42, _⟩ => ⟨S32x256x5632, .f32⟩
  | .hbm, ⟨43, _⟩ => ⟨S_, .f32⟩
  | .hbm, ⟨44, _⟩ => ⟨S32x256x5632, .f32⟩
  | .hbm, ⟨45, _⟩ => ⟨S32x256x5632, .f32⟩
  | .hbm, ⟨46, _⟩ => ⟨S32x256x5632, .f32⟩
  | .hbm, ⟨47, _⟩ => ⟨S_, .f32⟩
  | .hbm, ⟨48, _⟩ => ⟨S32x256x5632, .f32⟩
  | .hbm, ⟨49, _⟩ => ⟨S32x256x5632, .f32⟩
  | .hbm, ⟨50, _⟩ => ⟨S_, .f32⟩
  | .hbm, ⟨51, _⟩ => ⟨S32x256x5632, .f32⟩
  | .hbm, ⟨52, _⟩ => ⟨S32x256x5632, .f32⟩
  | .hbm, ⟨53, _⟩ => ⟨S32x256x5632, .f32⟩
  | .hbm, ⟨54, _⟩ => ⟨S32x256x5632, .f32⟩
  | .hbm, ⟨55, _⟩ => ⟨S5632x2048, .f32⟩
  | .hbm, ⟨56, _⟩ => ⟨S32x256x2048, .f32⟩
  | .hbm, ⟨57, _⟩ => ⟨S32x256x2048, .f32⟩
  | .hbm, ⟨58, _⟩ => ⟨S_, .f32⟩
  | .hbm, ⟨59, _⟩ => ⟨S32x256, .f32⟩
  | .hbm, ⟨60, _⟩ => ⟨S32x256x1, .f32⟩
  | .hbm, ⟨61, _⟩ => ⟨S_, .f32⟩
  | .hbm, ⟨62, _⟩ => ⟨S32x256x1, .f32⟩
  | .hbm, ⟨63, _⟩ => ⟨S32x256x1, .f32⟩
  | .hbm, ⟨64, _⟩ => ⟨S_, .f32⟩
  | .hbm, ⟨65, _⟩ => ⟨S32x256x1, .f32⟩
  | .hbm, ⟨66, _⟩ => ⟨S32x256x1, .f32⟩
  | .hbm, ⟨67, _⟩ => ⟨S32x256x1, .f32⟩
  | .hbm, ⟨68, _⟩ => ⟨S32x256x2048, .f32⟩
  | .hbm, ⟨69, _⟩ => ⟨S32x256x2048, .f32⟩
  | .hbm, ⟨70, _⟩ => ⟨S1x1x2048, .f32⟩
  | .hbm, ⟨71, _⟩ => ⟨S32x256x2048, .f32⟩
  | .hbm, ⟨72, _⟩ => ⟨S32x256x2048, .f32⟩
  | .hbm, ⟨73, _⟩ => ⟨S32x256x2048, .f32⟩
  | .hbm, ⟨74, _⟩ => ⟨S32x256x2048, .f32⟩
  | .hbm, ⟨75, _⟩ => ⟨S32x256x2048, .f32⟩
  | .hbm, ⟨76, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Merge.lean ====
abbrev S8192x11264 : Shape := ⟨2, ![8192, 11264]⟩
abbrev S8192x1024 : Shape := ⟨2, ![8192, 1024]⟩
abbrev S8192x2048 : Shape := ⟨2, ![8192, 2048]⟩
abbrev S1024x2048 : Shape := ⟨2, ![1024, 2048]⟩
abbrev S2048x2048 : Shape := ⟨2, ![2048, 2048]⟩
abbrev S2048 : Shape := ⟨1, ![2048]⟩
abbrev S1x1x2048 : Shape := ⟨3, ![1, 1, 2048]⟩
abbrev S1x2048 : Shape := ⟨2, ![1, 2048]⟩
abbrev S512x1024 : Shape := ⟨2, ![512, 1024]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 29
  | .smem => 0
  | _ => 0

abbrev bufTy : (tb : Table) → Fin (tcTables nBuf tb) → BufTy
  | .hbm, ⟨0, _⟩ => ⟨S8192x11264, .bf16⟩
  | .hbm, ⟨1, _⟩ => ⟨S8192x1024, .bf16⟩
  | .hbm, ⟨2, _⟩ => ⟨S8192x1024, .bf16⟩
  | .hbm, ⟨3, _⟩ => ⟨S8192x2048, .f32⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S2048, .f32⟩
  | .hbm, ⟨8, _⟩ => ⟨S1x1x2048, .f32⟩
  | .hbm, ⟨9, _⟩ => ⟨S2048, .f32⟩
  | .hbm, ⟨10, _⟩ => ⟨S1x1x2048, .f32⟩
  | .hbm, ⟨11, _⟩ => ⟨S1x1x2048, .f32⟩
  | .hbm, ⟨12, _⟩ => ⟨S1x2048, .f32⟩
  | .hbm, ⟨13, _⟩ => ⟨S1x2048, .f32⟩
  | .hbm, ⟨14, _⟩ => ⟨S8192x2048, .f32⟩
  | .hbm, ⟨15, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .f32⟩
  | .local _ .vmem, ⟨13, _⟩ => ⟨S512x2048, .f32⟩
  | .local _ .vmem, ⟨14, _⟩ => ⟨S1024x2048, .bf16⟩
  | .local _ .vmem, ⟨15, _⟩ => ⟨S1024x2048, .bf16⟩
  | .local _ .vmem, ⟨16, _⟩ => ⟨S2048x2048, .bf16⟩
  | .local _ .vmem, ⟨17, _⟩ => ⟨S1x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x2048, .f32⟩
  | .local _ .vmem, ⟨21, _⟩ => ⟨S1x1x2048, .f32⟩
  | .local _ .vmem, ⟨22, _⟩ => ⟨S1x1x2048, .f32⟩
  | .local _ .vmem, ⟨23, _⟩ => ⟨S1x1x2048, .f32⟩
  | .local _ .vmem, ⟨24, _⟩ => ⟨S1x1x2048, .f32⟩
  | .local _ .vmem, ⟨25, _⟩ => ⟨S512x2048, .f32⟩
  | .local _ .vmem, ⟨26, _⟩ => ⟨S512x2048, .f32⟩
  | .local _ .vmem, ⟨27, _⟩ => ⟨S512x2048, .bf16⟩
  | .local _ .vmem, ⟨28, _⟩ => ⟨S512x2048, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_14 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S8192x11264 : Shape := ⟨2, ![8192, 11264]⟩
abbrev S8192x1024 : Shape := ⟨2, ![8192, 1024]⟩
abbrev S8192x2048 : Shape := ⟨2, ![8192, 2048]⟩
abbrev S1024x2048 : Shape := ⟨2, ![1024, 2048]⟩
abbrev S2048x2048 : Shape := ⟨2, ![2048, 2048]⟩
abbrev S2048 : Shape := ⟨1, ![2048]⟩
abbrev S1x1x2048 : Shape := ⟨3, ![1, 1, 2048]⟩
abbrev S32x256x11264 : Shape := ⟨3, ![32, 256, 11264]⟩
abbrev S32x256x1024 : Shape := ⟨3, ![32, 256, 1024]⟩
abbrev S32x256x2048 : Shape := ⟨3, ![32, 256, 2048]⟩
abbrev S32x256x4096 : Shape := ⟨3, ![32, 256, 4096]⟩
abbrev S_ : Shape := ⟨0, ![]⟩
abbrev S32x256 : Shape := ⟨2, ![32, 256]⟩
abbrev S32x256x1 : Shape := ⟨3, ![32, 256, 1]⟩

abbrev nBuf : Space → Nat
  | .hbm => 76
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S8192x1024, .bf16⟩
  | .hbm, ⟨2, _⟩ => ⟨S8192x1024, .bf16⟩
  | .hbm, ⟨3, _⟩ => ⟨S8192x2048, .f32⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S2048, .f32⟩
  | .hbm, ⟨8, _⟩ => ⟨S1x1x2048, .f32⟩
  | .hbm, ⟨9, _⟩ => ⟨S2048, .f32⟩
  | .hbm, ⟨10, _⟩ => ⟨S1x1x2048, .f32⟩
  | .hbm, ⟨11, _⟩ => ⟨S1x1x2048, .f32⟩
  | .hbm, ⟨12, _⟩ => ⟨S32x256x11264, .bf16⟩
  | .hbm, ⟨13, _⟩ => ⟨S32x256x1024, .bf16⟩
  | .hbm, ⟨14, _⟩ => ⟨S32x256x1024, .bf16⟩
  | .hbm, ⟨15, _⟩ => ⟨S32x256x2048, .f32⟩
  | .hbm, ⟨16, _⟩ => ⟨S32x256x4096, .bf16⟩
  | .hbm, ⟨17, _⟩ => ⟨S32x256x4096, .f32⟩
  | .hbm, ⟨18, _⟩ => ⟨S32x256x2048, .f32⟩
  | .hbm, ⟨19, _⟩ => ⟨S32x256x2048, .f32⟩
  | .hbm, ⟨20, _⟩ => ⟨S32x256x1024, .f32⟩
  | .hbm, ⟨21, _⟩ => ⟨S1024x2048, .f32⟩
  | .hbm, ⟨22, _⟩ => ⟨S32x256x2048, .f32⟩
  | .hbm, ⟨23, _⟩ => ⟨S32x256x2048, .f32⟩
  | .hbm, ⟨24, _⟩ => ⟨S32x256x1024, .f32⟩
  | .hbm, ⟨25, _⟩ => ⟨S1024x2048, .f32⟩
  | .hbm, ⟨26, _⟩ => ⟨S32x256x2048, .f32⟩
  | .hbm, ⟨27, _⟩ => ⟨S32x256x2048, .f32⟩
  | .hbm, ⟨28, _⟩ => ⟨S32x256x2048, .f32⟩
  | .hbm, ⟨29, _⟩ => ⟨S2048x2048, .f32⟩
  | .hbm, ⟨30, _⟩ => ⟨S32x256x2048, .f32⟩
  | .hbm, ⟨31, _⟩ => ⟨S32x256x2048, .f32⟩
  | .hbm, ⟨32, _⟩ => ⟨S_, .f32⟩
  | .hbm, ⟨33, _⟩ => ⟨S32x256, .f32⟩
  | .hbm, ⟨34, _⟩ => ⟨S32x256x1, .f32⟩
  | .hbm, ⟨35, _⟩ => ⟨S_, .f32⟩
  | .hbm, ⟨36, _⟩ => ⟨S32x256x1, .f32⟩
  | .hbm, ⟨37, _⟩ => ⟨S32x256x1, .f32⟩
  | .hbm, ⟨38, _⟩ => ⟨S_, .f32⟩
  | .hbm, ⟨39, _⟩ => ⟨S32x256x1, .f32⟩
  | .hbm, ⟨40, _⟩ => ⟨S32x256x1, .f32⟩
  | .hbm, ⟨41, _⟩ => ⟨S32x256x1, .f32⟩
  | .hbm, ⟨42, _⟩ => ⟨S32x256x2048, .f32⟩
  | .hbm, ⟨43, _⟩ => ⟨S32x256x2048, .f32⟩
  | .hbm, ⟨44, _⟩ => ⟨S1x1x2048, .f32⟩
  | .hbm, ⟨45, _⟩ => ⟨S32x256x2048, .f32⟩
  | .hbm, ⟨46, _⟩ => ⟨S32x256x2048, .f32⟩
  | .hbm, ⟨47, _⟩ => ⟨S32x256x2048, .f32⟩
  | .hbm, ⟨48, _⟩ => ⟨S32x256x2048, .f32⟩
  | .hbm, ⟨49, _⟩ => ⟨S32x256x2048, .f32⟩
  | .hbm, ⟨50, _⟩ => ⟨S32x256x2048, .f32⟩
  | .hbm, ⟨51, _⟩ => ⟨S_, .f32⟩
  | .hbm, ⟨52, _⟩ => ⟨S32x256, .f32⟩
  | .hbm, ⟨53, _⟩ => ⟨S32x256x1, .f32⟩
  | .hbm, ⟨54, _⟩ => ⟨S_, .f32⟩
  | .hbm, ⟨55, _⟩ => ⟨S32x256x1, .f32⟩
  | .hbm, ⟨56, _⟩ => ⟨S32x256x1, .f32⟩
  | .hbm, ⟨57, _⟩ => ⟨S_, .f32⟩
  | .hbm, ⟨58, _⟩ => ⟨S32x256x1, .f32⟩
  | .hbm, ⟨59, _⟩ => ⟨S32x256x1, .f32⟩
  | .hbm, ⟨60, _⟩ => ⟨S32x256x1, .f32⟩
  | .hbm, ⟨61, _⟩ => ⟨S32x256x2048, .f32⟩
  | .hbm, ⟨62, _⟩ => ⟨S32x256x2048, .f32⟩
  | .hbm, ⟨63, _⟩ => ⟨S1x1x2048, .f32⟩
  | .hbm, ⟨64, _⟩ => ⟨S32x256x2048, .f32⟩
  | .hbm, ⟨65, _⟩ => ⟨S32x256x2048, .f32⟩
  | .hbm, ⟨66, _⟩ => ⟨S_, .f32⟩
  | .hbm, ⟨67, _⟩ => ⟨S1x1x2048, .f32⟩
  | .hbm, ⟨68, _⟩ => ⟨S1x1x2048, .f32⟩
  | .hbm, ⟨69, _⟩ => ⟨S32x256x2048, .f32⟩
  | .hbm, ⟨70, _⟩ => ⟨S32x256x2048, .f32⟩
  | .hbm, ⟨71, _⟩ => ⟨S32x256x2048, .f32⟩
  | .hbm, ⟨72, _⟩ => ⟨S32x256x2048, .f32⟩
  | .hbm, ⟨73, _⟩ => ⟨S8192x2048, .f32⟩
  | .hbm, ⟨74, _⟩ => ⟨S32x256x2048, .bf16⟩
  | .hbm, ⟨75, _⟩ => ⟨S8192x2048, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Proof.FfnRuns.lean ====
module

public import proofs.«01_k».proof.Proof.Gen.FfnIdeal.Frame
public import proofs.«01_k».proof.Proof.Gen.FfnIdeal.Skeleton

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resources of the run: the pipeline's own, and the tokens of transfers in flight. -/
local notation "𝕄" => MT nD τ sig Unit (Elt F) ℕ (Pipeline.UD sig nD τ) ℕ

/-- The cell the residual block's transfer completes on. -/
abbrev dsem : DmaSem sig := ⟨17, by decide⟩

/-! ## The cases of a point: where in its group of twelve it lies -/

theorem cond1_iff : ∀ t : Fin cfg0.N, k0_cond1 (grid0.coords t) = 1#1 ↔ t.val % 12 = 0 :=
  (by decide +kernel : ∀ t : Fin grid0.N, k0_cond1 (grid0.coords t) = 1#1 ↔ t.val % 12 = 0)

theorem cond2_iff : ∀ t : Fin cfg0.N, k0_cond2 (grid0.coords t) = 1#1 ↔ t.val % 12 = 1 :=
  (by decide +kernel : ∀ t : Fin grid0.N, k0_cond2 (grid0.coords t) = 1#1 ↔ t.val % 12 = 1)

theorem cond3_iff : ∀ t : Fin cfg0.N, k0_cond3 (grid0.coords t) = 1#1 ↔ 1 < t.val % 12 ∧ t.val % 12 < 11 :=
  (by decide +kernel : ∀ t : Fin grid0.N, k0_cond3 (grid0.coords t) = 1#1 ↔ 1 < t.val % 12 ∧ t.val % 12 < 11)

theorem cond4_iff : ∀ t : Fin cfg0.N, k0_cond4 (grid0.coords t) = 1#1 ↔ t.val % 12 = 11 :=
  (by decide +kernel : ∀ t : Fin grid0.N, k0_cond4 (grid0.coords t) = 1#1 ↔ t.val % 12 = 11)

set_option maxHeartbeats 1000000 in
/-- The first point of a group: the block of the residual input starts on its way, and the first up projection goes into slot 0. -/
noncomputable def runA (c : Dev nD) (i : grid0.Coords) (arg2 : Memref sig .tc .hbm S8192x2048 .f32) (harg2 : arg2.IsWhole) (arg3 : Memref sig .tc .vmem S1024x2048 .bf16) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S512x2048 .bf16) (harg10 : arg10.IsWhole) (arg11 : Memref sig .tc .vmem S1024x2048 .f32) (harg11 : arg11.IsWhole) (arg12 : Memref sig .tc .vmem S2x1024x512 .bf16) (harg12 : arg12.IsWhole) (arg13 : Memref sig .tc .vmem S1024x2048 .f32) (harg13 : arg13.IsWhole) (h1 : k0_cond1 i = 1#1) (h2 : ¬k0_cond2 i = 1#1) (h3 : ¬k0_cond3 i = 1#1) (h4 : ¬k0_cond4 i = 1#1)
    (x0 : Vec F S1024x2048 .bf16) (x1 : Vec F S1x1x2048 .f32) (x2 : Vec F S1x2048 .f32) (x3 : Vec F S2048x512 .bf16) (x4 : Vec F S2048x512 .bf16) (x5 : Vec F S3x512 .f32) (x6 : Vec F S3x512 .f32) (x7 : Vec F S512x2048 .bf16) (xs : Vec F S2x1024x512 .bf16) (xr : Vec F S1024x2048 .f32) (V2 : Buf (Elt F) (arg2.view.loc (c : Thread nD τ))) :
    { LS : List (View.Piece (Elt F) S2x1024x512 .bf16) //
      ∀ (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg12 fullShare xs ∗ owns (c : Thread nD τ) arg13 fullShare xr ∗ (arg2.view.loc (c : Thread nD τ) ↦[Finset.univ]{fullShare} V2) ∗ semVal ((c : Thread nD τ), SemLoc.dma dsem) 0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (arg12.view.loc (c : Thread nD τ) ↦[arg12.view.set]{fullShare} arg12.view.writes (Elt F) (harg12.unread xs) LS) ∗ (∃ g, ⌜arg13.view.read (Elt F) g = (arg2.slice (Rect.unit (s := S8192x2048) (k0_off1 i) S1024x2048.size (k0_off1_inb i h1)) (fun _ => rfl)).view.read (Elt F) V2⌝ ∗ Transfers.Flight (countersEmb (U := Pipeline.UD sig nD τ)) (c : Thread nD τ) (.dma dsem) () 262144 iprop((arg13.view.loc (c : Thread nD τ) ↦[arg13.view.set]{fullShare} g) ∗ (arg2.view.loc (c : Thread nD τ) ↦[(arg2.slice (Rect.unit (s := S8192x2048) (k0_off1 i) S1024x2048.size (k0_off1_inb i h1)) (fun _ => rfl)).view.set]{fullShare} V2))) ∗ (arg2.view.loc (c : Thread nD τ) ↦[Finset.univ \ (arg2.slice (Rect.unit (s := S8192x2048) (k0_off1 i) S1024x2048.size (k0_off1_inb i h1)) (fun _ => rfl)).view.set]{fullShare} V2)) -∗ K ⟨⟩))
          ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 cc0_scratch2) K } := by
  refine ⟨?_, fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, ⟨%fr, %hfr, HR⟩, HX, Hsem, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs
    obtain rfl := harg13.eq_unread hfr
    sl_exec (disch := first | sl_exact h1 | sl_exact h2 | sl_exact h3 | sl_exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS]; · iexact HS
    isplitl [Hsem]
    · iexists _; isplitr; swap; · iexact Hsem
      ipureintro; exact (View.read_writes_whole _ _ _).trans rfl
    iexact HX

set_option maxHeartbeats 1000000 in
/-- The second point: the output starts with the first down product, and the next up projection goes into slot 1. -/
noncomputable def runB (c : Dev nD) (i : grid0.Coords) (arg2 : Memref sig .tc .hbm S8192x2048 .f32) (harg2 : arg2.IsWhole) (arg3 : Memref sig .tc .vmem S1024x2048 .bf16) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S512x2048 .bf16) (harg10 : arg10.IsWhole) (arg11 : Memref sig .tc .vmem S1024x2048 .f32) (harg11 : arg11.IsWhole) (arg12 : Memref sig .tc .vmem S2x1024x512 .bf16) (harg12 : arg12.IsWhole) (arg13 : Memref sig .tc .vmem S1024x2048 .f32) (harg13 : arg13.IsWhole) (h1 : ¬k0_cond1 i = 1#1) (h2 : k0_cond2 i = 1#1) (h3 : ¬k0_cond3 i = 1#1) (h4 : ¬k0_cond4 i = 1#1)
    (x0 : Vec F S1024x2048 .bf16) (x1 : Vec F S1x1x2048 .f32) (x2 : Vec F S1x2048 .f32) (x3 : Vec F S2048x512 .bf16) (x4 : Vec F S2048x512 .bf16) (x5 : Vec F S3x512 .f32) (x6 : Vec F S3x512 .f32) (x7 : Vec F S512x2048 .bf16) (xs : Vec F S2x1024x512 .bf16) :
    Σ' (L8 : List (View.Piece (Elt F) S1024x2048 .f32)), { LS : List (View.Piece (Elt F) S2x1024x512 .bf16) //
      ∀ (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (arg12.view.loc (c : Thread nD τ) ↦[arg12.view.set]{fullShare} arg12.view.writes (Elt F) (harg12.unread xs) LS)) -∗ K ⟨⟩))
          ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 cc0_scratch2) K } := by
  refine ⟨?_, ?_, fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs
    sl_exec (disch := first | sl_exact h1 | sl_exact h2 | sl_exact h3 | sl_exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexact HS

set_option maxHeartbeats 1000000 in
/-- A point from the third to the eleventh: the output gains a down product, and the slot of the point parity is rewritten. -/
noncomputable def runC (c : Dev nD) (i : grid0.Coords) (arg2 : Memref sig .tc .hbm S8192x2048 .f32) (harg2 : arg2.IsWhole) (arg3 : Memref sig .tc .vmem S1024x2048 .bf16) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S512x2048 .bf16) (harg10 : arg10.IsWhole) (arg11 : Memref sig .tc .vmem S1024x2048 .f32) (harg11 : arg11.IsWhole) (arg12 : Memref sig .tc .vmem S2x1024x512 .bf16) (harg12 : arg12.IsWhole) (arg13 : Memref sig .tc .vmem S1024x2048 .f32) (harg13 : arg13.IsWhole) (h1 : ¬k0_cond1 i = 1#1) (h2 : ¬k0_cond2 i = 1#1) (h3 : k0_cond3 i = 1#1) (h4 : ¬k0_cond4 i = 1#1)
    (x0 : Vec F S1024x2048 .bf16) (x1 : Vec F S1x1x2048 .f32) (x2 : Vec F S1x2048 .f32) (x3 : Vec F S2048x512 .bf16) (x4 : Vec F S2048x512 .bf16) (x5 : Vec F S3x512 .f32) (x6 : Vec F S3x512 .f32) (x7 : Vec F S512x2048 .bf16) (xs : Vec F S2x1024x512 .bf16) (x8 : Vec F S1024x2048 .f32) :
    Σ' (L8 : List (View.Piece (Elt F) S1024x2048 .f32)), { LS : List (View.Piece (Elt F) S2x1024x512 .bf16) //
      ∀ (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (arg12.view.loc (c : Thread nD τ) ↦[arg12.view.set]{fullShare} arg12.view.writes (Elt F) (harg12.unread xs) LS)) -∗ K ⟨⟩))
          ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 cc0_scratch2) K } := by
  refine ⟨?_, ?_, fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs
    sl_exec (disch := first | sl_exact h1 | sl_exact h2 | sl_exact h3 | sl_exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexact HS

set_option maxHeartbeats 1000000 in
/-- The last point of a group: the residual block has arrived, and the output is finished in two halves. -/
noncomputable def runD (c : Dev nD) (i : grid0.Coords) (arg2 : Memref sig .tc .hbm S8192x2048 .f32) (harg2 : arg2.IsWhole) (arg3 : Memref sig .tc .vmem S1024x2048 .bf16) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S512x2048 .bf16) (harg10 : arg10.IsWhole) (arg11 : Memref sig .tc .vmem S1024x2048 .f32) (harg11 : arg11.IsWhole) (arg12 : Memref sig .tc .vmem S2x1024x512 .bf16) (harg12 : arg12.IsWhole) (arg13 : Memref sig .tc .vmem S1024x2048 .f32) (harg13 : arg13.IsWhole) (h1 : ¬k0_cond1 i = 1#1) (h2 : ¬k0_cond2 i = 1#1) (h3 : ¬k0_cond3 i = 1#1) (h4 : k0_cond4 i = 1#1)
    (x0 : Vec F S1024x2048 .bf16) (x1 : Vec F S1x1x2048 .f32) (x2 : Vec F S1x2048 .f32) (x3 : Vec F S2048x512 .bf16) (x4 : Vec F S2048x512 .bf16) (x5 : Vec F S3x512 .f32) (x6 : Vec F S3x512 .f32) (x7 : Vec F S512x2048 .bf16) (xs : Vec F S2x1024x512 .bf16) (x8 : Vec F S1024x2048 .f32) (xr : Vec F S1024x2048 .f32) (V2 : Buf (Elt F) (arg2.view.loc (c : Thread nD τ))) (I : Finset (Idx (arg2.view.loc (c : Thread nD τ)))) (W : Waits sig Unit) :
    { L8 : List (View.Piece (Elt F) S1024x2048 .f32) //
      ∀ (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xs ∗ Transfers.Flight (countersEmb (U := Pipeline.UD sig nD τ)) (c : Thread nD τ) (.dma dsem) () 262144 iprop((arg13.view.loc (c : Thread nD τ) ↦[arg13.view.set]{fullShare} harg13.unread xr) ∗ (arg2.view.loc (c : Thread nD τ) ↦[I]{fullShare} V2)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ owns (c : Thread nD τ) arg12 fullShare xs ∗ owns (c : Thread nD τ) arg13 fullShare xr ∗ (arg2.view.loc (c : Thread nD τ) ↦[I]{fullShare} V2) ∗ semVal ((c : Thread nD τ), SemLoc.dma dsem) 0 ∗ (∃ W, owes (c : Thread nD τ) 0 W)) -∗ K ⟨⟩))
          ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 cc0_scratch2) K } := by
  refine ⟨?_, fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, HF, HO, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs
    sl_exec (disch := first | sl_exact h1 | sl_exact h2 | sl_exact h3 | sl_exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS]
    · iexists _; isplitr; · ipureintro; exact harg12.read_unread _
      iexact HS
    isplitl [HF_dst]
    · iexists _; isplitr; · ipureintro; exact harg13.read_unread _
      iexact HF_dst
    isplitl [HF_src]; · iexact HF_src
    isplitl [HF]; · iexact HF
    iexists _; iexact HO

end Cert.FfnIdeal.Hand

end
-- ==== Proof.FfnVals.lean ====
module

public import proofs.«01_k».proof.Proof.FfnRuns
public import Idealize.ShloMosaic.Lib.Pipeline.Value
public import Idealize.ShloMosaic.Lib.Pipeline.ValueKit
public import Idealize.ShloMosaic.Lib.VecWindow

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resources of the run: the pipeline's own, and the tokens of transfers in flight. -/
local notation "𝕄" => MT nD τ sig Unit (Elt F) ℕ (Pipeline.UD sig nD τ) ℕ

/-! ## What a point computes, of its blocks -/

/-- The up projection of a point: both halves, convolved, the activation of one times the other. -/
def up (x0 : Vec F S1024x2048 .bf16) (x3 x4 : Vec F S2048x512 .bf16) (x5 x6 : Vec F S3x512 .f32) : FVec F S1x1024x512 .bf16 :=
  k0_pay1 k0_pay6 k0_pay7 x0 (k0_pay8 x0 x3) x5 (k0_pay9 x0 x3) (k0_pay10 x0 x3 x5) (k0_pay11 x5) x4 x6

/-- The slot `k` of the scratch holds `u`. -/
def InSlot (k : ℕ) (xs : Vec F S2x1024x512 .bf16) (u : FVec F S1x1024x512 .bf16) : Prop :=
  ∀ (off : Fin 3 → ℕ) (inb : ∀ a, off a + S1x1024x512.size a ≤ S2x1024x512.size a), off = ![k, 0, 0] →
    View.ld xs (Rect.unit (s := S2x1024x512) off S1x1024x512.size inb) = u

/-- A store into a slot puts its payload there. -/
theorem inSlot_writes (v : View sig .tc .vmem S2x1024x512 .bf16) (f : v.ty.Contents (Elt F)) (k : ℕ) (off : Fin 3 → ℕ)
    (inb : ∀ a, off a + S1x1024x512.size a ≤ S2x1024x512.size a) (h : off = ![k, 0, 0]) (u : FVec F S1x1024x512 .bf16)
    (L : List (View.Piece (Elt F) S2x1024x512 .bf16)) :
    InSlot k (v.read (Elt F) (v.writes (Elt F) f (⟨Rect.unit (s := S2x1024x512) off S1x1024x512.size inb, u⟩ :: L))) u := by
  intro off' inb' h'
  obtain rfl : off' = off := h'.trans h.symm
  have key : ∀ (X : Vec F S2x1024x512 .bf16) (r : Rect S2x1024x512) (x : r.shape.Idx), View.ld X r x = X (r.emb x) := fun _ _ _ => rfl
  funext x
  rw [key]
  exact View.read_writes_cons_emb v f (Rect.unit (s := S2x1024x512) off' S1x1024x512.size inb) u L x

/-- The rows from `o` on of what a slot holds. -/
theorem InSlot.rows {xs : Vec F S2x1024x512 .bf16} {u : FVec F S1x1024x512 .bf16} (h : InSlot 0 xs u) (o : ℕ)
    (inb : ∀ a, (![0, o, 0] : Fin 3 → ℕ) a + S1x512x512.size a ≤ S2x1024x512.size a) (inb' : ∀ a, (![0, o, 0] : Fin 3 → ℕ) a + S1x512x512.size a ≤ S1x1024x512.size a) :
    View.ld xs (Rect.unit (s := S2x1024x512) ![0, o, 0] S1x512x512.size inb) = View.ld u (Rect.unit (s := S1x1024x512) ![0, o, 0] S1x512x512.size inb') := by
  have e := h ![0, 0, 0] inb_S2x1024x512_S1x1024x512_0_0_0 rfl
  funext x
  rw [← e]
  refine View.ld_unit_apply_of _ _ _ _ _ _ fun a => ?_
  refine (Rect.idx_unit_val _ _ _ _ a).trans ?_
  have e2 := Rect.idx_unit_val (s := S1x1024x512) ![0, o, 0] S1x512x512.size inb' x a
  refine (congrArg _ e2).trans ?_
  match a with
  | ⟨0, _⟩ => exact (Nat.zero_add _)
  | ⟨1, _⟩ => exact (Nat.zero_add _)
  | ⟨2, _⟩ => exact (Nat.zero_add _)

theorem inb_lo : ∀ a, (![0, 0, 0] : Fin 3 → ℕ) a + S1x512x512.size a ≤ S1x1024x512.size a := by decide
theorem inb_hi : ∀ a, (![0, 512, 0] : Fin 3 → ℕ) a + S1x512x512.size a ≤ S1x1024x512.size a := by decide

/-- The upper half of the finished output: the last down product added, normalized, scaled, and added to the residual. -/
def finLo (x8 : Vec F S1024x2048 .f32) (u : FVec F S1x1024x512 .bf16) (x7 : Vec F S512x2048 .bf16) (xr : Vec F S1024x2048 .f32) (x1 : Vec F S1x1x2048 .f32) (x2 : Vec F S1x2048 .f32) : FVec F S512x2048 .f32 :=
  k0_pay28 (View.ld x8 (Rect.unit (s := S1024x2048) ![0, 0] S512x2048.size inb_S1024x2048_S512x2048_0_0))
    (View.ld u (Rect.unit (s := S1x1024x512) ![0, 0, 0] S1x512x512.size inb_lo)) x7
    (View.ld xr (Rect.unit (s := S1024x2048) ![0, 0] S512x2048.size inb_S1024x2048_S512x2048_0_0)) x1 x2

/-- The lower half. -/
def finHi (x8 : Vec F S1024x2048 .f32) (u : FVec F S1x1024x512 .bf16) (x7 : Vec F S512x2048 .bf16) (xr : Vec F S1024x2048 .f32) (x1 : Vec F S1x1x2048 .f32) (x2 : Vec F S1x2048 .f32) : FVec F S512x2048 .f32 :=
  k0_pay4 (k0_pay29 (View.ld x8 (Rect.unit (s := S1024x2048) ![512, 0] S512x2048.size inb_S1024x2048_S512x2048_512_0)))
    (View.ld u (Rect.unit (s := S1x1024x512) ![0, 512, 0] S1x512x512.size inb_hi)) x7
    (View.ld xr (Rect.unit (s := S1024x2048) ![512, 0] S512x2048.size inb_S1024x2048_S512x2048_512_0)) x1 x2

/-- The two halves as stored. -/
def finPieces (x8 : Vec F S1024x2048 .f32) (u : FVec F S1x1024x512 .bf16) (x7 : Vec F S512x2048 .bf16) (xr : Vec F S1024x2048 .f32) (x1 : Vec F S1x1x2048 .f32) (x2 : Vec F S1x2048 .f32) : List (View.Piece (Elt F) S1024x2048 .f32) :=
  [⟨Rect.unit (s := S1024x2048) ![512, 0] S512x2048.size inb_S1024x2048_S512x2048_512_0, finHi x8 u x7 xr x1 x2⟩,
   ⟨Rect.unit (s := S1024x2048) ![0, 0] S512x2048.size inb_S1024x2048_S512x2048_0_0, finLo x8 u x7 xr x1 x2⟩]

theorem finPieces_cover (x8 : Vec F S1024x2048 .f32) (u : FVec F S1x1024x512 .bf16) (x7 : Vec F S512x2048 .bf16) (xr : Vec F S1024x2048 .f32) (x1 : Vec F S1x1x2048 .f32) (x2 : Vec F S1x2048 .f32) (y : S1024x2048.Idx) :
    ∃ p ∈ finPieces x8 u x7 xr x1 x2, y ∈ p.1.set :=
  View.cover_of_tiledL (finPieces x8 u x7 xr x1 x2) S512x2048.size (by sl_kernel_rfl) y

/-- The finished output. -/
def fin (x8 : Vec F S1024x2048 .f32) (u : FVec F S1x1024x512 .bf16) (x7 : Vec F S512x2048 .bf16) (xr : Vec F S1024x2048 .f32) (x1 : Vec F S1x1x2048 .f32) (x2 : Vec F S1x2048 .f32) : Vec F S1024x2048 .f32 :=
  View.canon (finPieces x8 u x7 xr x1 x2)

/-! ## What the runs leave is that -/

theorem ld_full {s : Shape} {e : EltTy} (X : Vec F s e) (off : Fin s.rank → ℕ) (inb : ∀ a, off a + s.size a ≤ s.size a) : View.ld X (Rect.unit (s := s) off s.size inb) = X :=
  View.ld_unit_zero (funext fun a => by have := inb a; omega) inb X

theorem runA_slot (c : Dev nD) (i : grid0.Coords) (arg2 : Memref sig .tc .hbm S8192x2048 .f32) (harg2 : arg2.IsWhole) (arg3 : Memref sig .tc .vmem S1024x2048 .bf16) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S512x2048 .bf16) (harg10 : arg10.IsWhole) (arg11 : Memref sig .tc .vmem S1024x2048 .f32) (harg11 : arg11.IsWhole) (arg12 : Memref sig .tc .vmem S2x1024x512 .bf16) (harg12 : arg12.IsWhole) (arg13 : Memref sig .tc .vmem S1024x2048 .f32) (harg13 : arg13.IsWhole) (h1 : k0_cond1 i = 1#1) (h2 : ¬k0_cond2 i = 1#1) (h3 : ¬k0_cond3 i = 1#1) (h4 : ¬k0_cond4 i = 1#1)
    (x0 : Vec F S1024x2048 .bf16) (x1 : Vec F S1x1x2048 .f32) (x2 : Vec F S1x2048 .f32) (x3 : Vec F S2048x512 .bf16) (x4 : Vec F S2048x512 .bf16) (x5 : Vec F S3x512 .f32) (x6 : Vec F S3x512 .f32) (x7 : Vec F S512x2048 .bf16) (xs : Vec F S2x1024x512 .bf16) (xr : Vec F S1024x2048 .f32) (V2 : Buf (Elt F) (arg2.view.loc (c : Thread nD τ))) :
    InSlot 0 (arg12.view.read (Elt F) (arg12.view.writes (Elt F) (harg12.unread xs) (runA c i arg2 harg2 arg3 harg3 arg4 harg4 arg5 harg5 arg6 harg6 arg7 harg7 arg8 harg8 arg9 harg9 arg10 harg10 arg11 harg11 arg12 harg12 arg13 harg13 h1 h2 h3 h4 x0 x1 x2 x3 x4 x5 x6 x7 xs xr V2).1)) (up x0 x3 x4 x5 x6) := by
  have e : (runA c i arg2 harg2 arg3 harg3 arg4 harg4 arg5 harg5 arg6 harg6 arg7 harg7 arg8 harg8 arg9 harg9 arg10 harg10 arg11 harg11 arg12 harg12 arg13 harg13 h1 h2 h3 h4 x0 x1 x2 x3 x4 x5 x6 x7 xs xr V2).1 = [⟨Rect.unit (s := S2x1024x512) ![0, 0, 0] S1x1024x512.size inb_S2x1024x512_S1x1024x512_0_0_0, (up x0 x3 x4 x5 x6)⟩] := by
    unfold runA
    dsimp only
    sl_unfold_words
    simp only [View.readAt_eq_ld, Memref.IsWhole.read_unread]
    rw [ld_full x0 ![0, 0] inb_S1024x2048_S1024x2048_0_0, ld_full x3 ![0, 0] inb_S2048x512_S2048x512_0_0, ld_full x4 ![0, 0] inb_S2048x512_S2048x512_0_0, ld_full x5 ![0, 0] inb_S3x512_S3x512_0_0, ld_full x6 ![0, 0] inb_S3x512_S3x512_0_0]
    rfl
  rw [e]
  exact inSlot_writes arg12.view _ _ _ _ rfl _ []

theorem runB_slot (c : Dev nD) (i : grid0.Coords) (arg2 : Memref sig .tc .hbm S8192x2048 .f32) (harg2 : arg2.IsWhole) (arg3 : Memref sig .tc .vmem S1024x2048 .bf16) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S512x2048 .bf16) (harg10 : arg10.IsWhole) (arg11 : Memref sig .tc .vmem S1024x2048 .f32) (harg11 : arg11.IsWhole) (arg12 : Memref sig .tc .vmem S2x1024x512 .bf16) (harg12 : arg12.IsWhole) (arg13 : Memref sig .tc .vmem S1024x2048 .f32) (harg13 : arg13.IsWhole) (h1 : ¬k0_cond1 i = 1#1) (h2 : k0_cond2 i = 1#1) (h3 : ¬k0_cond3 i = 1#1) (h4 : ¬k0_cond4 i = 1#1)
    (x0 : Vec F S1024x2048 .bf16) (x1 : Vec F S1x1x2048 .f32) (x2 : Vec F S1x2048 .f32) (x3 : Vec F S2048x512 .bf16) (x4 : Vec F S2048x512 .bf16) (x5 : Vec F S3x512 .f32) (x6 : Vec F S3x512 .f32) (x7 : Vec F S512x2048 .bf16) (xs : Vec F S2x1024x512 .bf16) :
    InSlot 1 (arg12.view.read (Elt F) (arg12.view.writes (Elt F) (harg12.unread xs) (runB c i arg2 harg2 arg3 harg3 arg4 harg4 arg5 harg5 arg6 harg6 arg7 harg7 arg8 harg8 arg9 harg9 arg10 harg10 arg11 harg11 arg12 harg12 arg13 harg13 h1 h2 h3 h4 x0 x1 x2 x3 x4 x5 x6 x7 xs).2.1)) (up x0 x3 x4 x5 x6) := by
  have e : (runB c i arg2 harg2 arg3 harg3 arg4 harg4 arg5 harg5 arg6 harg6 arg7 harg7 arg8 harg8 arg9 harg9 arg10 harg10 arg11 harg11 arg12 harg12 arg13 harg13 h1 h2 h3 h4 x0 x1 x2 x3 x4 x5 x6 x7 xs).2.1 = [⟨Rect.unit (s := S2x1024x512) ![1, 0, 0] S1x1024x512.size inb_S2x1024x512_S1x1024x512_1_0_0, (up x0 x3 x4 x5 x6)⟩] := by
    unfold runB
    dsimp only
    sl_unfold_words
    simp only [View.readAt_eq_ld, Memref.IsWhole.read_unread]
    rw [ld_full x0 ![0, 0] inb_S1024x2048_S1024x2048_0_0, ld_full x3 ![0, 0] inb_S2048x512_S2048x512_0_0, ld_full x4 ![0, 0] inb_S2048x512_S2048x512_0_0, ld_full x5 ![0, 0] inb_S3x512_S3x512_0_0, ld_full x6 ![0, 0] inb_S3x512_S3x512_0_0]
    rfl
  rw [e]
  exact inSlot_writes arg12.view _ _ _ _ rfl _ []

theorem runC_slot (c : Dev nD) (i : grid0.Coords) (arg2 : Memref sig .tc .hbm S8192x2048 .f32) (harg2 : arg2.IsWhole) (arg3 : Memref sig .tc .vmem S1024x2048 .bf16) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S512x2048 .bf16) (harg10 : arg10.IsWhole) (arg11 : Memref sig .tc .vmem S1024x2048 .f32) (harg11 : arg11.IsWhole) (arg12 : Memref sig .tc .vmem S2x1024x512 .bf16) (harg12 : arg12.IsWhole) (arg13 : Memref sig .tc .vmem S1024x2048 .f32) (harg13 : arg13.IsWhole) (h1 : ¬k0_cond1 i = 1#1) (h2 : ¬k0_cond2 i = 1#1) (h3 : k0_cond3 i = 1#1) (h4 : ¬k0_cond4 i = 1#1)
    (x0 : Vec F S1024x2048 .bf16) (x1 : Vec F S1x1x2048 .f32) (x2 : Vec F S1x2048 .f32) (x3 : Vec F S2048x512 .bf16) (x4 : Vec F S2048x512 .bf16) (x5 : Vec F S3x512 .f32) (x6 : Vec F S3x512 .f32) (x7 : Vec F S512x2048 .bf16) (xs : Vec F S2x1024x512 .bf16) (x8 : Vec F S1024x2048 .f32) (k : ℕ) (hoff3 : k0_off3 i = ![k, 0, 0]) :
    InSlot k (arg12.view.read (Elt F) (arg12.view.writes (Elt F) (harg12.unread xs) (runC c i arg2 harg2 arg3 harg3 arg4 harg4 arg5 harg5 arg6 harg6 arg7 harg7 arg8 harg8 arg9 harg9 arg10 harg10 arg11 harg11 arg12 harg12 arg13 harg13 h1 h2 h3 h4 x0 x1 x2 x3 x4 x5 x6 x7 xs x8).2.1)) (up x0 x3 x4 x5 x6) := by
  have e : (runC c i arg2 harg2 arg3 harg3 arg4 harg4 arg5 harg5 arg6 harg6 arg7 harg7 arg8 harg8 arg9 harg9 arg10 harg10 arg11 harg11 arg12 harg12 arg13 harg13 h1 h2 h3 h4 x0 x1 x2 x3 x4 x5 x6 x7 xs x8).2.1 = [⟨Rect.unit (s := S2x1024x512) (k0_off3 i) S1x1024x512.size (k0_off3_inb i h3), (up x0 x3 x4 x5 x6)⟩] := by
    unfold runC
    dsimp only
    sl_unfold_words
    simp only [View.readAt_eq_ld, Memref.IsWhole.read_unread]
    rw [ld_full x0 ![0, 0] inb_S1024x2048_S1024x2048_0_0, ld_full x3 ![0, 0] inb_S2048x512_S2048x512_0_0, ld_full x4 ![0, 0] inb_S2048x512_S2048x512_0_0, ld_full x5 ![0, 0] inb_S3x512_S3x512_0_0, ld_full x6 ![0, 0] inb_S3x512_S3x512_0_0]
    rfl
  rw [e]
  exact inSlot_writes arg12.view _ _ _ _ hoff3 _ []

theorem runB_out (c : Dev nD) (i : grid0.Coords) (arg2 : Memref sig .tc .hbm S8192x2048 .f32) (harg2 : arg2.IsWhole) (arg3 : Memref sig .tc .vmem S1024x2048 .bf16) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S512x2048 .bf16) (harg10 : arg10.IsWhole) (arg11 : Memref sig .tc .vmem S1024x2048 .f32) (harg11 : arg11.IsWhole) (arg12 : Memref sig .tc .vmem S2x1024x512 .bf16) (harg12 : arg12.IsWhole) (arg13 : Memref sig .tc .vmem S1024x2048 .f32) (harg13 : arg13.IsWhole) (h1 : ¬k0_cond1 i = 1#1) (h2 : k0_cond2 i = 1#1) (h3 : ¬k0_cond3 i = 1#1) (h4 : ¬k0_cond4 i = 1#1)
    (x0 : Vec F S1024x2048 .bf16) (x1 : Vec F S1x1x2048 .f32) (x2 : Vec F S1x2048 .f32) (x3 : Vec F S2048x512 .bf16) (x4 : Vec F S2048x512 .bf16) (x5 : Vec F S3x512 .f32) (x6 : Vec F S3x512 .f32) (x7 : Vec F S512x2048 .bf16) (xs : Vec F S2x1024x512 .bf16) (u : FVec F S1x1024x512 .bf16) (hu : InSlot 0 xs u) (f : arg11.view.ty.Contents (Elt F)) :
    arg11.view.read (Elt F) (arg11.view.writes (Elt F) f (runB c i arg2 harg2 arg3 harg3 arg4 harg4 arg5 harg5 arg6 harg6 arg7 harg7 arg8 harg8 arg9 harg9 arg10 harg10 arg11 harg11 arg12 harg12 arg13 harg13 h1 h2 h3 h4 x0 x1 x2 x3 x4 x5 x6 x7 xs).1) = k0_pay12 u x7 := by
  unfold runB
  dsimp only
  sl_unfold_words
  simp only [View.readAt_eq_ld, Memref.IsWhole.read_unread]
  refine (View.read_writes_full arg11.view f _ _ _).trans ?_
  rw [hu _ _ rfl, ld_full x7 ![0, 0] inb_S512x2048_S512x2048_0_0]

theorem runC_out (c : Dev nD) (i : grid0.Coords) (arg2 : Memref sig .tc .hbm S8192x2048 .f32) (harg2 : arg2.IsWhole) (arg3 : Memref sig .tc .vmem S1024x2048 .bf16) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S512x2048 .bf16) (harg10 : arg10.IsWhole) (arg11 : Memref sig .tc .vmem S1024x2048 .f32) (harg11 : arg11.IsWhole) (arg12 : Memref sig .tc .vmem S2x1024x512 .bf16) (harg12 : arg12.IsWhole) (arg13 : Memref sig .tc .vmem S1024x2048 .f32) (harg13 : arg13.IsWhole) (h1 : ¬k0_cond1 i = 1#1) (h2 : ¬k0_cond2 i = 1#1) (h3 : k0_cond3 i = 1#1) (h4 : ¬k0_cond4 i = 1#1)
    (x0 : Vec F S1024x2048 .bf16) (x1 : Vec F S1x1x2048 .f32) (x2 : Vec F S1x2048 .f32) (x3 : Vec F S2048x512 .bf16) (x4 : Vec F S2048x512 .bf16) (x5 : Vec F S3x512 .f32) (x6 : Vec F S3x512 .f32) (x7 : Vec F S512x2048 .bf16) (xs : Vec F S2x1024x512 .bf16) (x8 : Vec F S1024x2048 .f32) (u : FVec F S1x1024x512 .bf16) (k : ℕ) (hu : InSlot k xs u) (hoff2 : k0_off2 i = ![k, 0, 0]) (f : arg11.view.ty.Contents (Elt F)) :
    arg11.view.read (Elt F) (arg11.view.writes (Elt F) f (runC c i arg2 harg2 arg3 harg3 arg4 harg4 arg5 harg5 arg6 harg6 arg7 harg7 arg8 harg8 arg9 harg9 arg10 harg10 arg11 harg11 arg12 harg12 arg13 harg13 h1 h2 h3 h4 x0 x1 x2 x3 x4 x5 x6 x7 xs x8).1) = k0_pay19 x8 u x7 := by
  have e : (runC c i arg2 harg2 arg3 harg3 arg4 harg4 arg5 harg5 arg6 harg6 arg7 harg7 arg8 harg8 arg9 harg9 arg10 harg10 arg11 harg11 arg12 harg12 arg13 harg13 h1 h2 h3 h4 x0 x1 x2 x3 x4 x5 x6 x7 xs x8).1 = [⟨Rect.unit (s := S1024x2048) ![0, 0] S1024x2048.size inb_S1024x2048_S1024x2048_0_0,
      k0_pay19 (View.ld (arg11.view.read (Elt F) (harg11.unread x8)) (Rect.unit (s := S1024x2048) ![0, 0] S1024x2048.size inb_S1024x2048_S1024x2048_0_0))
        (View.ld (arg12.view.read (Elt F) (harg12.unread xs)) (Rect.unit (s := S2x1024x512) (k0_off2 i) S1x1024x512.size (k0_off2_inb i h3)))
        (View.ld (arg10.view.read (Elt F) (harg10.unread x7)) (Rect.unit (s := S512x2048) ![0, 0] S512x2048.size inb_S512x2048_S512x2048_0_0))⟩] := rfl
  rw [e]
  refine (View.read_writes_full arg11.view f _ _ _).trans ?_
  rw [harg11.read_unread, harg12.read_unread, harg10.read_unread, hu _ _ hoff2, ld_full x7 ![0, 0] inb_S512x2048_S512x2048_0_0, ld_full x8 ![0, 0] inb_S1024x2048_S1024x2048_0_0]

theorem runD_out (c : Dev nD) (i : grid0.Coords) (arg2 : Memref sig .tc .hbm S8192x2048 .f32) (harg2 : arg2.IsWhole) (arg3 : Memref sig .tc .vmem S1024x2048 .bf16) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S512x2048 .bf16) (harg10 : arg10.IsWhole) (arg11 : Memref sig .tc .vmem S1024x2048 .f32) (harg11 : arg11.IsWhole) (arg12 : Memref sig .tc .vmem S2x1024x512 .bf16) (harg12 : arg12.IsWhole) (arg13 : Memref sig .tc .vmem S1024x2048 .f32) (harg13 : arg13.IsWhole) (h1 : ¬k0_cond1 i = 1#1) (h2 : ¬k0_cond2 i = 1#1) (h3 : ¬k0_cond3 i = 1#1) (h4 : k0_cond4 i = 1#1)
    (x0 : Vec F S1024x2048 .bf16) (x1 : Vec F S1x1x2048 .f32) (x2 : Vec F S1x2048 .f32) (x3 : Vec F S2048x512 .bf16) (x4 : Vec F S2048x512 .bf16) (x5 : Vec F S3x512 .f32) (x6 : Vec F S3x512 .f32) (x7 : Vec F S512x2048 .bf16) (xs : Vec F S2x1024x512 .bf16) (x8 : Vec F S1024x2048 .f32) (xr : Vec F S1024x2048 .f32) (V2 : Buf (Elt F) (arg2.view.loc (c : Thread nD τ))) (I : Finset (Idx (arg2.view.loc (c : Thread nD τ)))) (W : Waits sig Unit) (u : FVec F S1x1024x512 .bf16) (hu : InSlot 0 xs u) (f : arg11.view.ty.Contents (Elt F)) :
    arg11.view.read (Elt F) (arg11.view.writes (Elt F) f (runD c i arg2 harg2 arg3 harg3 arg4 harg4 arg5 harg5 arg6 harg6 arg7 harg7 arg8 harg8 arg9 harg9 arg10 harg10 arg11 harg11 arg12 harg12 arg13 harg13 h1 h2 h3 h4 x0 x1 x2 x3 x4 x5 x6 x7 xs x8 xr V2 I W).1) = fin x8 u x7 xr x1 x2 := by
  have e : (runD c i arg2 harg2 arg3 harg3 arg4 harg4 arg5 harg5 arg6 harg6 arg7 harg7 arg8 harg8 arg9 harg9 arg10 harg10 arg11 harg11 arg12 harg12 arg13 harg13 h1 h2 h3 h4 x0 x1 x2 x3 x4 x5 x6 x7 xs x8 xr V2 I W).1 = finPieces x8 u x7 xr x1 x2 := by
    unfold runD
    dsimp only
    sl_unfold_words
    simp only [View.readAt_eq_ld, Memref.IsWhole.read_unread]
    rw [hu.rows 512 _ inb_hi, hu.rows 0 _ inb_lo, ld_full x7 ![0, 0] inb_S512x2048_S512x2048_0_0, ld_full x1 ![0, 0, 0] inb_S1x1x2048_S1x1x2048_0_0_0, ld_full x2 ![0, 0] inb_S1x2048_S1x2048_0_0]
    rfl
  rw [e]
  exact View.read_writes_eq_canon _ _ _ (finPieces_cover x8 u x7 xr x1 x2)

end Cert.FfnIdeal.Hand

end
-- ==== Proof.FfnFrame.lean ====
module

public import proofs.«01_k».proof.Proof.FfnVals

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resources of the run: the pipeline's own, and the tokens of transfers in flight. -/
local notation "𝕄" => MT nD τ sig Unit (Elt F) ℕ (Pipeline.UD sig nD τ) ℕ

variable (m : (ℓ : Loc nD τ sig) → Buf (Elt F) ℓ) (ρ : Dev nD → PrngReg)

/-! ## The invariant between the points -/

theorem off2_at : ∀ t : Fin cfg0.N, 1 < t.val % 12 ∧ t.val % 12 < 11 → k0_off2 (grid0.coords t) = ![(t.val - 1) % 12 % 2, 0, 0] :=
  (by decide +kernel : ∀ t : Fin grid0.N, 1 < t.val % 12 ∧ t.val % 12 < 11 → k0_off2 (grid0.coords t) = ![(t.val - 1) % 12 % 2, 0, 0])
theorem off3_at : ∀ t : Fin cfg0.N, 1 < t.val % 12 ∧ t.val % 12 < 11 → k0_off3 (grid0.coords t) = ![t.val % 12 % 2, 0, 0] :=
  (by decide +kernel : ∀ t : Fin grid0.N, 1 < t.val % 12 ∧ t.val % 12 < 11 → k0_off3 (grid0.coords t) = ![t.val % 12 % 2, 0, 0])

/-- The first point of `t`'s group of twelve. -/
def first (t : Fin cfg0.N) : Fin cfg0.N := ⟨12 * (t.val / 12), lt_of_le_of_lt (Nat.mul_div_le _ _) t.isLt⟩
/-- The point before `t`. -/
def prev (t : Fin cfg0.N) : Fin cfg0.N := ⟨t.val - 1, Nat.lt_of_le_of_lt (Nat.sub_le _ _) t.isLt⟩

theorem first_cond (t : Fin cfg0.N) : k0_cond1 (grid0.coords (first t)) = 1#1 := (cond1_iff _).mpr (by unfold first; simp)

/-- The block of the residual input that the transfer at point `t` brings. -/
def xres (c : Dev nD) (t : Fin cfg0.N) (h1 : k0_cond1 (grid0.coords t) = 1#1) : Vec F S1024x2048 .f32 :=
  ((Memref.whole main_arg0 : Memref sig .tc .hbm S8192x2048 .f32).slice (Rect.unit (s := S8192x2048) (k0_off1 (grid0.coords t)) S1024x2048.size (k0_off1_inb (grid0.coords t) h1)) (fun _ => rfl)).view.read (Elt F) (V m c main_arg0)
/-- The residual block of `t`'s group. -/
def xgrp (c : Dev nD) (t : Fin cfg0.N) : Vec F S1024x2048 .f32 := xres m c (first t) (first_cond t)

theorem xres_congr (c : Dev nD) {a b : Fin cfg0.N} (h : a = b) (ha : k0_cond1 (grid0.coords a) = 1#1) (hb : k0_cond1 (grid0.coords b) = 1#1) :
    xres m c a ha = xres m c b hb := by subst h; rfl
theorem xgrp_first (c : Dev nD) (t : Fin cfg0.N) (h : t.val % 12 = 0) (h1 : k0_cond1 (grid0.coords t) = 1#1) : xgrp m c t = xres m c t h1 :=
  xres_congr m c (Fin.ext (show 12 * (t.val / 12) = t.val by omega)) _ _
theorem xgrp_prev (c : Dev nD) (t : Fin cfg0.N) (h : t.val % 12 ≠ 0) : xgrp m c (prev t) = xgrp m c t :=
  xres_congr m c (Fin.ext (show 12 * ((t.val - 1) / 12) = 12 * (t.val / 12) by omega)) _ _

/-- The up projection, convolved and gated, of point `t`'s blocks. -/
def ups (c : Dev nD) (t : Fin cfg0.N) : FVec F S1x1024x512 .bf16 :=
  up (iblk m c 0 t) (iblk m c 3 t) (iblk m c 4 t) (iblk m c 5 t) (iblk m c 6 t)

/-- What the output buffer holds after point `n`, from the second point of a group on. -/
def acc (c : Dev nD) : (n : ℕ) → n < cfg0.N → Vec F S1024x2048 .f32
  | 0, h => k0_pay12 (ups m c ⟨0, h⟩) (iblk m c 7 ⟨0, h⟩)
  | n + 1, h =>
    if (n + 1) % 12 ≤ 1 then k0_pay12 (ups m c ⟨n, Nat.lt_of_succ_lt h⟩) (iblk m c 7 ⟨n + 1, h⟩)
    else if (n + 1) % 12 = 11 then
      fin (acc c n (Nat.lt_of_succ_lt h)) (ups m c ⟨n, Nat.lt_of_succ_lt h⟩) (iblk m c 7 ⟨n + 1, h⟩) (xgrp m c ⟨n + 1, h⟩) (iblk m c 1 ⟨n + 1, h⟩) (iblk m c 2 ⟨n + 1, h⟩)
    else k0_pay19 (acc c n (Nat.lt_of_succ_lt h)) (ups m c ⟨n, Nat.lt_of_succ_lt h⟩) (iblk m c 7 ⟨n + 1, h⟩)

theorem acc_B (c : Dev nD) (t : Fin cfg0.N) (h : t.val % 12 = 1) :
    acc m c t.val t.isLt = k0_pay12 (ups m c (prev t)) (iblk m c 7 t) := by
  obtain ⟨n, hn⟩ := t
  cases n with
  | zero => simp at h
  | succ n => exact if_pos (show (n + 1) % 12 ≤ 1 by have : (n + 1) % 12 = 1 := h; omega)
theorem acc_C (c : Dev nD) (t : Fin cfg0.N) (h : 1 < t.val % 12 ∧ t.val % 12 < 11) :
    acc m c t.val t.isLt = k0_pay19 (acc m c (prev t).val (prev t).isLt) (ups m c (prev t)) (iblk m c 7 t) := by
  obtain ⟨n, hn⟩ := t
  cases n with
  | zero => simp at h
  | succ n =>
    have h' : 1 < (n + 1) % 12 ∧ (n + 1) % 12 < 11 := h
    exact (if_neg (by omega)).trans (if_neg (by omega))
theorem acc_D (c : Dev nD) (t : Fin cfg0.N) (h : t.val % 12 = 11) :
    acc m c t.val t.isLt = fin (acc m c (prev t).val (prev t).isLt) (ups m c (prev t)) (iblk m c 7 t) (xgrp m c t) (iblk m c 1 t) (iblk m c 2 t) := by
  obtain ⟨n, hn⟩ := t
  cases n with
  | zero => simp at h
  | succ n =>
    have h' : (n + 1) % 12 = 11 := h
    exact (if_neg (by omega)).trans (if_pos h')

/-- The one cell the body's transfer uses, and the one array it reads. -/
abbrev osem0 : Fin 1 → SemLoc sig := fun _ => SemLoc.dma dsem
theorem ownSemFacts0 : Pipeline.OwnSemFacts spec0 osem0 := by decide
def H0 : Finset (Ref sig .tc) := {main_arg0}
theorem H0_sub : H0 ⊆ Pipeline.restRefs sig spec0 := by decide

theorem PhiD_eq (c : Dev nD) :
    (Pipeline.ΦD osem0 spec0 H0 (V m) c : sProp 𝕄)
      = iprop(((∃ d, owns (c : Thread nD τ) (Memref.whole cc0_scratch0 : Memref sig .tc .vmem S2x1024x512 .bf16) fullShare d) ∗ (∃ d, owns (c : Thread nD τ) (Memref.whole cc0_scratch1 : Memref sig .tc .vmem S1024x2048 .f32) fullShare d)) ∗ (∃ r, prngReg c r)
          ∗ semVal ((c : Thread nD τ), SemLoc.dma dsem) 0 ∗ ((Memref.whole main_arg0).view.loc (c : Thread nD τ) ↦[Finset.univ]{fullShare} V m c main_arg0)) := by
  rw [Pipeline.ΦD_eq, scopedRest0_eq, Pipeline.ownSems0_eq_of_list c osem0 [0] (by decide) (by decide),
    BI.bigSep_eq_bigSepL_of_eq [main_arg0] (by decide) (by decide)]
  simp only [owns_whole]; rfl

/-- Between two points of a group, `p` the one before: the slot of `p`'s parity holds its up projection, and the residual block is on its way. -/
def mid (c : Dev nD) (p : Fin cfg0.N) : sProp 𝕄 :=
  iprop((∃ d, ⌜InSlot (p.val % 12 % 2) d (ups m c p)⌝ ∗ owns (c : Thread nD τ) (Memref.whole cc0_scratch0 : Memref sig .tc .vmem S2x1024x512 .bf16) fullShare d) ∗ (∃ r, prngReg c r)
    ∗ (∃ I, Transfers.Flight (countersEmb (U := Pipeline.UD sig nD τ)) (c : Thread nD τ) (.dma dsem) () 262144
          iprop(((Memref.whole cc0_scratch1 : Memref sig .tc .vmem S1024x2048 .f32).view.loc (c : Thread nD τ) ↦[(Memref.whole cc0_scratch1 : Memref sig .tc .vmem S1024x2048 .f32).view.set]{fullShare} (Memref.isWhole_whole cc0_scratch1).unread (xgrp m c p)) ∗ ((Memref.whole main_arg0).view.loc (c : Thread nD τ) ↦[I]{fullShare} V m c main_arg0))
        ∗ ((Memref.whole main_arg0).view.loc (c : Thread nD τ) ↦[Finset.univ \ I]{fullShare} V m c main_arg0)))

def PhiS (c : Dev nD) (n : ℕ) (h : n ≤ cfg0.N) : sProp 𝕄 :=
  if h0 : n % 12 = 0 then Pipeline.ΦD osem0 spec0 H0 (V m) c
  else mid m c ⟨n - 1, by omega⟩

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => acc m c t.val t.isLt
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Phi_start (c : Dev nD) (t : Fin cfg0.N) (h : t.val % 12 = 0) : (dats m 0 c).Φ t.castSucc = Pipeline.ΦD osem0 spec0 H0 (V m) c := by
  dsimp only [dats]; exact dif_pos h
theorem Phi_mid (c : Dev nD) (t : Fin cfg0.N) (h : t.val % 12 ≠ 0) : (dats m 0 c).Φ t.castSucc = mid m c (prev t) := by
  dsimp only [dats]; exact dif_neg h
theorem Phi_next (c : Dev nD) (t : Fin cfg0.N) (h : t.val % 12 ≠ 11) : (dats m 0 c).Φ t.succ = mid m c t := by
  dsimp only [dats]; exact dif_neg (show ¬(t.val + 1) % 12 = 0 by omega)
theorem Phi_end (c : Dev nD) (t : Fin cfg0.N) (h : t.val % 12 = 11) : (dats m 0 c).Φ t.succ = Pipeline.ΦD osem0 spec0 H0 (V m) c := by
  dsimp only [dats]; exact dif_pos (show (t.val + 1) % 12 = 0 by omega)

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = acc m c t.val t.isLt := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

theorem idle_8 : ∀ t : Fin cfg0.N, cfg0.idle 8 (cfg0.grid.coords t) = true ↔ t.val % 12 = 0 :=
  (by decide +kernel : ∀ t : Fin grid0.N, idle0 8 (grid0.coords t) = true ↔ t.val % 12 = 0)
theorem live_8 (t : Fin cfg0.N) (h : t.val % 12 ≠ 0) : cfg0.idle 8 (cfg0.grid.coords t) = false :=
  Bool.eq_false_iff.mpr fun e => h ((idle_8 t).mp e)
theorem noflush_8 (t : Fin cfg0.N) (h : t.val % 12 ≠ 11) : (cfg0.win 8).flush t = false :=
  Bool.eq_false_iff.mpr fun e => h ((flush0_8 t).mp e)

/-- From the third point of a group on the output buffer holds what the point before left. -/
theorem before_8 (c : Dev nD) (t : Fin cfg0.N) (h : 1 < t.val % 12) (d) :
    (dats m 0 c).before 8 t d = acc m c (prev t).val (prev t).isLt := by
  rw [(dats m 0 c).before_of_pos 8 t (by omega) rfl d, show (⟨t.val - 1, Nat.lt_of_le_of_lt (Nat.sub_le _ _) t.isLt⟩ : Fin cfg0.N) = prev t from rfl,
    noflush_8 (prev t) (show (t.val - 1) % 12 ≠ 11 by omega), if_neg Bool.false_ne_true]
  unfold Dat.left
  rw [live_8 (prev t) (show (t.val - 1) % 12 ≠ 0 by omega)]
  show (dats m 0 c).kept 8 (prev t) d = _
  rw [← after_8]; rfl

theorem leaves_idle8 (c : Dev nD) (t : Fin cfg0.N) (h : t.val % 12 = 0) :
    (dats m 0 c).leavesExact 8 t = iprop(∃ d, owns (c : Thread nD τ) ((cfg0.win 8).stage (cfg0.slots t 8)) fullShare ((dats m 0 c).before 8 t d)) :=
  (dats m 0 c).leavesExact_idle 8 t ((idle_8 t).mpr h) (noflush_8 t (by omega))
theorem leaves_live8 (c : Dev nD) (t : Fin cfg0.N) (h : t.val % 12 ≠ 0) :
    (dats m 0 c).leavesExact 8 t = owns (c : Thread nD τ) ((cfg0.win 8).stage (cfg0.slots t 8)) fullShare (acc m c t.val t.isLt) := by
  unfold Dat.leavesExact; rw [live_8 t h, after_8]

def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t)
    ∗ owns (c : Thread nD τ) ((cfg0.win 7).stage (cfg0.slots t 7)) fullShare ((dats m 0 c).after 7 t)
    ∗ (dats m 0 c).leavesExact 8 t)

set_option maxHeartbeats 1000000 in
theorem sound_A (c : Dev nD) (t : Fin cfg0.N) (h : t.val % 12 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [after_0, after_1, after_2, after_3, after_4, after_5, after_6, after_7, Phi_start m c t h, Phi_next m c t (by omega), leaves_idle8 m c t h]
  rw [show (dats m 0 c).owesAt () t.succ = (dats m 0 c).owesAt () t.castSucc from rfl, PhiD_eq]
  unfold mid
  iintro ⟨⟨⟨⟨%xs, HS⟩, ⟨%xr, HR⟩⟩, Hg, Hsem, HX⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runA c (grid0.coords t) (Memref.whole main_arg0) (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) ((cond1_iff t).mpr h) (fun e => absurd ((cond2_iff t).mp e) (by omega)) (fun e => absurd ((cond3_iff t).mp e) (by omega)) (fun e => absurd ((cond4_iff t).mp e) (by omega)) (iblk m c 0 t) (iblk m c 1 t) (iblk m c 2 t) (iblk m c 3 t) (iblk m c 4 t) (iblk m c 5 t) (iblk m c 6 t) (iblk m c 7 t) xs xr (V m c main_arg0)).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  isplitl [HR]; · iexact HR
  isplitl [HX]; · iexact HX
  isplitl [Hsem]; · iexact Hsem
  iintro ⟨H0, H1, H2, H3, H4, H5, H6, H7, HS, ⟨%g, %hg, HF⟩, HX⟩
  obtain rfl := (Memref.isWhole_whole cc0_scratch1).eq_unread (hg.trans (xgrp_first m c t h ((cond1_iff t).mpr h)).symm)
  isplitl [HS Hg HF HX]
  · isplitl [HS]
    · iexists _; isplitr; swap
      · unfold owns; iexists _; isplitr; swap; · iexact HS
        ipureintro; rfl
      ipureintro; exact (congrArg (fun k => InSlot k _ _) (show t.val % 12 % 2 = 0 by rw [h])).mpr (runA_slot c (grid0.coords t) (Memref.whole main_arg0) (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) ((cond1_iff t).mpr h) (fun e => absurd ((cond2_iff t).mp e) (by omega)) (fun e => absurd ((cond3_iff t).mp e) (by omega)) (fun e => absurd ((cond4_iff t).mp e) (by omega)) (iblk m c 0 t) (iblk m c 1 t) (iblk m c 2 t) (iblk m c 3 t) (iblk m c 4 t) (iblk m c 5 t) (iblk m c 6 t) (iblk m c 7 t) xs xr (V m c main_arg0))
    isplitl [Hg]; · iexact Hg
    iexists _
    isplitl [HF]; · iexact HF
    iexact HX
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

set_option maxHeartbeats 1000000 in
theorem sound_B (c : Dev nD) (t : Fin cfg0.N) (h : t.val % 12 = 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [after_0, after_1, after_2, after_3, after_4, after_5, after_6, after_7, Phi_mid m c t (by omega), Phi_next m c t (by omega), leaves_live8 m c t (by omega)]
  rw [show (dats m 0 c).owesAt () t.succ = (dats m 0 c).owesAt () t.castSucc from rfl]
  unfold mid
  rw [xgrp_prev m c t (by omega)]
  iintro ⟨⟨⟨%xs, %hu, HS⟩, Hg, HF⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB c (grid0.coords t) (Memref.whole main_arg0) (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (fun e => absurd ((cond1_iff t).mp e) (by omega)) ((cond2_iff t).mpr h) (fun e => absurd ((cond3_iff t).mp e) (by omega)) (fun e => absurd ((cond4_iff t).mp e) (by omega)) (iblk m c 0 t) (iblk m c 1 t) (iblk m c 2 t) (iblk m c 3 t) (iblk m c 4 t) (iblk m c 5 t) (iblk m c 6 t) (iblk m c 7 t) xs).2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS]; · iexact HS
  iintro ⟨H0, H1, H2, H3, H4, H5, H6, H7, ⟨%f, H8⟩, HS⟩
  isplitl [HS Hg HF]
  · isplitl [HS]
    · iexists _; isplitr; swap
      · unfold owns; iexists _; isplitr; swap; · iexact HS
        ipureintro; rfl
      ipureintro; exact (congrArg (fun k => InSlot k _ _) (show t.val % 12 % 2 = 1 by rw [h])).mpr (runB_slot c (grid0.coords t) (Memref.whole main_arg0) (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (fun e => absurd ((cond1_iff t).mp e) (by omega)) ((cond2_iff t).mpr h) (fun e => absurd ((cond3_iff t).mp e) (by omega)) (fun e => absurd ((cond4_iff t).mp e) (by omega)) (iblk m c 0 t) (iblk m c 1 t) (iblk m c 2 t) (iblk m c 3 t) (iblk m c 4 t) (iblk m c 5 t) (iblk m c 6 t) (iblk m c 7 t) xs)
    isplitl [Hg]; · iexact Hg
    iexact HF
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr; swap; · iexact H8
  ipureintro; rw [acc_B m c t h]; exact runB_out c (grid0.coords t) (Memref.whole main_arg0) (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (fun e => absurd ((cond1_iff t).mp e) (by omega)) ((cond2_iff t).mpr h) (fun e => absurd ((cond3_iff t).mp e) (by omega)) (fun e => absurd ((cond4_iff t).mp e) (by omega)) (iblk m c 0 t) (iblk m c 1 t) (iblk m c 2 t) (iblk m c 3 t) (iblk m c 4 t) (iblk m c 5 t) (iblk m c 6 t) (iblk m c 7 t) xs (ups m c (prev t)) (show InSlot 0 xs (ups m c (prev t)) from by rw [show 0 = (prev t).val % 12 % 2 from (show 0 = (t.val - 1) % 12 % 2 by omega)]; exact hu) f

set_option maxHeartbeats 1000000 in
theorem sound_C (c : Dev nD) (t : Fin cfg0.N) (h : 1 < t.val % 12 ∧ t.val % 12 < 11) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [after_0, after_1, after_2, after_3, after_4, after_5, after_6, after_7, Phi_mid m c t (by omega), Phi_next m c t (by omega), leaves_live8 m c t (by omega)]
  rw [show (dats m 0 c).owesAt () t.succ = (dats m 0 c).owesAt () t.castSucc from rfl]
  unfold mid
  rw [xgrp_prev m c t (by omega)]
  iintro ⟨⟨⟨%xs, %hu, HS⟩, Hg, HF⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runC c (grid0.coords t) (Memref.whole main_arg0) (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (fun e => absurd ((cond1_iff t).mp e) (by omega)) (fun e => absurd ((cond2_iff t).mp e) (by omega)) ((cond3_iff t).mpr h) (fun e => absurd ((cond4_iff t).mp e) (by omega)) (iblk m c 0 t) (iblk m c 1 t) (iblk m c 2 t) (iblk m c 3 t) (iblk m c 4 t) (iblk m c 5 t) (iblk m c 6 t) (iblk m c 7 t) xs (acc m c (prev t).val (prev t).isLt)).2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · rw [before_8 m c t h.1]; iexact H8
  isplitl [HS]; · iexact HS
  iintro ⟨H0, H1, H2, H3, H4, H5, H6, H7, ⟨%f, H8⟩, HS⟩
  isplitl [HS Hg HF]
  · isplitl [HS]
    · iexists _; isplitr; swap
      · unfold owns; iexists _; isplitr; swap; · iexact HS
        ipureintro; rfl
      ipureintro; exact runC_slot c (grid0.coords t) (Memref.whole main_arg0) (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (fun e => absurd ((cond1_iff t).mp e) (by omega)) (fun e => absurd ((cond2_iff t).mp e) (by omega)) ((cond3_iff t).mpr h) (fun e => absurd ((cond4_iff t).mp e) (by omega)) (iblk m c 0 t) (iblk m c 1 t) (iblk m c 2 t) (iblk m c 3 t) (iblk m c 4 t) (iblk m c 5 t) (iblk m c 6 t) (iblk m c 7 t) xs (acc m c (prev t).val (prev t).isLt) _ (off3_at t h)
    isplitl [Hg]; · iexact Hg
    iexact HF
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr; swap; · iexact H8
  ipureintro; rw [acc_C m c t h]; exact runC_out c (grid0.coords t) (Memref.whole main_arg0) (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (fun e => absurd ((cond1_iff t).mp e) (by omega)) (fun e => absurd ((cond2_iff t).mp e) (by omega)) ((cond3_iff t).mpr h) (fun e => absurd ((cond4_iff t).mp e) (by omega)) (iblk m c 0 t) (iblk m c 1 t) (iblk m c 2 t) (iblk m c 3 t) (iblk m c 4 t) (iblk m c 5 t) (iblk m c 6 t) (iblk m c 7 t) xs (acc m c (prev t).val (prev t).isLt) (ups m c (prev t)) _ hu (off2_at t h) f

set_option maxHeartbeats 1000000 in
theorem sound_D (c : Dev nD) (t : Fin cfg0.N) (h : t.val % 12 = 11) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [after_0, after_1, after_2, after_3, after_4, after_5, after_6, after_7, Phi_mid m c t (by omega), Phi_end m c t h, leaves_live8 m c t (by omega)]
  rw [PhiD_eq]
  unfold mid Dat.owesAt Pipeline.owesWithin
  rw [show (dats m 0 c).owed t.castSucc = 0 from rfl, show (dats m 0 c).owed t.succ = 0 from rfl, xgrp_prev m c t (by omega)]
  iintro ⟨⟨⟨%xs, %hu, HS⟩, Hg, ⟨%I, HF, HX⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runD c (grid0.coords t) (Memref.whole main_arg0) (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (fun e => absurd ((cond1_iff t).mp e) (by omega)) (fun e => absurd ((cond2_iff t).mp e) (by omega)) (fun e => absurd ((cond3_iff t).mp e) (by omega)) ((cond4_iff t).mpr h) (iblk m c 0 t) (iblk m c 1 t) (iblk m c 2 t) (iblk m c 3 t) (iblk m c 4 t) (iblk m c 5 t) (iblk m c 6 t) (iblk m c 7 t) xs (acc m c (prev t).val (prev t).isLt) (xgrp m c t) (V m c main_arg0) I W).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · rw [before_8 m c t (by omega)]; iexact H8
  isplitl [HS]; · iexact HS
  isplitl [HF]; · iexact HF
  isplitl [HW]; · iexact HW
  iintro ⟨H0, H1, H2, H3, H4, H5, H6, H7, ⟨%f, H8⟩, HS, HR, HI, Hsem, ⟨%W', HW⟩⟩
  isplitl [HS HR Hg Hsem HI HX]
  · isplitl [HS HR]
    · isplitl [HS]; · iexists _; iexact HS
      iexists _; iexact HR
    isplitl [Hg]; · iexact Hg
    isplitl [Hsem]; · iexact Hsem
    iapply (pointsTo_split_subset (Finset.subset_univ I)).2
    isplitl [HI]; · iexact HI
    iexact HX
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr; swap; · iexact H8
  ipureintro
  have hu0 : InSlot 0 xs (ups m c (prev t)) := (congrArg (fun k => InSlot k xs (ups m c (prev t))) (show (t.val - 1) % 12 % 2 = 0 by omega)).mp hu
  exact (runD_out c (grid0.coords t) (Memref.whole main_arg0) (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (fun e => absurd ((cond1_iff t).mp e) (by omega)) (fun e => absurd ((cond2_iff t).mp e) (by omega)) (fun e => absurd ((cond3_iff t).mp e) (by omega)) ((cond4_iff t).mpr h) (iblk m c 0 t) (iblk m c 1 t) (iblk m c 2 t) (iblk m c 3 t) (iblk m c 4 t) (iblk m c 5 t) (iblk m c 6 t) (iblk m c 7 t) xs (acc m c (prev t).val (prev t).isLt) (xgrp m c t) (V m c main_arg0) I W (ups m c (prev t)) hu0 f).trans (acc_D m c t h).symm

theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact sound_A m c t h0
  by_cases h1 : t.val % 12 = 1
  · exact sound_B m c t h1
  by_cases h2 : t.val % 12 = 11
  · exact sound_D m c t h2
  exact sound_C m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := Pipeline.hmain_prefix cfgs 0 defs₀ Variants.none m main hostOps0 hostOps0_sub hostOps0_fresh main_chain) (hA := A_eq m)
    (hin := fun _ => .rfl) (hout := fun _ => .rfl)

/-- The arguments keep their contents, and every cell is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 0).trans (((dats m 0 c).arrAt_in 0 rfl _).trans ((A_eq m c 0).trans (V_main_arg1 m c))),
      ((h.1 c).1 1).trans (((dats m 0 c).arrAt_in 1 rfl _).trans ((A_eq m c 1).trans (V_main_arg2 m c))),
      ((h.1 c).2 main_arg3 (Pipeline.mem_restRefs_of main_arg3 (by decide) (by decide))).trans (V_main_arg3 m c),
      ((h.1 c).1 4).trans (((dats m 0 c).arrAt_in 4 rfl _).trans ((A_eq m c 4).trans (V_main_arg4 m c))),
      ((h.1 c).1 6).trans (((dats m 0 c).arrAt_in 6 rfl _).trans ((A_eq m c 6).trans (V_main_arg5 m c))),
      ((h.1 c).1 7).trans (((dats m 0 c).arrAt_in 7 rfl _).trans ((A_eq m c 7).trans (V_main_arg6 m c)))⟩, h.2⟩) (run_main m ρ)

end Cert.FfnIdeal.Hand

end
-- ==== Proof.Units.lean ====
module
public import proofs.«01_k».proof.Proof.Gen.KernelIdeal.Frame
public import Idealize.ShloMosaic.Lib.Pipeline.Value
public import Idealize.ShloMosaic.Lib.Pipeline.ValueKit.Tiles
public import Idealize.ShloMosaic.Lib.Pointwise

@[expose] public section

set_option maxRecDepth 16384

noncomputable section

open Idealize.ShloMosaic Idealize.ShloMosaic.TcCoe Idealize.SL.Sem

namespace Cert.KernelIdeal.Hand

open Cert.KernelIdeal Cert.KernelIdeal.Gen

variable {F : FTy → Type} [FloatOps F]

/-- One sequence's rows and one head's columns of a block of projections. -/
def slab {e : EltTy} (x : Vec F S1024x1024 e) (a : Fin 4) (b : Fin 8) : Vec F S256x128 e :=
  fun p => x (ix2 (⟨256 * a.val + (p 0).val, by have : (p 0).val < 256 := (p 0).isLt; have := a.isLt; omega⟩ : Fin 1024) (⟨128 * b.val + (p 1).val, by have : (p 1).val < 128 := (p 1).isLt; have := b.isLt; omega⟩ : Fin 1024))

/-- One head's columns of the norm weights. -/
def gnslab (x : Vec F S1x1024 .f32) (b : Fin 8) : Vec F S1x128 .f32 :=
  fun p => x (ix2 (0 : Fin 1) (⟨128 * b.val + (p 1).val, by have : (p 1).val < 128 := (p 1).isLt; have := b.isLt; omega⟩ : Fin 1024))

/-- One head's decay matrix. -/
def dslab (d : Vec F S8x256x256 .f32) (b : Fin 8) : Vec F S1x256x256 .f32 :=
  fun p => d (ix3 b (p 1) (p 2))

/-- One head's state weights in one direction. -/
def wslab (w : Vec F S8x2x256x128 .f32) (b : Fin 8) (r : Fin 2) : Vec F S1x1x256x128 .f32 :=
  fun p => w (ix4 b r (p 2) (p 3))

/-- The normed, gated retention output of one sequence and one head. -/
def yUnit (q k v : Vec F S256x128 .bf16) (d : Vec F S1x256x256 .f32) (gn : Vec F S1x128 .f32) (g : Vec F S256x128 .bf16) : FVec F S256x128 .bf16 :=
  k0_pay119 (k0_pay114 q k v d) gn g

/-- The state of one sequence, one head and one direction. -/
def sUnit (k v : Vec F S256x128 .bf16) (w : Vec F S1x1x256x128 .f32) : FVec F S1x1x1x128x128 .f32 :=
  k0_pay116 k v w

/-- The block of outputs of one grid point, from the point's blocks and the decay matrices. -/
def yBlock (x0 x1 x2 x3 : Vec F S1024x1024 .bf16) (x5 : Vec F S1x1024 .f32) (d : Vec F S8x256x256 .f32) : Vec F S1024x1024 .bf16 :=
  fun y =>
    let a : Fin 4 := ⟨(y 0).val / 256, by have : (y 0).val < 1024 := (y 0).isLt; omega⟩
    let b : Fin 8 := ⟨(y 1).val / 128, by have : (y 1).val < 1024 := (y 1).isLt; omega⟩
    yUnit (slab x0 a b) (slab x1 a b) (slab x2 a b) (dslab d b) (gnslab x5 b) (slab x3 a b)
      (ix2 (⟨(y 0).val % 256, Nat.mod_lt _ (by decide)⟩ : Fin 256) (⟨(y 1).val % 128, Nat.mod_lt _ (by decide)⟩ : Fin 128))

/-- The block of states of one grid point. -/
def sBlock (x1 x2 : Vec F S1024x1024 .bf16) (w : Vec F S8x2x256x128 .f32) : Vec F S4x2x8x128x128 .f32 :=
  fun y => sUnit (slab x1 (y 0) (y 2)) (slab x2 (y 0) (y 2)) (wslab w (y 2) (y 1)) (ix5 (0 : Fin 1) (0 : Fin 1) (0 : Fin 1) (y 3) (y 4))

theorem ld_slab {e : EltTy} (x : Vec F S1024x1024 e) (a : Fin 4) (b : Fin 8) (o0 o1 : ℕ) (h0 : o0 = 256 * a.val) (h1 : o1 = 128 * b.val) (inb) :
    View.ld x (Rect.unit ![o0, o1] ![256, 128] inb) = slab x a b := by
  subst h0 h1
  funext p
  exact View.ld_unit_apply_of _ _ _ _ _ _ (fun c => by fin_cases c <;> rfl)

theorem ld_gn (x : Vec F S1x1024 .f32) (b : Fin 8) (o1 : ℕ) (h1 : o1 = 128 * b.val) (inb) :
    View.ld x (Rect.unit ![0, o1] ![1, 128] inb) = gnslab x b := by
  subst h1
  funext p
  exact View.ld_unit_apply_of _ _ _ _ _ _ (fun c => by
    fin_cases c
    · have h : (p 0).val < 1 := (p 0).isLt
      show 0 = 0 + (p 0).val
      omega
    · rfl)

theorem ld_d (x : Vec F S8x256x256 .f32) (b : Fin 8) (o : ℕ) (h1 : o = b.val) (inb) :
    View.ld x (Rect.unit ![o, 0, 0] ![1, 256, 256] inb) = dslab x b := by
  subst h1
  funext p
  exact View.ld_unit_apply_of _ _ _ _ _ _ (fun c => by
    have h : (p 0).val < 1 := (p 0).isLt
    fin_cases c
    · show b.val = b.val + (p 0).val
      omega
    · show (p 1).val = 0 + (p 1).val
      omega
    · show (p 2).val = 0 + (p 2).val
      omega)

theorem ld_w (x : Vec F S8x2x256x128 .f32) (b : Fin 8) (r : Fin 2) (o o' : ℕ) (h1 : o = b.val) (h2 : o' = r.val) (inb) :
    View.ld x (Rect.unit ![o, o', 0, 0] ![1, 1, 256, 128] inb) = wslab x b r := by
  subst h1 h2
  funext p
  exact View.ld_unit_apply_of _ _ _ _ _ _ (fun c => by
    have h : (p 0).val < 1 := (p 0).isLt
    have h' : (p 1).val < 1 := (p 1).isLt
    fin_cases c
    · show b.val = b.val + (p 0).val
      omega
    · show r.val = r.val + (p 1).val
      omega
    · show (p 2).val = 0 + (p 2).val
      omega
    · show (p 3).val = 0 + (p 3).val
      omega)

/-- Three equal arguments give equal values. -/
theorem congrArg₃ {α β γ δ : Type} (f : α → β → γ → δ) {a a' : α} {b b' : β} {c c' : γ} (h : a = a') (h' : b = b') (h'' : c = c') : f a b c = f a' b' c' := by
  subst h h' h''
  rfl

/-- A stored unit of outputs is the block's at its place. -/
theorem y_piece (x0 x1 x2 x3 : Vec F S1024x1024 .bf16) (x5 : Vec F S1x1024 .f32) (d : Vec F S8x256x256 .f32) (a : Fin 4) (b : Fin 8) (o0 o1 : ℕ) (h0 : o0 = 256 * a.val) (h1 : o1 = 128 * b.val) (inb)
    (u : FVec F S256x128 .bf16) (hu : u = yUnit (slab x0 a b) (slab x1 a b) (slab x2 a b) (dslab d b) (gnslab x5 b) (slab x3 a b))
    (x : S256x128.Idx) : u x = yBlock x0 x1 x2 x3 x5 d ((Rect.unit (s := S1024x1024) ![o0, o1] ![256, 128] inb).emb x) := by
  subst h0 h1 hu
  have hx0 : (x 0).val < 256 := (x 0).isLt
  have hx1 : (x 1).val < 128 := (x 1).isLt
  have e0 : (((Rect.unit (s := S1024x1024) ![256 * a.val, 128 * b.val] ![256, 128] inb).emb x) 0).val = 256 * a.val + (x 0).val := Rect.idx_unit_val _ _ inb x 0
  have e1 : (((Rect.unit (s := S1024x1024) ![256 * a.val, 128 * b.val] ![256, 128] inb).emb x) 1).val = 128 * b.val + (x 1).val := Rect.idx_unit_val _ _ inb x 1
  unfold yBlock
  generalize (Rect.unit (s := S1024x1024) ![256 * a.val, 128 * b.val] ![256, 128] inb).emb x = y at e0 e1
  have ea : (⟨(y 0).val / 256, by have : (y 0).val < 1024 := (y 0).isLt; omega⟩ : Fin 4) = a := Fin.ext (by show (y 0).val / 256 = a.val; omega)
  have eb : (⟨(y 1).val / 128, by have : (y 1).val < 1024 := (y 1).isLt; omega⟩ : Fin 8) = b := Fin.ext (by show (y 1).val / 128 = b.val; omega)
  have f0 : (⟨(y 0).val % 256, Nat.mod_lt _ (by decide)⟩ : Fin 256) = x 0 := Fin.ext (by show (y 0).val % 256 = (x 0).val; omega)
  have f1 : (⟨(y 1).val % 128, Nat.mod_lt _ (by decide)⟩ : Fin 128) = x 1 := Fin.ext (by show (y 1).val % 128 = (x 1).val; omega)
  dsimp only
  rw [ea, eb, f0, f1]
  exact congrArg _ (eq_ix2 x)

/-- A stored state is the block's at its place. -/
theorem s_piece (x1 x2 : Vec F S1024x1024 .bf16) (w : Vec F S8x2x256x128 .f32) (a : Fin 4) (b : Fin 8) (r : Fin 2) (o0 o1 o2 : ℕ) (h0 : o0 = a.val) (h1 : o1 = r.val) (h2 : o2 = b.val) (inb)
    (u : FVec F S1x1x1x128x128 .f32) (hu : u = sUnit (slab x1 a b) (slab x2 a b) (wslab w b r))
    (x : S1x1x1x128x128.Idx) : u x = sBlock x1 x2 w ((Rect.unit (s := S4x2x8x128x128) ![o0, o1, o2, 0, 0] ![1, 1, 1, 128, 128] inb).emb x) := by
  subst h0 h1 h2 hu
  have hx0 : (x 0).val < 1 := (x 0).isLt
  have hx1 : (x 1).val < 1 := (x 1).isLt
  have hx2 : (x 2).val < 1 := (x 2).isLt
  have e0 := Rect.idx_unit_val (s := S4x2x8x128x128) ![a.val, r.val, b.val, 0, 0] ![1, 1, 1, 128, 128] inb x 0
  have e1 := Rect.idx_unit_val (s := S4x2x8x128x128) ![a.val, r.val, b.val, 0, 0] ![1, 1, 1, 128, 128] inb x 1
  have e2 := Rect.idx_unit_val (s := S4x2x8x128x128) ![a.val, r.val, b.val, 0, 0] ![1, 1, 1, 128, 128] inb x 2
  have e3 := Rect.idx_unit_val (s := S4x2x8x128x128) ![a.val, r.val, b.val, 0, 0] ![1, 1, 1, 128, 128] inb x 3
  have e4 := Rect.idx_unit_val (s := S4x2x8x128x128) ![a.val, r.val, b.val, 0, 0] ![1, 1, 1, 128, 128] inb x 4
  change _ = a.val + (x 0).val at e0
  change _ = r.val + (x 1).val at e1
  change _ = b.val + (x 2).val at e2
  change _ = 0 + (x 3).val at e3
  change _ = 0 + (x 4).val at e4
  change (((Rect.unit (s := S4x2x8x128x128) ![a.val, r.val, b.val, 0, 0] ![1, 1, 1, 128, 128] inb).emb x) 0).val = _ at e0
  change (((Rect.unit (s := S4x2x8x128x128) ![a.val, r.val, b.val, 0, 0] ![1, 1, 1, 128, 128] inb).emb x) 1).val = _ at e1
  change (((Rect.unit (s := S4x2x8x128x128) ![a.val, r.val, b.val, 0, 0] ![1, 1, 1, 128, 128] inb).emb x) 2).val = _ at e2
  change (((Rect.unit (s := S4x2x8x128x128) ![a.val, r.val, b.val, 0, 0] ![1, 1, 1, 128, 128] inb).emb x) 3).val = _ at e3
  change (((Rect.unit (s := S4x2x8x128x128) ![a.val, r.val, b.val, 0, 0] ![1, 1, 1, 128, 128] inb).emb x) 4).val = _ at e4
  generalize (Rect.unit (s := S4x2x8x128x128) ![a.val, r.val, b.val, 0, 0] ![1, 1, 1, 128, 128] inb).emb x = y at e0 e1 e2 e3 e4
  have f0 : (y 0 : Fin 4) = a := Fin.ext (by omega)
  have f1 : (y 1 : Fin 2) = r := Fin.ext (by omega)
  have f2 : (y 2 : Fin 8) = b := Fin.ext (by omega)
  have f3 : (y 3 : Fin 128) = x 3 := Fin.ext (by omega)
  have f4 : (y 4 : Fin 128) = x 4 := Fin.ext (by omega)
  have g0 : (x 0 : Fin 1) = (0 : Fin 1) := @Subsingleton.elim (Fin 1) _ (x 0) 0
  have g1 : (x 1 : Fin 1) = (0 : Fin 1) := @Subsingleton.elim (Fin 1) _ (x 1) 0
  have g2 : (x 2 : Fin 1) = (0 : Fin 1) := @Subsingleton.elim (Fin 1) _ (x 2) 0
  show _ = sUnit (slab x1 (y 0 : Fin 4) (y 2 : Fin 8)) (slab x2 (y 0 : Fin 4) (y 2 : Fin 8)) (wslab w (y 2 : Fin 8) (y 1 : Fin 2)) (ix5 (0 : Fin 1) (0 : Fin 1) (0 : Fin 1) (y 3 : Fin 128) (y 4 : Fin 128))
  have gx : x = ix5 (0 : Fin 1) (0 : Fin 1) (0 : Fin 1) (y 3 : Fin 128) (y 4 : Fin 128) := by
    rw [eq_ix5 x, f3, f4]
    exact congrArg₃ (fun p q t => ix5 p q t (x 3 : Fin 128) (x 4 : Fin 128)) g0 g1 g2
  rw [f0, f1, f2]
  exact congrArg _ gx

end Cert.KernelIdeal.Hand
-- ==== Proof.OutB.lean ====
module
public import proofs.«01_k».proof.Proof.Units

@[expose] public section

set_option maxRecDepth 16384
set_option pp.maxSteps 400

noncomputable section

open Idealize.ShloMosaic Idealize.ShloMosaic.TcCoe Idealize.SL.Sem

namespace Cert.KernelIdeal.Hand

open Cert.KernelIdeal Cert.KernelIdeal.Gen

variable {F : FTy → Type} [FloatOps F]

/-- A stored unit of outputs, computed from loads, is the block's at its place. -/
theorem y_at (x0 x1 x2 x3 : Vec F S1024x1024 .bf16) (x5 : Vec F S1x1024 .f32) (d : Vec F S8x256x256 .f32) (a : Fin 4) (b : Fin 8) (o0 o1 o2 : ℕ) (h0 : o0 = 256 * a.val) (h1 : o1 = 128 * b.val) (h2 : o2 = b.val) (inb) (inbd) (inbg)
    (u : FVec F S256x128 .bf16)
    (hu : u = yUnit (View.ld x0 (Rect.unit (s := S1024x1024) ![o0, o1] ![256, 128] inb)) (View.ld x1 (Rect.unit (s := S1024x1024) ![o0, o1] ![256, 128] inb)) (View.ld x2 (Rect.unit (s := S1024x1024) ![o0, o1] ![256, 128] inb))
      (View.ld d (Rect.unit (s := S8x256x256) ![o2, 0, 0] ![1, 256, 256] inbd)) (View.ld x5 (Rect.unit (s := S1x1024) ![0, o1] ![1, 128] inbg)) (View.ld x3 (Rect.unit (s := S1024x1024) ![o0, o1] ![256, 128] inb)))
    (x : S256x128.Idx) : u x = yBlock x0 x1 x2 x3 x5 d ((Rect.unit (s := S1024x1024) ![o0, o1] ![256, 128] inb).emb x) := by
  refine y_piece x0 x1 x2 x3 x5 d a b o0 o1 h0 h1 inb u ?_ x
  rw [hu, ld_slab x0 a b o0 o1 h0 h1, ld_slab x1 a b o0 o1 h0 h1, ld_slab x2 a b o0 o1 h0 h1, ld_slab x3 a b o0 o1 h0 h1, ld_d d b o2 h2, ld_gn x5 b o1 h1]

/-- A stored state, computed from loads, is the block's at its place. -/
theorem s_at (x1 x2 : Vec F S1024x1024 .bf16) (w : Vec F S8x2x256x128 .f32) (a : Fin 4) (b : Fin 8) (r : Fin 2) (o0 o1 p0 p2 p1 : ℕ) (h0 : o0 = 256 * a.val) (h1 : o1 = 128 * b.val) (h2 : p0 = a.val) (h3 : p2 = b.val) (h4 : p1 = r.val) (inb) (inbx) (inbw)
    (u : FVec F S1x1x1x128x128 .f32)
    (hu : u = sUnit (View.ld x1 (Rect.unit (s := S1024x1024) ![o0, o1] ![256, 128] inbx)) (View.ld x2 (Rect.unit (s := S1024x1024) ![o0, o1] ![256, 128] inbx))
      (View.ld w (Rect.unit (s := S8x2x256x128) ![p2, p1, 0, 0] ![1, 1, 256, 128] inbw)))
    (x : S1x1x1x128x128.Idx) : u x = sBlock x1 x2 w ((Rect.unit (s := S4x2x8x128x128) ![p0, p1, p2, 0, 0] ![1, 1, 1, 128, 128] inb).emb x) := by
  refine s_piece x1 x2 w a b r p0 p1 p2 h2 h4 h3 inb u ?_ x
  rw [hu, ld_slab x1 a b o0 o1 h0 h1, ld_slab x2 a b o0 o1 h0 h1, ld_w w b r p2 p1 h3 h4]

theorem out_B_6 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S8x2x1x128 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S4x2x8x128x128 .f32) (harg9 : arg9.IsWhole) (arg10 : Memref sig .tc .vmem S8x256x256 .f32) (harg10 : arg10.IsWhole) (arg11 : Memref sig .tc .vmem S8x2x256x128 .f32) (harg11 : arg11.IsWhole) (hc0 : ¬cond0_0 i)
    (x0 x1 x2 x3 : Vec F S1024x1024 .bf16) (x4 : Vec F S8x2x1x128 .f32) (x5 : Vec F S1x1024 .f32) (xs0 : Vec F S8x256x256 .f32) (xs1 : Vec F S8x2x256x128 .f32) :
    out0_B_6 c i arg2 harg2 arg3 harg3 arg4 harg4 arg5 harg5 arg6 harg6 arg7 harg7 arg8 harg8 arg9 harg9 arg10 harg10 arg11 harg11 hc0 x0 x1 x2 x3 x4 x5 xs0 xs1 = yBlock x0 x1 x2 x3 x5 xs0 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2 x3 x4 x5 xs0 xs1)]
  funext y
  refine View.canon_apply_of_pieces (yBlock x0 x1 x2 x3 x5 xs0) _ ?_ y (cover0_B_6 c i arg2 harg2 arg3 harg3 arg4 harg4 arg5 harg5 arg6 harg6 arg7 harg7 arg8 harg8 arg9 harg9 arg10 harg10 arg11 harg11 hc0 x0 x1 x2 x3 x4 x5 xs0 xs1 y)
  unfold kernelRun0_B
  dsimp only
  sl_unfold_words
  simp only [View.readAt_eq_ld, Memref.IsWhole.read_unread]
  refine List.forall_mem_cons.mpr ⟨fun x => y_at x0 x1 x2 x3 x5 xs0 3 7 768 896 7 rfl rfl rfl inb_S1024x1024_S256x128_768_896 inb_S8x256x256_S1x256x256_7_0_0 inb_S1x1024_S1x128_0_896 _ rfl x, ?_⟩
  refine List.forall_mem_cons.mpr ⟨fun x => y_at x0 x1 x2 x3 x5 xs0 3 6 768 768 6 rfl rfl rfl inb_S1024x1024_S256x128_768_768 inb_S8x256x256_S1x256x256_6_0_0 inb_S1x1024_S1x128_0_768 _ rfl x, ?_⟩
  refine List.forall_mem_cons.mpr ⟨fun x => y_at x0 x1 x2 x3 x5 xs0 3 5 768 640 5 rfl rfl rfl inb_S1024x1024_S256x128_768_640 inb_S8x256x256_S1x256x256_5_0_0 inb_S1x1024_S1x128_0_640 _ rfl x, ?_⟩
  refine List.forall_mem_cons.mpr ⟨fun x => y_at x0 x1 x2 x3 x5 xs0 3 4 768 512 4 rfl rfl rfl inb_S1024x1024_S256x128_768_512 inb_S8x256x256_S1x256x256_4_0_0 inb_S1x1024_S1x128_0_512 _ rfl x, ?_⟩
  refine List.forall_mem_cons.mpr ⟨fun x => y_at x0 x1 x2 x3 x5 xs0 3 3 768 384 3 rfl rfl rfl inb_S1024x1024_S256x128_768_384 inb_S8x256x256_S1x256x256_3_0_0 inb_S1x1024_S1x128_0_384 _ rfl x, ?_⟩
  refine List.forall_mem_cons.mpr ⟨fun x => y_at x0 x1 x2 x3 x5 xs0 3 2 768 256 2 rfl rfl rfl inb_S1024x1024_S256x128_768_256 inb_S8x256x256_S1x256x256_2_0_0 inb_S1x1024_S1x128_0_256 _ rfl x, ?_⟩
  refine List.forall_mem_cons.mpr ⟨fun x => y_at x0 x1 x2 x3 x5 xs0 3 1 768 128 1 rfl rfl rfl inb_S1024x1024_S256x128_768_128 inb_S8x256x256_S1x256x256_1_0_0 inb_S1x1024_S1x128_0_128 _ rfl x, ?_⟩
  refine List.forall_mem_cons.mpr ⟨fun x => y_at x0 x1 x2 x3 x5 xs0 3 0 768 0 0 rfl rfl rfl inb_S1024x1024_S256x128_768_0 inb_S8x256x256_S1x256x256_0_0_0 inb_S1x1024_S1x128_0_0 _ rfl x, ?_⟩
  refine List.forall_mem_cons.mpr ⟨fun x => y_at x0 x1 x2 x3 x5 xs0 2 7 512 896 7 rfl rfl rfl inb_S1024x1024_S256x128_512_896 inb_S8x256x256_S1x256x256_7_0_0 inb_S1x1024_S1x128_0_896 _ rfl x, ?_⟩
  refine List.forall_mem_cons.mpr ⟨fun x => y_at x0 x1 x2 x3 x5 xs0 2 6 512 768 6 rfl rfl rfl inb_S1024x1024_S256x128_512_768 inb_S8x256x256_S1x256x256_6_0_0 inb_S1x1024_S1x128_0_768 _ rfl x, ?_⟩
  refine List.forall_mem_cons.mpr ⟨fun x => y_at x0 x1 x2 x3 x5 xs0 2 5 512 640 5 rfl rfl rfl inb_S1024x1024_S256x128_512_640 inb_S8x256x256_S1x256x256_5_0_0 inb_S1x1024_S1x128_0_640 _ rfl x, ?_⟩
  refine List.forall_mem_cons.mpr ⟨fun x => y_at x0 x1 x2 x3 x5 xs0 2 4 512 512 4 rfl rfl rfl inb_S1024x1024_S256x128_512_512 inb_S8x256x256_S1x256x256_4_0_0 inb_S1x1024_S1x128_0_512 _ rfl x, ?_⟩
  refine List.forall_mem_cons.mpr ⟨fun x => y_at x0 x1 x2 x3 x5 xs0 2 3 512 384 3 rfl rfl rfl inb_S1024x1024_S256x128_512_384 inb_S8x256x256_S1x256x256_3_0_0 inb_S1x1024_S1x128_0_384 _ rfl x, ?_⟩
  refine List.forall_mem_cons.mpr ⟨fun x => y_at x0 x1 x2 x3 x5 xs0 2 2 512 256 2 rfl rfl rfl inb_S1024x1024_S256x128_512_256 inb_S8x256x256_S1x256x256_2_0_0 inb_S1x1024_S1x128_0_256 _ rfl x, ?_⟩
  refine List.forall_mem_cons.mpr ⟨fun x => y_at x0 x1 x2 x3 x5 xs0 2 1 512 128 1 rfl rfl rfl inb_S1024x1024_S256x128_512_128 inb_S8x256x256_S1x256x256_1_0_0 inb_S1x1024_S1x128_0_128 _ rfl x, ?_⟩
  refine List.forall_mem_cons.mpr ⟨fun x => y_at x0 x1 x2 x3 x5 xs0 2 0 512 0 0 rfl rfl rfl inb_S1024x1024_S256x128_512_0 inb_S8x256x256_S1x256x256_0_0_0 inb_S1x1024_S1x128_0_0 _ rfl x, ?_⟩
  refine List.forall_mem_cons.mpr ⟨fun x => y_at x0 x1 x2 x3 x5 xs0 1 7 256 896 7 rfl rfl rfl inb_S1024x1024_S256x128_256_896 inb_S8x256x256_S1x256x256_7_0_0 inb_S1x1024_S1x128_0_896 _ rfl x, ?_⟩
  refine List.forall_mem_cons.mpr ⟨fun x => y_at x0 x1 x2 x3 x5 xs0 1 6 256 768 6 rfl rfl rfl inb_S1024x1024_S256x128_256_768 inb_S8x256x256_S1x256x256_6_0_0 inb_S1x1024_S1x128_0_768 _ rfl x, ?_⟩
  refine List.forall_mem_cons.mpr ⟨fun x => y_at x0 x1 x2 x3 x5 xs0 1 5 256 640 5 rfl rfl rfl inb_S1024x1024_S256x128_256_640 inb_S8x256x256_S1x256x256_5_0_0 inb_S1x1024_S1x128_0_640 _ rfl x, ?_⟩
  refine List.forall_mem_cons.mpr ⟨fun x => y_at x0 x1 x2 x3 x5 xs0 1 4 256 512 4 rfl rfl rfl inb_S1024x1024_S256x128_256_512 inb_S8x256x256_S1x256x256_4_0_0 inb_S1x1024_S1x128_0_512 _ rfl x, ?_⟩
  refine List.forall_mem_cons.mpr ⟨fun x => y_at x0 x1 x2 x3 x5 xs0 1 3 256 384 3 rfl rfl rfl inb_S1024x1024_S256x128_256_384 inb_S8x256x256_S1x256x256_3_0_0 inb_S1x1024_S1x128_0_384 _ rfl x, ?_⟩
  refine List.forall_mem_cons.mpr ⟨fun x => y_at x0 x1 x2 x3 x5 xs0 1 2 256 256 2 rfl rfl rfl inb_S1024x1024_S256x128_256_256 inb_S8x256x256_S1x256x256_2_0_0 inb_S1x1024_S1x128_0_256 _ rfl x, ?_⟩
  refine List.forall_mem_cons.mpr ⟨fun x => y_at x0 x1 x2 x3 x5 xs0 1 1 256 128 1 rfl rfl rfl inb_S1024x1024_S256x128_256_128 inb_S8x256x256_S1x256x256_1_0_0 inb_S1x1024_S1x128_0_128 _ rfl x, ?_⟩
  refine List.forall_mem_cons.mpr ⟨fun x => y_at x0 x1 x2 x3 x5 xs0 1 0 256 0 0 rfl rfl rfl inb_S1024x1024_S256x128_256_0 inb_S8x256x256_S1x256x256_0_0_0 inb_S1x1024_S1x128_0_0 _ rfl x, ?_⟩
  refine List.forall_mem_cons.mpr ⟨fun x => y_at x0 x1 x2 x3 x5 xs0 0 7 0 896 7 rfl rfl rfl inb_S1024x1024_S256x128_0_896 inb_S8x256x256_S1x256x256_7_0_0 inb_S1x1024_S1x128_0_896 _ rfl x, ?_⟩
  refine List.forall_mem_cons.mpr ⟨fun x => y_at x0 x1 x2 x3 x5 xs0 0 6 0 768 6 rfl rfl rfl inb_S1024x1024_S256x128_0_768 inb_S8x256x256_S1x256x256_6_0_0 inb_S1x1024_S1x128_0_768 _ rfl x, ?_⟩
  refine List.forall_mem_cons.mpr ⟨fun x => y_at x0 x1 x2 x3 x5 xs0 0 5 0 640 5 rfl rfl rfl inb_S1024x1024_S256x128_0_640 inb_S8x256x256_S1x256x256_5_0_0 inb_S1x1024_S1x128_0_640 _ rfl x, ?_⟩
  refine List.forall_mem_cons.mpr ⟨fun x => y_at x0 x1 x2 x3 x5 xs0 0 4 0 512 4 rfl rfl rfl inb_S1024x1024_S256x128_0_512 inb_S8x256x256_S1x256x256_4_0_0 inb_S1x1024_S1x128_0_512 _ rfl x, ?_⟩
  refine List.forall_mem_cons.mpr ⟨fun x => y_at x0 x1 x2 x3 x5 xs0 0 3 0 384 3 rfl rfl rfl inb_S1024x1024_S256x128_0_384 inb_S8x256x256_S1x256x256_3_0_0 inb_S1x1024_S1x128_0_384 _ rfl x, ?_⟩
  refine List.forall_mem_cons.mpr ⟨fun x => y_at x0 x1 x2 x3 x5 xs0 0 2 0 256 2 rfl rfl rfl inb_S1024x1024_S256x128_0_256 inb_S8x256x256_S1x256x256_2_0_0 inb_S1x1024_S1x128_0_256 _ rfl x, ?_⟩
  refine List.forall_mem_cons.mpr ⟨fun x => y_at x0 x1 x2 x3 x5 xs0 0 1 0 128 1 rfl rfl rfl inb_S1024x1024_S256x128_0_128 inb_S8x256x256_S1x256x256_1_0_0 inb_S1x1024_S1x128_0_128 _ rfl x, ?_⟩
  refine List.forall_mem_cons.mpr ⟨fun x => y_at x0 x1 x2 x3 x5 xs0 0 0 0 0 0 rfl rfl rfl inb_S1024x1024_S256x128_0_0 inb_S8x256x256_S1x256x256_0_0_0 inb_S1x1024_S1x128_0_0 _ rfl x, ?_⟩
  exact fun p hp => absurd hp List.not_mem_nil

theorem out_B_7 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S8x2x1x128 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S4x2x8x128x128 .f32) (harg9 : arg9.IsWhole) (arg10 : Memref sig .tc .vmem S8x256x256 .f32) (harg10 : arg10.IsWhole) (arg11 : Memref sig .tc .vmem S8x2x256x128 .f32) (harg11 : arg11.IsWhole) (hc0 : ¬cond0_0 i)
    (x0 x1 x2 x3 : Vec F S1024x1024 .bf16) (x4 : Vec F S8x2x1x128 .f32) (x5 : Vec F S1x1024 .f32) (xs0 : Vec F S8x256x256 .f32) (xs1 : Vec F S8x2x256x128 .f32) :
    out0_B_7 c i arg2 harg2 arg3 harg3 arg4 harg4 arg5 harg5 arg6 harg6 arg7 harg7 arg8 harg8 arg9 harg9 arg10 harg10 arg11 harg11 hc0 x0 x1 x2 x3 x4 x5 xs0 xs1 = sBlock x1 x2 xs1 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 xs0 xs1)]
  funext y
  refine View.canon_apply_of_pieces (sBlock x1 x2 xs1) _ ?_ y (cover0_B_7 c i arg2 harg2 arg3 harg3 arg4 harg4 arg5 harg5 arg6 harg6 arg7 harg7 arg8 harg8 arg9 harg9 arg10 harg10 arg11 harg11 hc0 x0 x1 x2 x3 x4 x5 xs0 xs1 y)
  unfold kernelRun0_B
  dsimp only
  sl_unfold_words
  simp only [View.readAt_eq_ld, Memref.IsWhole.read_unread]
  refine List.forall_mem_cons.mpr ⟨fun x => s_at x1 x2 xs1 3 7 1 768 896 3 7 1 rfl rfl rfl rfl rfl inb_S4x2x8x128x128_S1x1x1x128x128_3_1_7_0_0 inb_S1024x1024_S256x128_768_896 inb_S8x2x256x128_S1x1x256x128_7_1_0_0 _ rfl x, ?_⟩
  refine List.forall_mem_cons.mpr ⟨fun x => s_at x1 x2 xs1 3 7 0 768 896 3 7 0 rfl rfl rfl rfl rfl inb_S4x2x8x128x128_S1x1x1x128x128_3_0_7_0_0 inb_S1024x1024_S256x128_768_896 inb_S8x2x256x128_S1x1x256x128_7_0_0_0 _ rfl x, ?_⟩
  refine List.forall_mem_cons.mpr ⟨fun x => s_at x1 x2 xs1 3 6 1 768 768 3 6 1 rfl rfl rfl rfl rfl inb_S4x2x8x128x128_S1x1x1x128x128_3_1_6_0_0 inb_S1024x1024_S256x128_768_768 inb_S8x2x256x128_S1x1x256x128_6_1_0_0 _ rfl x, ?_⟩
  refine List.forall_mem_cons.mpr ⟨fun x => s_at x1 x2 xs1 3 6 0 768 768 3 6 0 rfl rfl rfl rfl rfl inb_S4x2x8x128x128_S1x1x1x128x128_3_0_6_0_0 inb_S1024x1024_S256x128_768_768 inb_S8x2x256x128_S1x1x256x128_6_0_0_0 _ rfl x, ?_⟩
  refine List.forall_mem_cons.mpr ⟨fun x => s_at x1 x2 xs1 3 5 1 768 640 3 5 1 rfl rfl rfl rfl rfl inb_S4x2x8x128x128_S1x1x1x128x128_3_1_5_0_0 inb_S1024x1024_S256x128_768_640 inb_S8x2x256x128_S1x1x256x128_5_1_0_0 _ rfl x, ?_⟩
  refine List.forall_mem_cons.mpr ⟨fun x => s_at x1 x2 xs1 3 5 0 768 640 3 5 0 rfl rfl rfl rfl rfl inb_S4x2x8x128x128_S1x1x1x128x128_3_0_5_0_0 inb_S1024x1024_S256x128_768_640 inb_S8x2x256x128_S1x1x256x128_5_0_0_0 _ rfl x, ?_⟩
  refine List.forall_mem_cons.mpr ⟨fun x => s_at x1 x2 xs1 3 4 1 768 512 3 4 1 rfl rfl rfl rfl rfl inb_S4x2x8x128x128_S1x1x1x128x128_3_1_4_0_0 inb_S1024x1024_S256x128_768_512 inb_S8x2x256x128_S1x1x256x128_4_1_0_0 _ rfl x, ?_⟩
  refine List.forall_mem_cons.mpr ⟨fun x => s_at x1 x2 xs1 3 4 0 768 512 3 4 0 rfl rfl rfl rfl rfl inb_S4x2x8x128x128_S1x1x1x128x128_3_0_4_0_0 inb_S1024x1024_S256x128_768_512 inb_S8x2x256x128_S1x1x256x128_4_0_0_0 _ rfl x, ?_⟩
  refine List.forall_mem_cons.mpr ⟨fun x => s_at x1 x2 xs1 3 3 1 768 384 3 3 1 rfl rfl rfl rfl rfl inb_S4x2x8x128x128_S1x1x1x128x128_3_1_3_0_0 inb_S1024x1024_S256x128_768_384 inb_S8x2x256x128_S1x1x256x128_3_1_0_0 _ rfl x, ?_⟩
  refine List.forall_mem_cons.mpr ⟨fun x => s_at x1 x2 xs1 3 3 0 768 384 3 3 0 rfl rfl rfl rfl rfl inb_S4x2x8x128x128_S1x1x1x128x128_3_0_3_0_0 inb_S1024x1024_S256x128_768_384 inb_S8x2x256x128_S1x1x256x128_3_0_0_0 _ rfl x, ?_⟩
  refine List.forall_mem_cons.mpr ⟨fun x => s_at x1 x2 xs1 3 2 1 768 256 3 2 1 rfl rfl rfl rfl rfl inb_S4x2x8x128x128_S1x1x1x128x128_3_1_2_0_0 inb_S1024x1024_S256x128_768_256 inb_S8x2x256x128_S1x1x256x128_2_1_0_0 _ rfl x, ?_⟩
  refine List.forall_mem_cons.mpr ⟨fun x => s_at x1 x2 xs1 3 2 0 768 256 3 2 0 rfl rfl rfl rfl rfl inb_S4x2x8x128x128_S1x1x1x128x128_3_0_2_0_0 inb_S1024x1024_S256x128_768_256 inb_S8x2x256x128_S1x1x256x128_2_0_0_0 _ rfl x, ?_⟩
  refine List.forall_mem_cons.mpr ⟨fun x => s_at x1 x2 xs1 3 1 1 768 128 3 1 1 rfl rfl rfl rfl rfl inb_S4x2x8x128x128_S1x1x1x128x128_3_1_1_0_0 inb_S1024x1024_S256x128_768_128 inb_S8x2x256x128_S1x1x256x128_1_1_0_0 _ rfl x, ?_⟩
  refine List.forall_mem_cons.mpr ⟨fun x => s_at x1 x2 xs1 3 1 0 768 128 3 1 0 rfl rfl rfl rfl rfl inb_S4x2x8x128x128_S1x1x1x128x128_3_0_1_0_0 inb_S1024x1024_S256x128_768_128 inb_S8x2x256x128_S1x1x256x128_1_0_0_0 _ rfl x, ?_⟩
  refine List.forall_mem_cons.mpr ⟨fun x => s_at x1 x2 xs1 3 0 1 768 0 3 0 1 rfl rfl rfl rfl rfl inb_S4x2x8x128x128_S1x1x1x128x128_3_1_0_0_0 inb_S1024x1024_S256x128_768_0 inb_S8x2x256x128_S1x1x256x128_0_1_0_0 _ rfl x, ?_⟩
  refine List.forall_mem_cons.mpr ⟨fun x => s_at x1 x2 xs1 3 0 0 768 0 3 0 0 rfl rfl rfl rfl rfl inb_S4x2x8x128x128_S1x1x1x128x128_3_0_0_0_0 inb_S1024x1024_S256x128_768_0 inb_S8x2x256x128_S1x1x256x128_0_0_0_0 _ rfl x, ?_⟩
  refine List.forall_mem_cons.mpr ⟨fun x => s_at x1 x2 xs1 2 7 1 512 896 2 7 1 rfl rfl rfl rfl rfl inb_S4x2x8x128x128_S1x1x1x128x128_2_1_7_0_0 inb_S1024x1024_S256x128_512_896 inb_S8x2x256x128_S1x1x256x128_7_1_0_0 _ rfl x, ?_⟩
  refine List.forall_mem_cons.mpr ⟨fun x => s_at x1 x2 xs1 2 7 0 512 896 2 7 0 rfl rfl rfl rfl rfl inb_S4x2x8x128x128_S1x1x1x128x128_2_0_7_0_0 inb_S1024x1024_S256x128_512_896 inb_S8x2x256x128_S1x1x256x128_7_0_0_0 _ rfl x, ?_⟩
  refine List.forall_mem_cons.mpr ⟨fun x => s_at x1 x2 xs1 2 6 1 512 768 2 6 1 rfl rfl rfl rfl rfl inb_S4x2x8x128x128_S1x1x1x128x128_2_1_6_0_0 inb_S1024x1024_S256x128_512_768 inb_S8x2x256x128_S1x1x256x128_6_1_0_0 _ rfl x, ?_⟩
  refine List.forall_mem_cons.mpr ⟨fun x => s_at x1 x2 xs1 2 6 0 512 768 2 6 0 rfl rfl rfl rfl rfl inb_S4x2x8x128x128_S1x1x1x128x128_2_0_6_0_0 inb_S1024x1024_S256x128_512_768 inb_S8x2x256x128_S1x1x256x128_6_0_0_0 _ rfl x, ?_⟩
  refine List.forall_mem_cons.mpr ⟨fun x => s_at x1 x2 xs1 2 5 1 512 640 2 5 1 rfl rfl rfl rfl rfl inb_S4x2x8x128x128_S1x1x1x128x128_2_1_5_0_0 inb_S1024x1024_S256x128_512_640 inb_S8x2x256x128_S1x1x256x128_5_1_0_0 _ rfl x, ?_⟩
  refine List.forall_mem_cons.mpr ⟨fun x => s_at x1 x2 xs1 2 5 0 512 640 2 5 0 rfl rfl rfl rfl rfl inb_S4x2x8x128x128_S1x1x1x128x128_2_0_5_0_0 inb_S1024x1024_S256x128_512_640 inb_S8x2x256x128_S1x1x256x128_5_0_0_0 _ rfl x, ?_⟩
  refine List.forall_mem_cons.mpr ⟨fun x => s_at x1 x2 xs1 2 4 1 512 512 2 4 1 rfl rfl rfl rfl rfl inb_S4x2x8x128x128_S1x1x1x128x128_2_1_4_0_0 inb_S1024x1024_S256x128_512_512 inb_S8x2x256x128_S1x1x256x128_4_1_0_0 _ rfl x, ?_⟩
  refine List.forall_mem_cons.mpr ⟨fun x => s_at x1 x2 xs1 2 4 0 512 512 2 4 0 rfl rfl rfl rfl rfl inb_S4x2x8x128x128_S1x1x1x128x128_2_0_4_0_0 inb_S1024x1024_S256x128_512_512 inb_S8x2x256x128_S1x1x256x128_4_0_0_0 _ rfl x, ?_⟩
  refine List.forall_mem_cons.mpr ⟨fun x => s_at x1 x2 xs1 2 3 1 512 384 2 3 1 rfl rfl rfl rfl rfl inb_S4x2x8x128x128_S1x1x1x128x128_2_1_3_0_0 inb_S1024x1024_S256x128_512_384 inb_S8x2x256x128_S1x1x256x128_3_1_0_0 _ rfl x, ?_⟩
  refine List.forall_mem_cons.mpr ⟨fun x => s_at x1 x2 xs1 2 3 0 512 384 2 3 0 rfl rfl rfl rfl rfl inb_S4x2x8x128x128_S1x1x1x128x128_2_0_3_0_0 inb_S1024x1024_S256x128_512_384 inb_S8x2x256x128_S1x1x256x128_3_0_0_0 _ rfl x, ?_⟩
  refine List.forall_mem_cons.mpr ⟨fun x => s_at x1 x2 xs1 2 2 1 512 256 2 2 1 rfl rfl rfl rfl rfl inb_S4x2x8x128x128_S1x1x1x128x128_2_1_2_0_0 inb_S1024x1024_S256x128_512_256 inb_S8x2x256x128_S1x1x256x128_2_1_0_0 _ rfl x, ?_⟩
  refine List.forall_mem_cons.mpr ⟨fun x => s_at x1 x2 xs1 2 2 0 512 256 2 2 0 rfl rfl rfl rfl rfl inb_S4x2x8x128x128_S1x1x1x128x128_2_0_2_0_0 inb_S1024x1024_S256x128_512_256 inb_S8x2x256x128_S1x1x256x128_2_0_0_0 _ rfl x, ?_⟩
  refine List.forall_mem_cons.mpr ⟨fun x => s_at x1 x2 xs1 2 1 1 512 128 2 1 1 rfl rfl rfl rfl rfl inb_S4x2x8x128x128_S1x1x1x128x128_2_1_1_0_0 inb_S1024x1024_S256x128_512_128 inb_S8x2x256x128_S1x1x256x128_1_1_0_0 _ rfl x, ?_⟩
  refine List.forall_mem_cons.mpr ⟨fun x => s_at x1 x2 xs1 2 1 0 512 128 2 1 0 rfl rfl rfl rfl rfl inb_S4x2x8x128x128_S1x1x1x128x128_2_0_1_0_0 inb_S1024x1024_S256x128_512_128 inb_S8x2x256x128_S1x1x256x128_1_0_0_0 _ rfl x, ?_⟩
  refine List.forall_mem_cons.mpr ⟨fun x => s_at x1 x2 xs1 2 0 1 512 0 2 0 1 rfl rfl rfl rfl rfl inb_S4x2x8x128x128_S1x1x1x128x128_2_1_0_0_0 inb_S1024x1024_S256x128_512_0 inb_S8x2x256x128_S1x1x256x128_0_1_0_0 _ rfl x, ?_⟩
  refine List.forall_mem_cons.mpr ⟨fun x => s_at x1 x2 xs1 2 0 0 512 0 2 0 0 rfl rfl rfl rfl rfl inb_S4x2x8x128x128_S1x1x1x128x128_2_0_0_0_0 inb_S1024x1024_S256x128_512_0 inb_S8x2x256x128_S1x1x256x128_0_0_0_0 _ rfl x, ?_⟩
  refine List.forall_mem_cons.mpr ⟨fun x => s_at x1 x2 xs1 1 7 1 256 896 1 7 1 rfl rfl rfl rfl rfl inb_S4x2x8x128x128_S1x1x1x128x128_1_1_7_0_0 inb_S1024x1024_S256x128_256_896 inb_S8x2x256x128_S1x1x256x128_7_1_0_0 _ rfl x, ?_⟩
  refine List.forall_mem_cons.mpr ⟨fun x => s_at x1 x2 xs1 1 7 0 256 896 1 7 0 rfl rfl rfl rfl rfl inb_S4x2x8x128x128_S1x1x1x128x128_1_0_7_0_0 inb_S1024x1024_S256x128_256_896 inb_S8x2x256x128_S1x1x256x128_7_0_0_0 _ rfl x, ?_⟩
  refine List.forall_mem_cons.mpr ⟨fun x => s_at x1 x2 xs1 1 6 1 256 768 1 6 1 rfl rfl rfl rfl rfl inb_S4x2x8x128x128_S1x1x1x128x128_1_1_6_0_0 inb_S1024x1024_S256x128_256_768 inb_S8x2x256x128_S1x1x256x128_6_1_0_0 _ rfl x, ?_⟩
  refine List.forall_mem_cons.mpr ⟨fun x => s_at x1 x2 xs1 1 6 0 256 768 1 6 0 rfl rfl rfl rfl rfl inb_S4x2x8x128x128_S1x1x1x128x128_1_0_6_0_0 inb_S1024x1024_S256x128_256_768 inb_S8x2x256x128_S1x1x256x128_6_0_0_0 _ rfl x, ?_⟩
  refine List.forall_mem_cons.mpr ⟨fun x => s_at x1 x2 xs1 1 5 1 256 640 1 5 1 rfl rfl rfl rfl rfl inb_S4x2x8x128x128_S1x1x1x128x128_1_1_5_0_0 inb_S1024x1024_S256x128_256_640 inb_S8x2x256x128_S1x1x256x128_5_1_0_0 _ rfl x, ?_⟩
  refine List.forall_mem_cons.mpr ⟨fun x => s_at x1 x2 xs1 1 5 0 256 640 1 5 0 rfl rfl rfl rfl rfl inb_S4x2x8x128x128_S1x1x1x128x128_1_0_5_0_0 inb_S1024x1024_S256x128_256_640 inb_S8x2x256x128_S1x1x256x128_5_0_0_0 _ rfl x, ?_⟩
  refine List.forall_mem_cons.mpr ⟨fun x => s_at x1 x2 xs1 1 4 1 256 512 1 4 1 rfl rfl rfl rfl rfl inb_S4x2x8x128x128_S1x1x1x128x128_1_1_4_0_0 inb_S1024x1024_S256x128_256_512 inb_S8x2x256x128_S1x1x256x128_4_1_0_0 _ rfl x, ?_⟩
  refine List.forall_mem_cons.mpr ⟨fun x => s_at x1 x2 xs1 1 4 0 256 512 1 4 0 rfl rfl rfl rfl rfl inb_S4x2x8x128x128_S1x1x1x128x128_1_0_4_0_0 inb_S1024x1024_S256x128_256_512 inb_S8x2x256x128_S1x1x256x128_4_0_0_0 _ rfl x, ?_⟩
  refine List.forall_mem_cons.mpr ⟨fun x => s_at x1 x2 xs1 1 3 1 256 384 1 3 1 rfl rfl rfl rfl rfl inb_S4x2x8x128x128_S1x1x1x128x128_1_1_3_0_0 inb_S1024x1024_S256x128_256_384 inb_S8x2x256x128_S1x1x256x128_3_1_0_0 _ rfl x, ?_⟩
  refine List.forall_mem_cons.mpr ⟨fun x => s_at x1 x2 xs1 1 3 0 256 384 1 3 0 rfl rfl rfl rfl rfl inb_S4x2x8x128x128_S1x1x1x128x128_1_0_3_0_0 inb_S1024x1024_S256x128_256_384 inb_S8x2x256x128_S1x1x256x128_3_0_0_0 _ rfl x, ?_⟩
  refine List.forall_mem_cons.mpr ⟨fun x => s_at x1 x2 xs1 1 2 1 256 256 1 2 1 rfl rfl rfl rfl rfl inb_S4x2x8x128x128_S1x1x1x128x128_1_1_2_0_0 inb_S1024x1024_S256x128_256_256 inb_S8x2x256x128_S1x1x256x128_2_1_0_0 _ rfl x, ?_⟩
  refine List.forall_mem_cons.mpr ⟨fun x => s_at x1 x2 xs1 1 2 0 256 256 1 2 0 rfl rfl rfl rfl rfl inb_S4x2x8x128x128_S1x1x1x128x128_1_0_2_0_0 inb_S1024x1024_S256x128_256_256 inb_S8x2x256x128_S1x1x256x128_2_0_0_0 _ rfl x, ?_⟩
  refine List.forall_mem_cons.mpr ⟨fun x => s_at x1 x2 xs1 1 1 1 256 128 1 1 1 rfl rfl rfl rfl rfl inb_S4x2x8x128x128_S1x1x1x128x128_1_1_1_0_0 inb_S1024x1024_S256x128_256_128 inb_S8x2x256x128_S1x1x256x128_1_1_0_0 _ rfl x, ?_⟩
  refine List.forall_mem_cons.mpr ⟨fun x => s_at x1 x2 xs1 1 1 0 256 128 1 1 0 rfl rfl rfl rfl rfl inb_S4x2x8x128x128_S1x1x1x128x128_1_0_1_0_0 inb_S1024x1024_S256x128_256_128 inb_S8x2x256x128_S1x1x256x128_1_0_0_0 _ rfl x, ?_⟩
  refine List.forall_mem_cons.mpr ⟨fun x => s_at x1 x2 xs1 1 0 1 256 0 1 0 1 rfl rfl rfl rfl rfl inb_S4x2x8x128x128_S1x1x1x128x128_1_1_0_0_0 inb_S1024x1024_S256x128_256_0 inb_S8x2x256x128_S1x1x256x128_0_1_0_0 _ rfl x, ?_⟩
  refine List.forall_mem_cons.mpr ⟨fun x => s_at x1 x2 xs1 1 0 0 256 0 1 0 0 rfl rfl rfl rfl rfl inb_S4x2x8x128x128_S1x1x1x128x128_1_0_0_0_0 inb_S1024x1024_S256x128_256_0 inb_S8x2x256x128_S1x1x256x128_0_0_0_0 _ rfl x, ?_⟩
  refine List.forall_mem_cons.mpr ⟨fun x => s_at x1 x2 xs1 0 7 1 0 896 0 7 1 rfl rfl rfl rfl rfl inb_S4x2x8x128x128_S1x1x1x128x128_0_1_7_0_0 inb_S1024x1024_S256x128_0_896 inb_S8x2x256x128_S1x1x256x128_7_1_0_0 _ rfl x, ?_⟩
  refine List.forall_mem_cons.mpr ⟨fun x => s_at x1 x2 xs1 0 7 0 0 896 0 7 0 rfl rfl rfl rfl rfl inb_S4x2x8x128x128_S1x1x1x128x128_0_0_7_0_0 inb_S1024x1024_S256x128_0_896 inb_S8x2x256x128_S1x1x256x128_7_0_0_0 _ rfl x, ?_⟩
  refine List.forall_mem_cons.mpr ⟨fun x => s_at x1 x2 xs1 0 6 1 0 768 0 6 1 rfl rfl rfl rfl rfl inb_S4x2x8x128x128_S1x1x1x128x128_0_1_6_0_0 inb_S1024x1024_S256x128_0_768 inb_S8x2x256x128_S1x1x256x128_6_1_0_0 _ rfl x, ?_⟩
  refine List.forall_mem_cons.mpr ⟨fun x => s_at x1 x2 xs1 0 6 0 0 768 0 6 0 rfl rfl rfl rfl rfl inb_S4x2x8x128x128_S1x1x1x128x128_0_0_6_0_0 inb_S1024x1024_S256x128_0_768 inb_S8x2x256x128_S1x1x256x128_6_0_0_0 _ rfl x, ?_⟩
  refine List.forall_mem_cons.mpr ⟨fun x => s_at x1 x2 xs1 0 5 1 0 640 0 5 1 rfl rfl rfl rfl rfl inb_S4x2x8x128x128_S1x1x1x128x128_0_1_5_0_0 inb_S1024x1024_S256x128_0_640 inb_S8x2x256x128_S1x1x256x128_5_1_0_0 _ rfl x, ?_⟩
  refine List.forall_mem_cons.mpr ⟨fun x => s_at x1 x2 xs1 0 5 0 0 640 0 5 0 rfl rfl rfl rfl rfl inb_S4x2x8x128x128_S1x1x1x128x128_0_0_5_0_0 inb_S1024x1024_S256x128_0_640 inb_S8x2x256x128_S1x1x256x128_5_0_0_0 _ rfl x, ?_⟩
  refine List.forall_mem_cons.mpr ⟨fun x => s_at x1 x2 xs1 0 4 1 0 512 0 4 1 rfl rfl rfl rfl rfl inb_S4x2x8x128x128_S1x1x1x128x128_0_1_4_0_0 inb_S1024x1024_S256x128_0_512 inb_S8x2x256x128_S1x1x256x128_4_1_0_0 _ rfl x, ?_⟩
  refine List.forall_mem_cons.mpr ⟨fun x => s_at x1 x2 xs1 0 4 0 0 512 0 4 0 rfl rfl rfl rfl rfl inb_S4x2x8x128x128_S1x1x1x128x128_0_0_4_0_0 inb_S1024x1024_S256x128_0_512 inb_S8x2x256x128_S1x1x256x128_4_0_0_0 _ rfl x, ?_⟩
  refine List.forall_mem_cons.mpr ⟨fun x => s_at x1 x2 xs1 0 3 1 0 384 0 3 1 rfl rfl rfl rfl rfl inb_S4x2x8x128x128_S1x1x1x128x128_0_1_3_0_0 inb_S1024x1024_S256x128_0_384 inb_S8x2x256x128_S1x1x256x128_3_1_0_0 _ rfl x, ?_⟩
  refine List.forall_mem_cons.mpr ⟨fun x => s_at x1 x2 xs1 0 3 0 0 384 0 3 0 rfl rfl rfl rfl rfl inb_S4x2x8x128x128_S1x1x1x128x128_0_0_3_0_0 inb_S1024x1024_S256x128_0_384 inb_S8x2x256x128_S1x1x256x128_3_0_0_0 _ rfl x, ?_⟩
  refine List.forall_mem_cons.mpr ⟨fun x => s_at x1 x2 xs1 0 2 1 0 256 0 2 1 rfl rfl rfl rfl rfl inb_S4x2x8x128x128_S1x1x1x128x128_0_1_2_0_0 inb_S1024x1024_S256x128_0_256 inb_S8x2x256x128_S1x1x256x128_2_1_0_0 _ rfl x, ?_⟩
  refine List.forall_mem_cons.mpr ⟨fun x => s_at x1 x2 xs1 0 2 0 0 256 0 2 0 rfl rfl rfl rfl rfl inb_S4x2x8x128x128_S1x1x1x128x128_0_0_2_0_0 inb_S1024x1024_S256x128_0_256 inb_S8x2x256x128_S1x1x256x128_2_0_0_0 _ rfl x, ?_⟩
  refine List.forall_mem_cons.mpr ⟨fun x => s_at x1 x2 xs1 0 1 1 0 128 0 1 1 rfl rfl rfl rfl rfl inb_S4x2x8x128x128_S1x1x1x128x128_0_1_1_0_0 inb_S1024x1024_S256x128_0_128 inb_S8x2x256x128_S1x1x256x128_1_1_0_0 _ rfl x, ?_⟩
  refine List.forall_mem_cons.mpr ⟨fun x => s_at x1 x2 xs1 0 1 0 0 128 0 1 0 rfl rfl rfl rfl rfl inb_S4x2x8x128x128_S1x1x1x128x128_0_0_1_0_0 inb_S1024x1024_S256x128_0_128 inb_S8x2x256x128_S1x1x256x128_1_0_0_0 _ rfl x, ?_⟩
  refine List.forall_mem_cons.mpr ⟨fun x => s_at x1 x2 xs1 0 0 1 0 0 0 0 1 rfl rfl rfl rfl rfl inb_S4x2x8x128x128_S1x1x1x128x128_0_1_0_0_0 inb_S1024x1024_S256x128_0_0 inb_S8x2x256x128_S1x1x256x128_0_1_0_0 _ rfl x, ?_⟩
  refine List.forall_mem_cons.mpr ⟨fun x => s_at x1 x2 xs1 0 0 0 0 0 0 0 0 rfl rfl rfl rfl rfl inb_S4x2x8x128x128_S1x1x1x128x128_0_0_0_0_0 inb_S1024x1024_S256x128_0_0 inb_S8x2x256x128_S1x1x256x128_0_0_0_0 _ rfl x, ?_⟩
  exact fun p hp => absurd hp List.not_mem_nil

end Cert.KernelIdeal.Hand
-- ==== Proof.Scr.lean ====
module
public import proofs.«01_k».proof.Proof.OutB

@[expose] public section

set_option maxRecDepth 16384
set_option pp.maxSteps 400

noncomputable section

open Idealize.ShloMosaic Idealize.ShloMosaic.TcCoe Idealize.SL.Sem

namespace Cert.KernelIdeal.Hand

open Cert.KernelIdeal Cert.KernelIdeal.Gen

variable {F : FTy → Type} [FloatOps F]

/-- One head's decay logit in one direction, repeated along the lanes. -/
def lgslab (x : Vec F S8x2x1x128 .f32) (b : Fin 8) (r : Fin 2) : Vec F S1x1x1x128 .f32 :=
  fun p => x (ix4 b r (0 : Fin 1) (p 3))

/-- A quarter on the diagonal of a head's decay matrix. -/
def dDiag (lf lb : Vec F S1x1x1x128 .f32) : FVec F S1x128x128 .f32 := k0_pay10 k0_pay2 (k0_pay5 lf) (k0_pay6 lb) (k0_pay7 (F := F)) k0_pay8

/-- The quarter below the diagonal. -/
def dLow (lf : Vec F S1x1x1x128 .f32) : FVec F S1x128x128 .f32 := k0_pay12 (k0_pay3 lf) (k0_pay5 lf)

/-- The quarter above the diagonal. -/
def dUp (lb : Vec F S1x1x1x128 .f32) : FVec F S1x128x128 .f32 := k0_pay11 (k0_pay4 lb) (k0_pay6 lb)

/-- The weights of the forward state. -/
def wFwd (lf : Vec F S1x1x1x128 .f32) : FVec F S1x1x256x128 .f32 := k0_pay16 (k0_pay15 (k0_pay3 lf))

/-- The weights of the backward state. -/
def wBwd (lb : Vec F S1x1x1x128 .f32) : FVec F S1x1x256x128 .f32 := k0_pay17 (k0_pay4 lb) k0_pay14

/-- One quarter of a head's decay matrix, from the head's two logits. -/
def dUnit (lf lb : Vec F S1x1x1x128 .f32) (bi bj : Fin 2) : FVec F S1x128x128 .f32 :=
  if bi.val = bj.val then dDiag lf lb
  else if bj.val < bi.val then dLow lf
  else dUp lb

/-- A head's state weights in one direction, from the head's two logits. -/
def wUnit (lf lb : Vec F S1x1x1x128 .f32) (r : Fin 2) : FVec F S1x1x256x128 .f32 :=
  if r.val = 0 then wFwd lf else wBwd lb

/-- The decay matrices of all heads. -/
def dScr (x : Vec F S8x2x1x128 .f32) : Vec F S8x256x256 .f32 :=
  fun y => dUnit (lgslab x (y 0) 0) (lgslab x (y 0) 1)
    (⟨(y 1).val / 128, by have : (y 1).val < 256 := (y 1).isLt; omega⟩ : Fin 2) (⟨(y 2).val / 128, by have : (y 2).val < 256 := (y 2).isLt; omega⟩ : Fin 2)
    (ix3 (0 : Fin 1) (⟨(y 1).val % 128, Nat.mod_lt _ (by decide)⟩ : Fin 128) (⟨(y 2).val % 128, Nat.mod_lt _ (by decide)⟩ : Fin 128))

/-- The state weights of all heads in both directions. -/
def wScr (x : Vec F S8x2x1x128 .f32) : Vec F S8x2x256x128 .f32 :=
  fun y => wUnit (lgslab x (y 0) 0) (lgslab x (y 0) 1) (y 1) (ix4 (0 : Fin 1) (0 : Fin 1) (y 2) (y 3))

theorem ld_lg (x : Vec F S8x2x1x128 .f32) (b : Fin 8) (r : Fin 2) (o o' : ℕ) (h1 : o = b.val) (h2 : o' = r.val) (inb) :
    View.ld x (Rect.unit ![o, o', 0, 0] ![1, 1, 1, 128] inb) = lgslab x b r := by
  subst h1 h2
  funext p
  exact View.ld_unit_apply_of _ _ _ _ _ _ (fun c => by
    have h : (p 0).val < 1 := (p 0).isLt
    have h' : (p 1).val < 1 := (p 1).isLt
    have h'' : (p 2).val < 1 := (p 2).isLt
    fin_cases c
    · show b.val = b.val + (p 0).val
      omega
    · show r.val = r.val + (p 1).val
      omega
    · show 0 = 0 + (p 2).val
      omega
    · show (p 3).val = 0 + (p 3).val
      omega)

theorem d_at (x4 : Vec F S8x2x1x128 .f32) (b : Fin 8) (bi bj : Fin 2) (o0 o1 o2 : ℕ) (h0 : o0 = b.val) (h1 : o1 = 128 * bi.val) (h2 : o2 = 128 * bj.val) (inb) (inbf) (inbb)
    (u : FVec F S1x128x128 .f32)
    (hu : u = dUnit (View.ld x4 (Rect.unit (s := S8x2x1x128) ![o0, 0, 0, 0] ![1, 1, 1, 128] inbf)) (View.ld x4 (Rect.unit (s := S8x2x1x128) ![o0, 1, 0, 0] ![1, 1, 1, 128] inbb)) bi bj)
    (x : S1x128x128.Idx) : u x = dScr x4 ((Rect.unit (s := S8x256x256) ![o0, o1, o2] ![1, 128, 128] inb).emb x) := by
  rw [hu, ld_lg x4 b 0 o0 0 h0 rfl, ld_lg x4 b 1 o0 1 h0 rfl]
  subst h0 h1 h2
  have hx0 : (x 0).val < 1 := (x 0).isLt
  have hx1 : (x 1).val < 128 := (x 1).isLt
  have hx2 : (x 2).val < 128 := (x 2).isLt
  have e0 : (((Rect.unit (s := S8x256x256) ![b.val, 128 * bi.val, 128 * bj.val] ![1, 128, 128] inb).emb x) 0).val = b.val + (x 0).val := Rect.idx_unit_val _ _ inb x 0
  have e1 : (((Rect.unit (s := S8x256x256) ![b.val, 128 * bi.val, 128 * bj.val] ![1, 128, 128] inb).emb x) 1).val = 128 * bi.val + (x 1).val := Rect.idx_unit_val _ _ inb x 1
  have e2 : (((Rect.unit (s := S8x256x256) ![b.val, 128 * bi.val, 128 * bj.val] ![1, 128, 128] inb).emb x) 2).val = 128 * bj.val + (x 2).val := Rect.idx_unit_val _ _ inb x 2
  unfold dScr
  generalize (Rect.unit (s := S8x256x256) ![b.val, 128 * bi.val, 128 * bj.val] ![1, 128, 128] inb).emb x = y at e0 e1 e2
  have fb : (y 0 : Fin 8) = b := Fin.ext (by omega)
  have ea : (⟨(y 1).val / 128, by have : (y 1).val < 256 := (y 1).isLt; omega⟩ : Fin 2) = bi := Fin.ext (by show (y 1).val / 128 = bi.val; omega)
  have eb : (⟨(y 2).val / 128, by have : (y 2).val < 256 := (y 2).isLt; omega⟩ : Fin 2) = bj := Fin.ext (by show (y 2).val / 128 = bj.val; omega)
  have f0 : (⟨(y 1).val % 128, Nat.mod_lt _ (by decide)⟩ : Fin 128) = x 1 := Fin.ext (by show (y 1).val % 128 = (x 1).val; omega)
  have f1 : (⟨(y 2).val % 128, Nat.mod_lt _ (by decide)⟩ : Fin 128) = x 2 := Fin.ext (by show (y 2).val % 128 = (x 2).val; omega)
  have g0 : (x 0 : Fin 1) = (0 : Fin 1) := @Subsingleton.elim (Fin 1) _ (x 0) 0
  show _ = dUnit (lgslab x4 (y 0 : Fin 8) 0) (lgslab x4 (y 0 : Fin 8) 1) _ _ _
  rw [fb, ea, eb, f0, f1]
  refine congrArg _ ?_
  rw [eq_ix3 x]
  exact congrArg (fun p => ix3 p (x 1 : Fin 128) (x 2 : Fin 128)) g0

theorem w_at (x4 : Vec F S8x2x1x128 .f32) (b : Fin 8) (r : Fin 2) (o0 o1 : ℕ) (h0 : o0 = b.val) (h1 : o1 = r.val) (inb) (inbf) (inbb)
    (u : FVec F S1x1x256x128 .f32)
    (hu : u = wUnit (View.ld x4 (Rect.unit (s := S8x2x1x128) ![o0, 0, 0, 0] ![1, 1, 1, 128] inbf)) (View.ld x4 (Rect.unit (s := S8x2x1x128) ![o0, 1, 0, 0] ![1, 1, 1, 128] inbb)) r)
    (x : S1x1x256x128.Idx) : u x = wScr x4 ((Rect.unit (s := S8x2x256x128) ![o0, o1, 0, 0] ![1, 1, 256, 128] inb).emb x) := by
  rw [hu, ld_lg x4 b 0 o0 0 h0 rfl, ld_lg x4 b 1 o0 1 h0 rfl]
  subst h0 h1
  have hx0 : (x 0).val < 1 := (x 0).isLt
  have hx1 : (x 1).val < 1 := (x 1).isLt
  have e0 : (((Rect.unit (s := S8x2x256x128) ![b.val, r.val, 0, 0] ![1, 1, 256, 128] inb).emb x) 0).val = b.val + (x 0).val := Rect.idx_unit_val _ _ inb x 0
  have e1 : (((Rect.unit (s := S8x2x256x128) ![b.val, r.val, 0, 0] ![1, 1, 256, 128] inb).emb x) 1).val = r.val + (x 1).val := Rect.idx_unit_val _ _ inb x 1
  have e2 : (((Rect.unit (s := S8x2x256x128) ![b.val, r.val, 0, 0] ![1, 1, 256, 128] inb).emb x) 2).val = 0 + (x 2).val := Rect.idx_unit_val _ _ inb x 2
  have e3 : (((Rect.unit (s := S8x2x256x128) ![b.val, r.val, 0, 0] ![1, 1, 256, 128] inb).emb x) 3).val = 0 + (x 3).val := Rect.idx_unit_val _ _ inb x 3
  unfold wScr
  generalize (Rect.unit (s := S8x2x256x128) ![b.val, r.val, 0, 0] ![1, 1, 256, 128] inb).emb x = y at e0 e1 e2 e3
  have fb : (y 0 : Fin 8) = b := Fin.ext (by omega)
  have fr : (y 1 : Fin 2) = r := Fin.ext (by omega)
  have f2 : (y 2 : Fin 256) = x 2 := Fin.ext (by omega)
  have f3 : (y 3 : Fin 128) = x 3 := Fin.ext (by omega)
  have g0 : (x 0 : Fin 1) = (0 : Fin 1) := @Subsingleton.elim (Fin 1) _ (x 0) 0
  have g1 : (x 1 : Fin 1) = (0 : Fin 1) := @Subsingleton.elim (Fin 1) _ (x 1) 0
  have gx : x = ix4 (0 : Fin 1) (0 : Fin 1) (y 2 : Fin 256) (y 3 : Fin 128) := by
    rw [eq_ix4 x, f2, f3]
    exact congrArg₂ (fun p q => ix4 p q (x 2 : Fin 256) (x 3 : Fin 128)) g0 g1
  show _ = wUnit (lgslab x4 (y 0 : Fin 8) 0) (lgslab x4 (y 0 : Fin 8) 1) (y 1 : Fin 2) (ix4 (0 : Fin 1) (0 : Fin 1) (y 2 : Fin 256) (y 3 : Fin 128))
  rw [fb, fr]
  exact congrArg _ gx

theorem d_at_diag (x4 : Vec F S8x2x1x128 .f32) (b : Fin 8) (bi : Fin 2) (o0 o1 : ℕ) (h0 : o0 = b.val) (h1 : o1 = 128 * bi.val) (inb) (inbf) (inbb)
    (u : FVec F S1x128x128 .f32)
    (hu : u = dDiag (View.ld x4 (Rect.unit (s := S8x2x1x128) ![o0, 0, 0, 0] ![1, 1, 1, 128] inbf)) (View.ld x4 (Rect.unit (s := S8x2x1x128) ![o0, 1, 0, 0] ![1, 1, 1, 128] inbb)))
    (x : S1x128x128.Idx) : u x = dScr x4 ((Rect.unit (s := S8x256x256) ![o0, o1, o1] ![1, 128, 128] inb).emb x) :=
  d_at x4 b bi bi o0 o1 o1 h0 h1 h1 inb inbf inbb u (hu.trans (if_pos rfl).symm) x

theorem d_at_low (x4 : Vec F S8x2x1x128 .f32) (b : Fin 8) (o0 : ℕ) (h0 : o0 = b.val) (inb) (inbf)
    (u : FVec F S1x128x128 .f32)
    (hu : u = dLow (View.ld x4 (Rect.unit (s := S8x2x1x128) ![o0, 0, 0, 0] ![1, 1, 1, 128] inbf)))
    (x : S1x128x128.Idx) : u x = dScr x4 ((Rect.unit (s := S8x256x256) ![o0, 128, 0] ![1, 128, 128] inb).emb x) :=
  d_at x4 b 1 0 o0 128 0 h0 rfl rfl inb inbf (fun c => by subst h0; have := b.isLt; fin_cases c <;> simp [S8x2x1x128] <;> omega) u (hu.trans ((if_neg (by decide)).trans (if_pos (by decide))).symm) x

theorem d_at_up (x4 : Vec F S8x2x1x128 .f32) (b : Fin 8) (o0 : ℕ) (h0 : o0 = b.val) (inb) (inbb)
    (u : FVec F S1x128x128 .f32)
    (hu : u = dUp (View.ld x4 (Rect.unit (s := S8x2x1x128) ![o0, 1, 0, 0] ![1, 1, 1, 128] inbb)))
    (x : S1x128x128.Idx) : u x = dScr x4 ((Rect.unit (s := S8x256x256) ![o0, 0, 128] ![1, 128, 128] inb).emb x) :=
  d_at x4 b 0 1 o0 0 128 h0 rfl rfl inb (fun c => by subst h0; have := b.isLt; fin_cases c <;> simp [S8x2x1x128] <;> omega) inbb u (hu.trans ((if_neg (by decide)).trans (if_neg (by decide))).symm) x

theorem w_at_f (x4 : Vec F S8x2x1x128 .f32) (b : Fin 8) (o0 : ℕ) (h0 : o0 = b.val) (inb) (inbf)
    (u : FVec F S1x1x256x128 .f32)
    (hu : u = wFwd (View.ld x4 (Rect.unit (s := S8x2x1x128) ![o0, 0, 0, 0] ![1, 1, 1, 128] inbf)))
    (x : S1x1x256x128.Idx) : u x = wScr x4 ((Rect.unit (s := S8x2x256x128) ![o0, 0, 0, 0] ![1, 1, 256, 128] inb).emb x) :=
  w_at x4 b 0 o0 0 h0 rfl inb inbf (fun c => by subst h0; have := b.isLt; fin_cases c <;> simp [S8x2x1x128] <;> omega) u (hu.trans (if_pos (by decide)).symm) x

theorem w_at_b (x4 : Vec F S8x2x1x128 .f32) (b : Fin 8) (o0 : ℕ) (h0 : o0 = b.val) (inb) (inbb)
    (u : FVec F S1x1x256x128 .f32)
    (hu : u = wBwd (View.ld x4 (Rect.unit (s := S8x2x1x128) ![o0, 1, 0, 0] ![1, 1, 1, 128] inbb)))
    (x : S1x1x256x128.Idx) : u x = wScr x4 ((Rect.unit (s := S8x2x256x128) ![o0, 1, 0, 0] ![1, 1, 256, 128] inb).emb x) :=
  w_at x4 b 1 o0 1 h0 rfl inb (fun c => by subst h0; have := b.isLt; fin_cases c <;> simp [S8x2x1x128] <;> omega) inbb u (hu.trans (if_neg (by decide)).symm) x

/-- A load covered by stores whose contents are known reads those contents. -/
theorem cov_eq {κ : Kind} {sp : Space} {s : Shape} {e : EltTy} (v : View sig κ sp s e) (L : List (View.Piece (Elt F) s e)) (D : s.Idx → Elt F e)
    (hD : ∀ y, View.canon L y = D y) (hc : ∀ y, ∃ p ∈ L, y ∈ p.1.set) (B : LoadRect s) : v.readCov L B = fun j => D (B.idx j) :=
  (View.readCov_eq_canon v L B (fun j => hc _)).trans (funext fun j => hD _)

theorem canon_A_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S8x2x1x128 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S4x2x8x128x128 .f32) (harg9 : arg9.IsWhole) (arg10 : Memref sig .tc .vmem S8x256x256 .f32) (harg10 : arg10.IsWhole) (arg11 : Memref sig .tc .vmem S8x2x256x128 .f32) (harg11 : arg11.IsWhole) (hc0 : cond0_0 i)
    (x0 x1 x2 x3 : Vec F S1024x1024 .bf16) (x4 : Vec F S8x2x1x128 .f32) (x5 : Vec F S1x1024 .f32) (y : S8x256x256.Idx) :
    View.canon (kernelRun0_A c i arg2 harg2 arg3 harg3 arg4 harg4 arg5 harg5 arg6 harg6 arg7 harg7 arg8 harg8 arg9 harg9 arg10 harg10 arg11 harg11 hc0 x0 x1 x2 x3 x4 x5).2.2.1 y = dScr x4 y := by
  refine View.canon_apply_of_pieces (dScr x4) _ ?_ y (scover0_A_0 c i arg2 harg2 arg3 harg3 arg4 harg4 arg5 harg5 arg6 harg6 arg7 harg7 arg8 harg8 arg9 harg9 arg10 harg10 arg11 harg11 hc0 x0 x1 x2 x3 x4 x5 y)
  unfold kernelRun0_A
  dsimp only
  sl_unfold_words
  simp only [View.readAt_eq_ld, Memref.IsWhole.read_unread]
  refine List.forall_mem_cons.mpr ⟨fun x => d_at_diag x4 7 1 7 128 rfl rfl inb_S8x256x256_S1x128x128_7_128_128 inb_S8x2x1x128_S1x1x1x128_7_0_0_0 inb_S8x2x1x128_S1x1x1x128_7_1_0_0 _ (by rfl) x, ?_⟩
  refine List.forall_mem_cons.mpr ⟨fun x => d_at_low x4 7 7 rfl inb_S8x256x256_S1x128x128_7_128_0 inb_S8x2x1x128_S1x1x1x128_7_0_0_0 _ (by rfl) x, ?_⟩
  refine List.forall_mem_cons.mpr ⟨fun x => d_at_up x4 7 7 rfl inb_S8x256x256_S1x128x128_7_0_128 inb_S8x2x1x128_S1x1x1x128_7_1_0_0 _ (by rfl) x, ?_⟩
  refine List.forall_mem_cons.mpr ⟨fun x => d_at_diag x4 7 0 7 0 rfl rfl inb_S8x256x256_S1x128x128_7_0_0 inb_S8x2x1x128_S1x1x1x128_7_0_0_0 inb_S8x2x1x128_S1x1x1x128_7_1_0_0 _ (by rfl) x, ?_⟩
  refine List.forall_mem_cons.mpr ⟨fun x => d_at_diag x4 6 1 6 128 rfl rfl inb_S8x256x256_S1x128x128_6_128_128 inb_S8x2x1x128_S1x1x1x128_6_0_0_0 inb_S8x2x1x128_S1x1x1x128_6_1_0_0 _ (by rfl) x, ?_⟩
  refine List.forall_mem_cons.mpr ⟨fun x => d_at_low x4 6 6 rfl inb_S8x256x256_S1x128x128_6_128_0 inb_S8x2x1x128_S1x1x1x128_6_0_0_0 _ (by rfl) x, ?_⟩
  refine List.forall_mem_cons.mpr ⟨fun x => d_at_up x4 6 6 rfl inb_S8x256x256_S1x128x128_6_0_128 inb_S8x2x1x128_S1x1x1x128_6_1_0_0 _ (by rfl) x, ?_⟩
  refine List.forall_mem_cons.mpr ⟨fun x => d_at_diag x4 6 0 6 0 rfl rfl inb_S8x256x256_S1x128x128_6_0_0 inb_S8x2x1x128_S1x1x1x128_6_0_0_0 inb_S8x2x1x128_S1x1x1x128_6_1_0_0 _ (by rfl) x, ?_⟩
  refine List.forall_mem_cons.mpr ⟨fun x => d_at_diag x4 5 1 5 128 rfl rfl inb_S8x256x256_S1x128x128_5_128_128 inb_S8x2x1x128_S1x1x1x128_5_0_0_0 inb_S8x2x1x128_S1x1x1x128_5_1_0_0 _ (by rfl) x, ?_⟩
  refine List.forall_mem_cons.mpr ⟨fun x => d_at_low x4 5 5 rfl inb_S8x256x256_S1x128x128_5_128_0 inb_S8x2x1x128_S1x1x1x128_5_0_0_0 _ (by rfl) x, ?_⟩
  refine List.forall_mem_cons.mpr ⟨fun x => d_at_up x4 5 5 rfl inb_S8x256x256_S1x128x128_5_0_128 inb_S8x2x1x128_S1x1x1x128_5_1_0_0 _ (by rfl) x, ?_⟩
  refine List.forall_mem_cons.mpr ⟨fun x => d_at_diag x4 5 0 5 0 rfl rfl inb_S8x256x256_S1x128x128_5_0_0 inb_S8x2x1x128_S1x1x1x128_5_0_0_0 inb_S8x2x1x128_S1x1x1x128_5_1_0_0 _ (by rfl) x, ?_⟩
  refine List.forall_mem_cons.mpr ⟨fun x => d_at_diag x4 4 1 4 128 rfl rfl inb_S8x256x256_S1x128x128_4_128_128 inb_S8x2x1x128_S1x1x1x128_4_0_0_0 inb_S8x2x1x128_S1x1x1x128_4_1_0_0 _ (by rfl) x, ?_⟩
  refine List.forall_mem_cons.mpr ⟨fun x => d_at_low x4 4 4 rfl inb_S8x256x256_S1x128x128_4_128_0 inb_S8x2x1x128_S1x1x1x128_4_0_0_0 _ (by rfl) x, ?_⟩
  refine List.forall_mem_cons.mpr ⟨fun x => d_at_up x4 4 4 rfl inb_S8x256x256_S1x128x128_4_0_128 inb_S8x2x1x128_S1x1x1x128_4_1_0_0 _ (by rfl) x, ?_⟩
  refine List.forall_mem_cons.mpr ⟨fun x => d_at_diag x4 4 0 4 0 rfl rfl inb_S8x256x256_S1x128x128_4_0_0 inb_S8x2x1x128_S1x1x1x128_4_0_0_0 inb_S8x2x1x128_S1x1x1x128_4_1_0_0 _ (by rfl) x, ?_⟩
  refine List.forall_mem_cons.mpr ⟨fun x => d_at_diag x4 3 1 3 128 rfl rfl inb_S8x256x256_S1x128x128_3_128_128 inb_S8x2x1x128_S1x1x1x128_3_0_0_0 inb_S8x2x1x128_S1x1x1x128_3_1_0_0 _ (by rfl) x, ?_⟩
  refine List.forall_mem_cons.mpr ⟨fun x => d_at_low x4 3 3 rfl inb_S8x256x256_S1x128x128_3_128_0 inb_S8x2x1x128_S1x1x1x128_3_0_0_0 _ (by rfl) x, ?_⟩
  refine List.forall_mem_cons.mpr ⟨fun x => d_at_up x4 3 3 rfl inb_S8x256x256_S1x128x128_3_0_128 inb_S8x2x1x128_S1x1x1x128_3_1_0_0 _ (by rfl) x, ?_⟩
  refine List.forall_mem_cons.mpr ⟨fun x => d_at_diag x4 3 0 3 0 rfl rfl inb_S8x256x256_S1x128x128_3_0_0 inb_S8x2x1x128_S1x1x1x128_3_0_0_0 inb_S8x2x1x128_S1x1x1x128_3_1_0_0 _ (by rfl) x, ?_⟩
  refine List.forall_mem_cons.mpr ⟨fun x => d_at_diag x4 2 1 2 128 rfl rfl inb_S8x256x256_S1x128x128_2_128_128 inb_S8x2x1x128_S1x1x1x128_2_0_0_0 inb_S8x2x1x128_S1x1x1x128_2_1_0_0 _ (by rfl) x, ?_⟩
  refine List.forall_mem_cons.mpr ⟨fun x => d_at_low x4 2 2 rfl inb_S8x256x256_S1x128x128_2_128_0 inb_S8x2x1x128_S1x1x1x128_2_0_0_0 _ (by rfl) x, ?_⟩
  refine List.forall_mem_cons.mpr ⟨fun x => d_at_up x4 2 2 rfl inb_S8x256x256_S1x128x128_2_0_128 inb_S8x2x1x128_S1x1x1x128_2_1_0_0 _ (by rfl) x, ?_⟩
  refine List.forall_mem_cons.mpr ⟨fun x => d_at_diag x4 2 0 2 0 rfl rfl inb_S8x256x256_S1x128x128_2_0_0 inb_S8x2x1x128_S1x1x1x128_2_0_0_0 inb_S8x2x1x128_S1x1x1x128_2_1_0_0 _ (by rfl) x, ?_⟩
  refine List.forall_mem_cons.mpr ⟨fun x => d_at_diag x4 1 1 1 128 rfl rfl inb_S8x256x256_S1x128x128_1_128_128 inb_S8x2x1x128_S1x1x1x128_1_0_0_0 inb_S8x2x1x128_S1x1x1x128_1_1_0_0 _ (by rfl) x, ?_⟩
  refine List.forall_mem_cons.mpr ⟨fun x => d_at_low x4 1 1 rfl inb_S8x256x256_S1x128x128_1_128_0 inb_S8x2x1x128_S1x1x1x128_1_0_0_0 _ (by rfl) x, ?_⟩
  refine List.forall_mem_cons.mpr ⟨fun x => d_at_up x4 1 1 rfl inb_S8x256x256_S1x128x128_1_0_128 inb_S8x2x1x128_S1x1x1x128_1_1_0_0 _ (by rfl) x, ?_⟩
  refine List.forall_mem_cons.mpr ⟨fun x => d_at_diag x4 1 0 1 0 rfl rfl inb_S8x256x256_S1x128x128_1_0_0 inb_S8x2x1x128_S1x1x1x128_1_0_0_0 inb_S8x2x1x128_S1x1x1x128_1_1_0_0 _ (by rfl) x, ?_⟩
  refine List.forall_mem_cons.mpr ⟨fun x => d_at_diag x4 0 1 0 128 rfl rfl inb_S8x256x256_S1x128x128_0_128_128 inb_S8x2x1x128_S1x1x1x128_0_0_0_0 inb_S8x2x1x128_S1x1x1x128_0_1_0_0 _ (by rfl) x, ?_⟩
  refine List.forall_mem_cons.mpr ⟨fun x => d_at_low x4 0 0 rfl inb_S8x256x256_S1x128x128_0_128_0 inb_S8x2x1x128_S1x1x1x128_0_0_0_0 _ (by rfl) x, ?_⟩
  refine List.forall_mem_cons.mpr ⟨fun x => d_at_up x4 0 0 rfl inb_S8x256x256_S1x128x128_0_0_128 inb_S8x2x1x128_S1x1x1x128_0_1_0_0 _ (by rfl) x, ?_⟩
  refine List.forall_mem_cons.mpr ⟨fun x => d_at_diag x4 0 0 0 0 rfl rfl inb_S8x256x256_S1x128x128_0_0_0 inb_S8x2x1x128_S1x1x1x128_0_0_0_0 inb_S8x2x1x128_S1x1x1x128_0_1_0_0 _ (by rfl) x, ?_⟩
  exact fun p hp => absurd hp List.not_mem_nil

theorem canon_A_1 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S8x2x1x128 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S4x2x8x128x128 .f32) (harg9 : arg9.IsWhole) (arg10 : Memref sig .tc .vmem S8x256x256 .f32) (harg10 : arg10.IsWhole) (arg11 : Memref sig .tc .vmem S8x2x256x128 .f32) (harg11 : arg11.IsWhole) (hc0 : cond0_0 i)
    (x0 x1 x2 x3 : Vec F S1024x1024 .bf16) (x4 : Vec F S8x2x1x128 .f32) (x5 : Vec F S1x1024 .f32) (y : S8x2x256x128.Idx) :
    View.canon (kernelRun0_A c i arg2 harg2 arg3 harg3 arg4 harg4 arg5 harg5 arg6 harg6 arg7 harg7 arg8 harg8 arg9 harg9 arg10 harg10 arg11 harg11 hc0 x0 x1 x2 x3 x4 x5).2.2.2.1 y = wScr x4 y := by
  refine View.canon_apply_of_pieces (wScr x4) _ ?_ y (scover0_A_1 c i arg2 harg2 arg3 harg3 arg4 harg4 arg5 harg5 arg6 harg6 arg7 harg7 arg8 harg8 arg9 harg9 arg10 harg10 arg11 harg11 hc0 x0 x1 x2 x3 x4 x5 y)
  unfold kernelRun0_A
  dsimp only
  sl_unfold_words
  simp only [View.readAt_eq_ld, Memref.IsWhole.read_unread]
  refine List.forall_mem_cons.mpr ⟨fun x => w_at_b x4 7 7 rfl inb_S8x2x256x128_S1x1x256x128_7_1_0_0 inb_S8x2x1x128_S1x1x1x128_7_1_0_0 _ (by rfl) x, ?_⟩
  refine List.forall_mem_cons.mpr ⟨fun x => w_at_f x4 7 7 rfl inb_S8x2x256x128_S1x1x256x128_7_0_0_0 inb_S8x2x1x128_S1x1x1x128_7_0_0_0 _ (by rfl) x, ?_⟩
  refine List.forall_mem_cons.mpr ⟨fun x => w_at_b x4 6 6 rfl inb_S8x2x256x128_S1x1x256x128_6_1_0_0 inb_S8x2x1x128_S1x1x1x128_6_1_0_0 _ (by rfl) x, ?_⟩
  refine List.forall_mem_cons.mpr ⟨fun x => w_at_f x4 6 6 rfl inb_S8x2x256x128_S1x1x256x128_6_0_0_0 inb_S8x2x1x128_S1x1x1x128_6_0_0_0 _ (by rfl) x, ?_⟩
  refine List.forall_mem_cons.mpr ⟨fun x => w_at_b x4 5 5 rfl inb_S8x2x256x128_S1x1x256x128_5_1_0_0 inb_S8x2x1x128_S1x1x1x128_5_1_0_0 _ (by rfl) x, ?_⟩
  refine List.forall_mem_cons.mpr ⟨fun x => w_at_f x4 5 5 rfl inb_S8x2x256x128_S1x1x256x128_5_0_0_0 inb_S8x2x1x128_S1x1x1x128_5_0_0_0 _ (by rfl) x, ?_⟩
  refine List.forall_mem_cons.mpr ⟨fun x => w_at_b x4 4 4 rfl inb_S8x2x256x128_S1x1x256x128_4_1_0_0 inb_S8x2x1x128_S1x1x1x128_4_1_0_0 _ (by rfl) x, ?_⟩
  refine List.forall_mem_cons.mpr ⟨fun x => w_at_f x4 4 4 rfl inb_S8x2x256x128_S1x1x256x128_4_0_0_0 inb_S8x2x1x128_S1x1x1x128_4_0_0_0 _ (by rfl) x, ?_⟩
  refine List.forall_mem_cons.mpr ⟨fun x => w_at_b x4 3 3 rfl inb_S8x2x256x128_S1x1x256x128_3_1_0_0 inb_S8x2x1x128_S1x1x1x128_3_1_0_0 _ (by rfl) x, ?_⟩
  refine List.forall_mem_cons.mpr ⟨fun x => w_at_f x4 3 3 rfl inb_S8x2x256x128_S1x1x256x128_3_0_0_0 inb_S8x2x1x128_S1x1x1x128_3_0_0_0 _ (by rfl) x, ?_⟩
  refine List.forall_mem_cons.mpr ⟨fun x => w_at_b x4 2 2 rfl inb_S8x2x256x128_S1x1x256x128_2_1_0_0 inb_S8x2x1x128_S1x1x1x128_2_1_0_0 _ (by rfl) x, ?_⟩
  refine List.forall_mem_cons.mpr ⟨fun x => w_at_f x4 2 2 rfl inb_S8x2x256x128_S1x1x256x128_2_0_0_0 inb_S8x2x1x128_S1x1x1x128_2_0_0_0 _ (by rfl) x, ?_⟩
  refine List.forall_mem_cons.mpr ⟨fun x => w_at_b x4 1 1 rfl inb_S8x2x256x128_S1x1x256x128_1_1_0_0 inb_S8x2x1x128_S1x1x1x128_1_1_0_0 _ (by rfl) x, ?_⟩
  refine List.forall_mem_cons.mpr ⟨fun x => w_at_f x4 1 1 rfl inb_S8x2x256x128_S1x1x256x128_1_0_0_0 inb_S8x2x1x128_S1x1x1x128_1_0_0_0 _ (by rfl) x, ?_⟩
  refine List.forall_mem_cons.mpr ⟨fun x => w_at_b x4 0 0 rfl inb_S8x2x256x128_S1x1x256x128_0_1_0_0 inb_S8x2x1x128_S1x1x1x128_0_1_0_0 _ (by rfl) x, ?_⟩
  refine List.forall_mem_cons.mpr ⟨fun x => w_at_f x4 0 0 rfl inb_S8x2x256x128_S1x1x256x128_0_0_0_0 inb_S8x2x1x128_S1x1x1x128_0_0_0_0 _ (by rfl) x, ?_⟩
  exact fun p hp => absurd hp List.not_mem_nil

end Cert.KernelIdeal.Hand
-- ==== Proof.OutA.lean ====
module
public import proofs.«01_k».proof.Proof.Scr

@[expose] public section

set_option maxRecDepth 16384
set_option pp.maxSteps 400

noncomputable section

open Idealize.ShloMosaic Idealize.ShloMosaic.TcCoe Idealize.SL.Sem

namespace Cert.KernelIdeal.Hand

open Cert.KernelIdeal Cert.KernelIdeal.Gen

variable {F : FTy → Type} [FloatOps F]

theorem sout_A_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S8x2x1x128 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S4x2x8x128x128 .f32) (harg9 : arg9.IsWhole) (arg10 : Memref sig .tc .vmem S8x256x256 .f32) (harg10 : arg10.IsWhole) (arg11 : Memref sig .tc .vmem S8x2x256x128 .f32) (harg11 : arg11.IsWhole) (hc0 : cond0_0 i)
    (x0 x1 x2 x3 : Vec F S1024x1024 .bf16) (x4 : Vec F S8x2x1x128 .f32) (x5 : Vec F S1x1024 .f32) :
    sout0_A_0 c i arg2 harg2 arg3 harg3 arg4 harg4 arg5 harg5 arg6 harg6 arg7 harg7 arg8 harg8 arg9 harg9 arg10 harg10 arg11 harg11 hc0 x0 x1 x2 x3 x4 x5 = dScr x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5)]
  exact funext (canon_A_0 c i arg2 harg2 arg3 harg3 arg4 harg4 arg5 harg5 arg6 harg6 arg7 harg7 arg8 harg8 arg9 harg9 arg10 harg10 arg11 harg11 hc0 x0 x1 x2 x3 x4 x5)

theorem sout_A_1 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S8x2x1x128 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S4x2x8x128x128 .f32) (harg9 : arg9.IsWhole) (arg10 : Memref sig .tc .vmem S8x256x256 .f32) (harg10 : arg10.IsWhole) (arg11 : Memref sig .tc .vmem S8x2x256x128 .f32) (harg11 : arg11.IsWhole) (hc0 : cond0_0 i)
    (x0 x1 x2 x3 : Vec F S1024x1024 .bf16) (x4 : Vec F S8x2x1x128 .f32) (x5 : Vec F S1x1024 .f32) :
    sout0_A_1 c i arg2 harg2 arg3 harg3 arg4 harg4 arg5 harg5 arg6 harg6 arg7 harg7 arg8 harg8 arg9 harg9 arg10 harg10 arg11 harg11 hc0 x0 x1 x2 x3 x4 x5 = wScr x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5)]
  exact funext (canon_A_1 c i arg2 harg2 arg3 harg3 arg4 harg4 arg5 harg5 arg6 harg6 arg7 harg7 arg8 harg8 arg9 harg9 arg10 harg10 arg11 harg11 hc0 x0 x1 x2 x3 x4 x5)

theorem out_A_6 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S8x2x1x128 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S4x2x8x128x128 .f32) (harg9 : arg9.IsWhole) (arg10 : Memref sig .tc .vmem S8x256x256 .f32) (harg10 : arg10.IsWhole) (arg11 : Memref sig .tc .vmem S8x2x256x128 .f32) (harg11 : arg11.IsWhole) (hc0 : cond0_0 i)
    (x0 x1 x2 x3 : Vec F S1024x1024 .bf16) (x4 : Vec F S8x2x1x128 .f32) (x5 : Vec F S1x1024 .f32) :
    out0_A_6 c i arg2 harg2 arg3 harg3 arg4 harg4 arg5 harg5 arg6 harg6 arg7 harg7 arg8 harg8 arg9 harg9 arg10 harg10 arg11 harg11 hc0 x0 x1 x2 x3 x4 x5 = yBlock x0 x1 x2 x3 x5 (dScr x4) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2 x3 x4 x5)]
  funext y
  refine View.canon_apply_of_pieces (yBlock x0 x1 x2 x3 x5 (dScr x4)) _ ?_ y (cover0_A_6 c i arg2 harg2 arg3 harg3 arg4 harg4 arg5 harg5 arg6 harg6 arg7 harg7 arg8 harg8 arg9 harg9 arg10 harg10 arg11 harg11 hc0 x0 x1 x2 x3 x4 x5 y)
  have key := canon_A_0 c i arg2 harg2 arg3 harg3 arg4 harg4 arg5 harg5 arg6 harg6 arg7 harg7 arg8 harg8 arg9 harg9 arg10 harg10 arg11 harg11 hc0 x0 x1 x2 x3 x4 x5
  have kc := scover0_A_0 c i arg2 harg2 arg3 harg3 arg4 harg4 arg5 harg5 arg6 harg6 arg7 harg7 arg8 harg8 arg9 harg9 arg10 harg10 arg11 harg11 hc0 x0 x1 x2 x3 x4 x5
  revert key kc
  unfold kernelRun0_A
  dsimp only
  sl_unfold_words
  simp only [View.readAt_eq_ld, Memref.IsWhole.read_unread]
  intro key kc
  have rd := cov_eq arg10.view _ _ key kc
  simp only [rd]
  clear rd key kc
  refine List.forall_mem_cons.mpr ⟨fun x => y_at x0 x1 x2 x3 x5 (dScr x4) 3 7 768 896 7 rfl rfl rfl inb_S1024x1024_S256x128_768_896 inb_S8x256x256_S1x256x256_7_0_0 inb_S1x1024_S1x128_0_896 _ rfl x, ?_⟩
  refine List.forall_mem_cons.mpr ⟨fun x => y_at x0 x1 x2 x3 x5 (dScr x4) 3 6 768 768 6 rfl rfl rfl inb_S1024x1024_S256x128_768_768 inb_S8x256x256_S1x256x256_6_0_0 inb_S1x1024_S1x128_0_768 _ rfl x, ?_⟩
  refine List.forall_mem_cons.mpr ⟨fun x => y_at x0 x1 x2 x3 x5 (dScr x4) 3 5 768 640 5 rfl rfl rfl inb_S1024x1024_S256x128_768_640 inb_S8x256x256_S1x256x256_5_0_0 inb_S1x1024_S1x128_0_640 _ rfl x, ?_⟩
  refine List.forall_mem_cons.mpr ⟨fun x => y_at x0 x1 x2 x3 x5 (dScr x4) 3 4 768 512 4 rfl rfl rfl inb_S1024x1024_S256x128_768_512 inb_S8x256x256_S1x256x256_4_0_0 inb_S1x1024_S1x128_0_512 _ rfl x, ?_⟩
  refine List.forall_mem_cons.mpr ⟨fun x => y_at x0 x1 x2 x3 x5 (dScr x4) 3 3 768 384 3 rfl rfl rfl inb_S1024x1024_S256x128_768_384 inb_S8x256x256_S1x256x256_3_0_0 inb_S1x1024_S1x128_0_384 _ rfl x, ?_⟩
  refine List.forall_mem_cons.mpr ⟨fun x => y_at x0 x1 x2 x3 x5 (dScr x4) 3 2 768 256 2 rfl rfl rfl inb_S1024x1024_S256x128_768_256 inb_S8x256x256_S1x256x256_2_0_0 inb_S1x1024_S1x128_0_256 _ rfl x, ?_⟩
  refine List.forall_mem_cons.mpr ⟨fun x => y_at x0 x1 x2 x3 x5 (dScr x4) 3 1 768 128 1 rfl rfl rfl inb_S1024x1024_S256x128_768_128 inb_S8x256x256_S1x256x256_1_0_0 inb_S1x1024_S1x128_0_128 _ rfl x, ?_⟩
  refine List.forall_mem_cons.mpr ⟨fun x => y_at x0 x1 x2 x3 x5 (dScr x4) 3 0 768 0 0 rfl rfl rfl inb_S1024x1024_S256x128_768_0 inb_S8x256x256_S1x256x256_0_0_0 inb_S1x1024_S1x128_0_0 _ rfl x, ?_⟩
  refine List.forall_mem_cons.mpr ⟨fun x => y_at x0 x1 x2 x3 x5 (dScr x4) 2 7 512 896 7 rfl rfl rfl inb_S1024x1024_S256x128_512_896 inb_S8x256x256_S1x256x256_7_0_0 inb_S1x1024_S1x128_0_896 _ rfl x, ?_⟩
  refine List.forall_mem_cons.mpr ⟨fun x => y_at x0 x1 x2 x3 x5 (dScr x4) 2 6 512 768 6 rfl rfl rfl inb_S1024x1024_S256x128_512_768 inb_S8x256x256_S1x256x256_6_0_0 inb_S1x1024_S1x128_0_768 _ rfl x, ?_⟩
  refine List.forall_mem_cons.mpr ⟨fun x => y_at x0 x1 x2 x3 x5 (dScr x4) 2 5 512 640 5 rfl rfl rfl inb_S1024x1024_S256x128_512_640 inb_S8x256x256_S1x256x256_5_0_0 inb_S1x1024_S1x128_0_640 _ rfl x, ?_⟩
  refine List.forall_mem_cons.mpr ⟨fun x => y_at x0 x1 x2 x3 x5 (dScr x4) 2 4 512 512 4 rfl rfl rfl inb_S1024x1024_S256x128_512_512 inb_S8x256x256_S1x256x256_4_0_0 inb_S1x1024_S1x128_0_512 _ rfl x, ?_⟩
  refine List.forall_mem_cons.mpr ⟨fun x => y_at x0 x1 x2 x3 x5 (dScr x4) 2 3 512 384 3 rfl rfl rfl inb_S1024x1024_S256x128_512_384 inb_S8x256x256_S1x256x256_3_0_0 inb_S1x1024_S1x128_0_384 _ rfl x, ?_⟩
  refine List.forall_mem_cons.mpr ⟨fun x => y_at x0 x1 x2 x3 x5 (dScr x4) 2 2 512 256 2 rfl rfl rfl inb_S1024x1024_S256x128_512_256 inb_S8x256x256_S1x256x256_2_0_0 inb_S1x1024_S1x128_0_256 _ rfl x, ?_⟩
  refine List.forall_mem_cons.mpr ⟨fun x => y_at x0 x1 x2 x3 x5 (dScr x4) 2 1 512 128 1 rfl rfl rfl inb_S1024x1024_S256x128_512_128 inb_S8x256x256_S1x256x256_1_0_0 inb_S1x1024_S1x128_0_128 _ rfl x, ?_⟩
  refine List.forall_mem_cons.mpr ⟨fun x => y_at x0 x1 x2 x3 x5 (dScr x4) 2 0 512 0 0 rfl rfl rfl inb_S1024x1024_S256x128_512_0 inb_S8x256x256_S1x256x256_0_0_0 inb_S1x1024_S1x128_0_0 _ rfl x, ?_⟩
  refine List.forall_mem_cons.mpr ⟨fun x => y_at x0 x1 x2 x3 x5 (dScr x4) 1 7 256 896 7 rfl rfl rfl inb_S1024x1024_S256x128_256_896 inb_S8x256x256_S1x256x256_7_0_0 inb_S1x1024_S1x128_0_896 _ rfl x, ?_⟩
  refine List.forall_mem_cons.mpr ⟨fun x => y_at x0 x1 x2 x3 x5 (dScr x4) 1 6 256 768 6 rfl rfl rfl inb_S1024x1024_S256x128_256_768 inb_S8x256x256_S1x256x256_6_0_0 inb_S1x1024_S1x128_0_768 _ rfl x, ?_⟩
  refine List.forall_mem_cons.mpr ⟨fun x => y_at x0 x1 x2 x3 x5 (dScr x4) 1 5 256 640 5 rfl rfl rfl inb_S1024x1024_S256x128_256_640 inb_S8x256x256_S1x256x256_5_0_0 inb_S1x1024_S1x128_0_640 _ rfl x, ?_⟩
  refine List.forall_mem_cons.mpr ⟨fun x => y_at x0 x1 x2 x3 x5 (dScr x4) 1 4 256 512 4 rfl rfl rfl inb_S1024x1024_S256x128_256_512 inb_S8x256x256_S1x256x256_4_0_0 inb_S1x1024_S1x128_0_512 _ rfl x, ?_⟩
  refine List.forall_mem_cons.mpr ⟨fun x => y_at x0 x1 x2 x3 x5 (dScr x4) 1 3 256 384 3 rfl rfl rfl inb_S1024x1024_S256x128_256_384 inb_S8x256x256_S1x256x256_3_0_0 inb_S1x1024_S1x128_0_384 _ rfl x, ?_⟩
  refine List.forall_mem_cons.mpr ⟨fun x => y_at x0 x1 x2 x3 x5 (dScr x4) 1 2 256 256 2 rfl rfl rfl inb_S1024x1024_S256x128_256_256 inb_S8x256x256_S1x256x256_2_0_0 inb_S1x1024_S1x128_0_256 _ rfl x, ?_⟩
  refine List.forall_mem_cons.mpr ⟨fun x => y_at x0 x1 x2 x3 x5 (dScr x4) 1 1 256 128 1 rfl rfl rfl inb_S1024x1024_S256x128_256_128 inb_S8x256x256_S1x256x256_1_0_0 inb_S1x1024_S1x128_0_128 _ rfl x, ?_⟩
  refine List.forall_mem_cons.mpr ⟨fun x => y_at x0 x1 x2 x3 x5 (dScr x4) 1 0 256 0 0 rfl rfl rfl inb_S1024x1024_S256x128_256_0 inb_S8x256x256_S1x256x256_0_0_0 inb_S1x1024_S1x128_0_0 _ rfl x, ?_⟩
  refine List.forall_mem_cons.mpr ⟨fun x => y_at x0 x1 x2 x3 x5 (dScr x4) 0 7 0 896 7 rfl rfl rfl inb_S1024x1024_S256x128_0_896 inb_S8x256x256_S1x256x256_7_0_0 inb_S1x1024_S1x128_0_896 _ rfl x, ?_⟩
  refine List.forall_mem_cons.mpr ⟨fun x => y_at x0 x1 x2 x3 x5 (dScr x4) 0 6 0 768 6 rfl rfl rfl inb_S1024x1024_S256x128_0_768 inb_S8x256x256_S1x256x256_6_0_0 inb_S1x1024_S1x128_0_768 _ rfl x, ?_⟩
  refine List.forall_mem_cons.mpr ⟨fun x => y_at x0 x1 x2 x3 x5 (dScr x4) 0 5 0 640 5 rfl rfl rfl inb_S1024x1024_S256x128_0_640 inb_S8x256x256_S1x256x256_5_0_0 inb_S1x1024_S1x128_0_640 _ rfl x, ?_⟩
  refine List.forall_mem_cons.mpr ⟨fun x => y_at x0 x1 x2 x3 x5 (dScr x4) 0 4 0 512 4 rfl rfl rfl inb_S1024x1024_S256x128_0_512 inb_S8x256x256_S1x256x256_4_0_0 inb_S1x1024_S1x128_0_512 _ rfl x, ?_⟩
  refine List.forall_mem_cons.mpr ⟨fun x => y_at x0 x1 x2 x3 x5 (dScr x4) 0 3 0 384 3 rfl rfl rfl inb_S1024x1024_S256x128_0_384 inb_S8x256x256_S1x256x256_3_0_0 inb_S1x1024_S1x128_0_384 _ rfl x, ?_⟩
  refine List.forall_mem_cons.mpr ⟨fun x => y_at x0 x1 x2 x3 x5 (dScr x4) 0 2 0 256 2 rfl rfl rfl inb_S1024x1024_S256x128_0_256 inb_S8x256x256_S1x256x256_2_0_0 inb_S1x1024_S1x128_0_256 _ rfl x, ?_⟩
  refine List.forall_mem_cons.mpr ⟨fun x => y_at x0 x1 x2 x3 x5 (dScr x4) 0 1 0 128 1 rfl rfl rfl inb_S1024x1024_S256x128_0_128 inb_S8x256x256_S1x256x256_1_0_0 inb_S1x1024_S1x128_0_128 _ rfl x, ?_⟩
  refine List.forall_mem_cons.mpr ⟨fun x => y_at x0 x1 x2 x3 x5 (dScr x4) 0 0 0 0 0 rfl rfl rfl inb_S1024x1024_S256x128_0_0 inb_S8x256x256_S1x256x256_0_0_0 inb_S1x1024_S1x128_0_0 _ rfl x, ?_⟩
  exact fun p hp => absurd hp List.not_mem_nil

theorem out_A_7 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S8x2x1x128 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S4x2x8x128x128 .f32) (harg9 : arg9.IsWhole) (arg10 : Memref sig .tc .vmem S8x256x256 .f32) (harg10 : arg10.IsWhole) (arg11 : Memref sig .tc .vmem S8x2x256x128 .f32) (harg11 : arg11.IsWhole) (hc0 : cond0_0 i)
    (x0 x1 x2 x3 : Vec F S1024x1024 .bf16) (x4 : Vec F S8x2x1x128 .f32) (x5 : Vec F S1x1024 .f32) :
    out0_A_7 c i arg2 harg2 arg3 harg3 arg4 harg4 arg5 harg5 arg6 harg6 arg7 harg7 arg8 harg8 arg9 harg9 arg10 harg10 arg11 harg11 hc0 x0 x1 x2 x3 x4 x5 = sBlock x1 x2 (wScr x4) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5)]
  funext y
  refine View.canon_apply_of_pieces (sBlock x1 x2 (wScr x4)) _ ?_ y (cover0_A_7 c i arg2 harg2 arg3 harg3 arg4 harg4 arg5 harg5 arg6 harg6 arg7 harg7 arg8 harg8 arg9 harg9 arg10 harg10 arg11 harg11 hc0 x0 x1 x2 x3 x4 x5 y)
  have key := canon_A_1 c i arg2 harg2 arg3 harg3 arg4 harg4 arg5 harg5 arg6 harg6 arg7 harg7 arg8 harg8 arg9 harg9 arg10 harg10 arg11 harg11 hc0 x0 x1 x2 x3 x4 x5
  have kc := scover0_A_1 c i arg2 harg2 arg3 harg3 arg4 harg4 arg5 harg5 arg6 harg6 arg7 harg7 arg8 harg8 arg9 harg9 arg10 harg10 arg11 harg11 hc0 x0 x1 x2 x3 x4 x5
  revert key kc
  unfold kernelRun0_A
  dsimp only
  sl_unfold_words
  simp only [View.readAt_eq_ld, Memref.IsWhole.read_unread]
  intro key kc
  have rd := cov_eq arg11.view _ _ key kc
  simp only [rd]
  clear rd key kc
  refine List.forall_mem_cons.mpr ⟨fun x => s_at x1 x2 (wScr x4) 3 7 1 768 896 3 7 1 rfl rfl rfl rfl rfl inb_S4x2x8x128x128_S1x1x1x128x128_3_1_7_0_0 inb_S1024x1024_S256x128_768_896 inb_S8x2x256x128_S1x1x256x128_7_1_0_0 _ rfl x, ?_⟩
  refine List.forall_mem_cons.mpr ⟨fun x => s_at x1 x2 (wScr x4) 3 7 0 768 896 3 7 0 rfl rfl rfl rfl rfl inb_S4x2x8x128x128_S1x1x1x128x128_3_0_7_0_0 inb_S1024x1024_S256x128_768_896 inb_S8x2x256x128_S1x1x256x128_7_0_0_0 _ rfl x, ?_⟩
  refine List.forall_mem_cons.mpr ⟨fun x => s_at x1 x2 (wScr x4) 3 6 1 768 768 3 6 1 rfl rfl rfl rfl rfl inb_S4x2x8x128x128_S1x1x1x128x128_3_1_6_0_0 inb_S1024x1024_S256x128_768_768 inb_S8x2x256x128_S1x1x256x128_6_1_0_0 _ rfl x, ?_⟩
  refine List.forall_mem_cons.mpr ⟨fun x => s_at x1 x2 (wScr x4) 3 6 0 768 768 3 6 0 rfl rfl rfl rfl rfl inb_S4x2x8x128x128_S1x1x1x128x128_3_0_6_0_0 inb_S1024x1024_S256x128_768_768 inb_S8x2x256x128_S1x1x256x128_6_0_0_0 _ rfl x, ?_⟩
  refine List.forall_mem_cons.mpr ⟨fun x => s_at x1 x2 (wScr x4) 3 5 1 768 640 3 5 1 rfl rfl rfl rfl rfl inb_S4x2x8x128x128_S1x1x1x128x128_3_1_5_0_0 inb_S1024x1024_S256x128_768_640 inb_S8x2x256x128_S1x1x256x128_5_1_0_0 _ rfl x, ?_⟩
  refine List.forall_mem_cons.mpr ⟨fun x => s_at x1 x2 (wScr x4) 3 5 0 768 640 3 5 0 rfl rfl rfl rfl rfl inb_S4x2x8x128x128_S1x1x1x128x128_3_0_5_0_0 inb_S1024x1024_S256x128_768_640 inb_S8x2x256x128_S1x1x256x128_5_0_0_0 _ rfl x, ?_⟩
  refine List.forall_mem_cons.mpr ⟨fun x => s_at x1 x2 (wScr x4) 3 4 1 768 512 3 4 1 rfl rfl rfl rfl rfl inb_S4x2x8x128x128_S1x1x1x128x128_3_1_4_0_0 inb_S1024x1024_S256x128_768_512 inb_S8x2x256x128_S1x1x256x128_4_1_0_0 _ rfl x, ?_⟩
  refine List.forall_mem_cons.mpr ⟨fun x => s_at x1 x2 (wScr x4) 3 4 0 768 512 3 4 0 rfl rfl rfl rfl rfl inb_S4x2x8x128x128_S1x1x1x128x128_3_0_4_0_0 inb_S1024x1024_S256x128_768_512 inb_S8x2x256x128_S1x1x256x128_4_0_0_0 _ rfl x, ?_⟩
  refine List.forall_mem_cons.mpr ⟨fun x => s_at x1 x2 (wScr x4) 3 3 1 768 384 3 3 1 rfl rfl rfl rfl rfl inb_S4x2x8x128x128_S1x1x1x128x128_3_1_3_0_0 inb_S1024x1024_S256x128_768_384 inb_S8x2x256x128_S1x1x256x128_3_1_0_0 _ rfl x, ?_⟩
  refine List.forall_mem_cons.mpr ⟨fun x => s_at x1 x2 (wScr x4) 3 3 0 768 384 3 3 0 rfl rfl rfl rfl rfl inb_S4x2x8x128x128_S1x1x1x128x128_3_0_3_0_0 inb_S1024x1024_S256x128_768_384 inb_S8x2x256x128_S1x1x256x128_3_0_0_0 _ rfl x, ?_⟩
  refine List.forall_mem_cons.mpr ⟨fun x => s_at x1 x2 (wScr x4) 3 2 1 768 256 3 2 1 rfl rfl rfl rfl rfl inb_S4x2x8x128x128_S1x1x1x128x128_3_1_2_0_0 inb_S1024x1024_S256x128_768_256 inb_S8x2x256x128_S1x1x256x128_2_1_0_0 _ rfl x, ?_⟩
  refine List.forall_mem_cons.mpr ⟨fun x => s_at x1 x2 (wScr x4) 3 2 0 768 256 3 2 0 rfl rfl rfl rfl rfl inb_S4x2x8x128x128_S1x1x1x128x128_3_0_2_0_0 inb_S1024x1024_S256x128_768_256 inb_S8x2x256x128_S1x1x256x128_2_0_0_0 _ rfl x, ?_⟩
  refine List.forall_mem_cons.mpr ⟨fun x => s_at x1 x2 (wScr x4) 3 1 1 768 128 3 1 1 rfl rfl rfl rfl rfl inb_S4x2x8x128x128_S1x1x1x128x128_3_1_1_0_0 inb_S1024x1024_S256x128_768_128 inb_S8x2x256x128_S1x1x256x128_1_1_0_0 _ rfl x, ?_⟩
  refine List.forall_mem_cons.mpr ⟨fun x => s_at x1 x2 (wScr x4) 3 1 0 768 128 3 1 0 rfl rfl rfl rfl rfl inb_S4x2x8x128x128_S1x1x1x128x128_3_0_1_0_0 inb_S1024x1024_S256x128_768_128 inb_S8x2x256x128_S1x1x256x128_1_0_0_0 _ rfl x, ?_⟩
  refine List.forall_mem_cons.mpr ⟨fun x => s_at x1 x2 (wScr x4) 3 0 1 768 0 3 0 1 rfl rfl rfl rfl rfl inb_S4x2x8x128x128_S1x1x1x128x128_3_1_0_0_0 inb_S1024x1024_S256x128_768_0 inb_S8x2x256x128_S1x1x256x128_0_1_0_0 _ rfl x, ?_⟩
  refine List.forall_mem_cons.mpr ⟨fun x => s_at x1 x2 (wScr x4) 3 0 0 768 0 3 0 0 rfl rfl rfl rfl rfl inb_S4x2x8x128x128_S1x1x1x128x128_3_0_0_0_0 inb_S1024x1024_S256x128_768_0 inb_S8x2x256x128_S1x1x256x128_0_0_0_0 _ rfl x, ?_⟩
  refine List.forall_mem_cons.mpr ⟨fun x => s_at x1 x2 (wScr x4) 2 7 1 512 896 2 7 1 rfl rfl rfl rfl rfl inb_S4x2x8x128x128_S1x1x1x128x128_2_1_7_0_0 inb_S1024x1024_S256x128_512_896 inb_S8x2x256x128_S1x1x256x128_7_1_0_0 _ rfl x, ?_⟩
  refine List.forall_mem_cons.mpr ⟨fun x => s_at x1 x2 (wScr x4) 2 7 0 512 896 2 7 0 rfl rfl rfl rfl rfl inb_S4x2x8x128x128_S1x1x1x128x128_2_0_7_0_0 inb_S1024x1024_S256x128_512_896 inb_S8x2x256x128_S1x1x256x128_7_0_0_0 _ rfl x, ?_⟩
  refine List.forall_mem_cons.mpr ⟨fun x => s_at x1 x2 (wScr x4) 2 6 1 512 768 2 6 1 rfl rfl rfl rfl rfl inb_S4x2x8x128x128_S1x1x1x128x128_2_1_6_0_0 inb_S1024x1024_S256x128_512_768 inb_S8x2x256x128_S1x1x256x128_6_1_0_0 _ rfl x, ?_⟩
  refine List.forall_mem_cons.mpr ⟨fun x => s_at x1 x2 (wScr x4) 2 6 0 512 768 2 6 0 rfl rfl rfl rfl rfl inb_S4x2x8x128x128_S1x1x1x128x128_2_0_6_0_0 inb_S1024x1024_S256x128_512_768 inb_S8x2x256x128_S1x1x256x128_6_0_0_0 _ rfl x, ?_⟩
  refine List.forall_mem_cons.mpr ⟨fun x => s_at x1 x2 (wScr x4) 2 5 1 512 640 2 5 1 rfl rfl rfl rfl rfl inb_S4x2x8x128x128_S1x1x1x128x128_2_1_5_0_0 inb_S1024x1024_S256x128_512_640 inb_S8x2x256x128_S1x1x256x128_5_1_0_0 _ rfl x, ?_⟩
  refine List.forall_mem_cons.mpr ⟨fun x => s_at x1 x2 (wScr x4) 2 5 0 512 640 2 5 0 rfl rfl rfl rfl rfl inb_S4x2x8x128x128_S1x1x1x128x128_2_0_5_0_0 inb_S1024x1024_S256x128_512_640 inb_S8x2x256x128_S1x1x256x128_5_0_0_0 _ rfl x, ?_⟩
  refine List.forall_mem_cons.mpr ⟨fun x => s_at x1 x2 (wScr x4) 2 4 1 512 512 2 4 1 rfl rfl rfl rfl rfl inb_S4x2x8x128x128_S1x1x1x128x128_2_1_4_0_0 inb_S1024x1024_S256x128_512_512 inb_S8x2x256x128_S1x1x256x128_4_1_0_0 _ rfl x, ?_⟩
  refine List.forall_mem_cons.mpr ⟨fun x => s_at x1 x2 (wScr x4) 2 4 0 512 512 2 4 0 rfl rfl rfl rfl rfl inb_S4x2x8x128x128_S1x1x1x128x128_2_0_4_0_0 inb_S1024x1024_S256x128_512_512 inb_S8x2x256x128_S1x1x256x128_4_0_0_0 _ rfl x, ?_⟩
  refine List.forall_mem_cons.mpr ⟨fun x => s_at x1 x2 (wScr x4) 2 3 1 512 384 2 3 1 rfl rfl rfl rfl rfl inb_S4x2x8x128x128_S1x1x1x128x128_2_1_3_0_0 inb_S1024x1024_S256x128_512_384 inb_S8x2x256x128_S1x1x256x128_3_1_0_0 _ rfl x, ?_⟩
  refine List.forall_mem_cons.mpr ⟨fun x => s_at x1 x2 (wScr x4) 2 3 0 512 384 2 3 0 rfl rfl rfl rfl rfl inb_S4x2x8x128x128_S1x1x1x128x128_2_0_3_0_0 inb_S1024x1024_S256x128_512_384 inb_S8x2x256x128_S1x1x256x128_3_0_0_0 _ rfl x, ?_⟩
  refine List.forall_mem_cons.mpr ⟨fun x => s_at x1 x2 (wScr x4) 2 2 1 512 256 2 2 1 rfl rfl rfl rfl rfl inb_S4x2x8x128x128_S1x1x1x128x128_2_1_2_0_0 inb_S1024x1024_S256x128_512_256 inb_S8x2x256x128_S1x1x256x128_2_1_0_0 _ rfl x, ?_⟩
  refine List.forall_mem_cons.mpr ⟨fun x => s_at x1 x2 (wScr x4) 2 2 0 512 256 2 2 0 rfl rfl rfl rfl rfl inb_S4x2x8x128x128_S1x1x1x128x128_2_0_2_0_0 inb_S1024x1024_S256x128_512_256 inb_S8x2x256x128_S1x1x256x128_2_0_0_0 _ rfl x, ?_⟩
  refine List.forall_mem_cons.mpr ⟨fun x => s_at x1 x2 (wScr x4) 2 1 1 512 128 2 1 1 rfl rfl rfl rfl rfl inb_S4x2x8x128x128_S1x1x1x128x128_2_1_1_0_0 inb_S1024x1024_S256x128_512_128 inb_S8x2x256x128_S1x1x256x128_1_1_0_0 _ rfl x, ?_⟩
  refine List.forall_mem_cons.mpr ⟨fun x => s_at x1 x2 (wScr x4) 2 1 0 512 128 2 1 0 rfl rfl rfl rfl rfl inb_S4x2x8x128x128_S1x1x1x128x128_2_0_1_0_0 inb_S1024x1024_S256x128_512_128 inb_S8x2x256x128_S1x1x256x128_1_0_0_0 _ rfl x, ?_⟩
  refine List.forall_mem_cons.mpr ⟨fun x => s_at x1 x2 (wScr x4) 2 0 1 512 0 2 0 1 rfl rfl rfl rfl rfl inb_S4x2x8x128x128_S1x1x1x128x128_2_1_0_0_0 inb_S1024x1024_S256x128_512_0 inb_S8x2x256x128_S1x1x256x128_0_1_0_0 _ rfl x, ?_⟩
  refine List.forall_mem_cons.mpr ⟨fun x => s_at x1 x2 (wScr x4) 2 0 0 512 0 2 0 0 rfl rfl rfl rfl rfl inb_S4x2x8x128x128_S1x1x1x128x128_2_0_0_0_0 inb_S1024x1024_S256x128_512_0 inb_S8x2x256x128_S1x1x256x128_0_0_0_0 _ rfl x, ?_⟩
  refine List.forall_mem_cons.mpr ⟨fun x => s_at x1 x2 (wScr x4) 1 7 1 256 896 1 7 1 rfl rfl rfl rfl rfl inb_S4x2x8x128x128_S1x1x1x128x128_1_1_7_0_0 inb_S1024x1024_S256x128_256_896 inb_S8x2x256x128_S1x1x256x128_7_1_0_0 _ rfl x, ?_⟩
  refine List.forall_mem_cons.mpr ⟨fun x => s_at x1 x2 (wScr x4) 1 7 0 256 896 1 7 0 rfl rfl rfl rfl rfl inb_S4x2x8x128x128_S1x1x1x128x128_1_0_7_0_0 inb_S1024x1024_S256x128_256_896 inb_S8x2x256x128_S1x1x256x128_7_0_0_0 _ rfl x, ?_⟩
  refine List.forall_mem_cons.mpr ⟨fun x => s_at x1 x2 (wScr x4) 1 6 1 256 768 1 6 1 rfl rfl rfl rfl rfl inb_S4x2x8x128x128_S1x1x1x128x128_1_1_6_0_0 inb_S1024x1024_S256x128_256_768 inb_S8x2x256x128_S1x1x256x128_6_1_0_0 _ rfl x, ?_⟩
  refine List.forall_mem_cons.mpr ⟨fun x => s_at x1 x2 (wScr x4) 1 6 0 256 768 1 6 0 rfl rfl rfl rfl rfl inb_S4x2x8x128x128_S1x1x1x128x128_1_0_6_0_0 inb_S1024x1024_S256x128_256_768 inb_S8x2x256x128_S1x1x256x128_6_0_0_0 _ rfl x, ?_⟩
  refine List.forall_mem_cons.mpr ⟨fun x => s_at x1 x2 (wScr x4) 1 5 1 256 640 1 5 1 rfl rfl rfl rfl rfl inb_S4x2x8x128x128_S1x1x1x128x128_1_1_5_0_0 inb_S1024x1024_S256x128_256_640 inb_S8x2x256x128_S1x1x256x128_5_1_0_0 _ rfl x, ?_⟩
  refine List.forall_mem_cons.mpr ⟨fun x => s_at x1 x2 (wScr x4) 1 5 0 256 640 1 5 0 rfl rfl rfl rfl rfl inb_S4x2x8x128x128_S1x1x1x128x128_1_0_5_0_0 inb_S1024x1024_S256x128_256_640 inb_S8x2x256x128_S1x1x256x128_5_0_0_0 _ rfl x, ?_⟩
  refine List.forall_mem_cons.mpr ⟨fun x => s_at x1 x2 (wScr x4) 1 4 1 256 512 1 4 1 rfl rfl rfl rfl rfl inb_S4x2x8x128x128_S1x1x1x128x128_1_1_4_0_0 inb_S1024x1024_S256x128_256_512 inb_S8x2x256x128_S1x1x256x128_4_1_0_0 _ rfl x, ?_⟩
  refine List.forall_mem_cons.mpr ⟨fun x => s_at x1 x2 (wScr x4) 1 4 0 256 512 1 4 0 rfl rfl rfl rfl rfl inb_S4x2x8x128x128_S1x1x1x128x128_1_0_4_0_0 inb_S1024x1024_S256x128_256_512 inb_S8x2x256x128_S1x1x256x128_4_0_0_0 _ rfl x, ?_⟩
  refine List.forall_mem_cons.mpr ⟨fun x => s_at x1 x2 (wScr x4) 1 3 1 256 384 1 3 1 rfl rfl rfl rfl rfl inb_S4x2x8x128x128_S1x1x1x128x128_1_1_3_0_0 inb_S1024x1024_S256x128_256_384 inb_S8x2x256x128_S1x1x256x128_3_1_0_0 _ rfl x, ?_⟩
  refine List.forall_mem_cons.mpr ⟨fun x => s_at x1 x2 (wScr x4) 1 3 0 256 384 1 3 0 rfl rfl rfl rfl rfl inb_S4x2x8x128x128_S1x1x1x128x128_1_0_3_0_0 inb_S1024x1024_S256x128_256_384 inb_S8x2x256x128_S1x1x256x128_3_0_0_0 _ rfl x, ?_⟩
  refine List.forall_mem_cons.mpr ⟨fun x => s_at x1 x2 (wScr x4) 1 2 1 256 256 1 2 1 rfl rfl rfl rfl rfl inb_S4x2x8x128x128_S1x1x1x128x128_1_1_2_0_0 inb_S1024x1024_S256x128_256_256 inb_S8x2x256x128_S1x1x256x128_2_1_0_0 _ rfl x, ?_⟩
  refine List.forall_mem_cons.mpr ⟨fun x => s_at x1 x2 (wScr x4) 1 2 0 256 256 1 2 0 rfl rfl rfl rfl rfl inb_S4x2x8x128x128_S1x1x1x128x128_1_0_2_0_0 inb_S1024x1024_S256x128_256_256 inb_S8x2x256x128_S1x1x256x128_2_0_0_0 _ rfl x, ?_⟩
  refine List.forall_mem_cons.mpr ⟨fun x => s_at x1 x2 (wScr x4) 1 1 1 256 128 1 1 1 rfl rfl rfl rfl rfl inb_S4x2x8x128x128_S1x1x1x128x128_1_1_1_0_0 inb_S1024x1024_S256x128_256_128 inb_S8x2x256x128_S1x1x256x128_1_1_0_0 _ rfl x, ?_⟩
  refine List.forall_mem_cons.mpr ⟨fun x => s_at x1 x2 (wScr x4) 1 1 0 256 128 1 1 0 rfl rfl rfl rfl rfl inb_S4x2x8x128x128_S1x1x1x128x128_1_0_1_0_0 inb_S1024x1024_S256x128_256_128 inb_S8x2x256x128_S1x1x256x128_1_0_0_0 _ rfl x, ?_⟩
  refine List.forall_mem_cons.mpr ⟨fun x => s_at x1 x2 (wScr x4) 1 0 1 256 0 1 0 1 rfl rfl rfl rfl rfl inb_S4x2x8x128x128_S1x1x1x128x128_1_1_0_0_0 inb_S1024x1024_S256x128_256_0 inb_S8x2x256x128_S1x1x256x128_0_1_0_0 _ rfl x, ?_⟩
  refine List.forall_mem_cons.mpr ⟨fun x => s_at x1 x2 (wScr x4) 1 0 0 256 0 1 0 0 rfl rfl rfl rfl rfl inb_S4x2x8x128x128_S1x1x1x128x128_1_0_0_0_0 inb_S1024x1024_S256x128_256_0 inb_S8x2x256x128_S1x1x256x128_0_0_0_0 _ rfl x, ?_⟩
  refine List.forall_mem_cons.mpr ⟨fun x => s_at x1 x2 (wScr x4) 0 7 1 0 896 0 7 1 rfl rfl rfl rfl rfl inb_S4x2x8x128x128_S1x1x1x128x128_0_1_7_0_0 inb_S1024x1024_S256x128_0_896 inb_S8x2x256x128_S1x1x256x128_7_1_0_0 _ rfl x, ?_⟩
  refine List.forall_mem_cons.mpr ⟨fun x => s_at x1 x2 (wScr x4) 0 7 0 0 896 0 7 0 rfl rfl rfl rfl rfl inb_S4x2x8x128x128_S1x1x1x128x128_0_0_7_0_0 inb_S1024x1024_S256x128_0_896 inb_S8x2x256x128_S1x1x256x128_7_0_0_0 _ rfl x, ?_⟩
  refine List.forall_mem_cons.mpr ⟨fun x => s_at x1 x2 (wScr x4) 0 6 1 0 768 0 6 1 rfl rfl rfl rfl rfl inb_S4x2x8x128x128_S1x1x1x128x128_0_1_6_0_0 inb_S1024x1024_S256x128_0_768 inb_S8x2x256x128_S1x1x256x128_6_1_0_0 _ rfl x, ?_⟩
  refine List.forall_mem_cons.mpr ⟨fun x => s_at x1 x2 (wScr x4) 0 6 0 0 768 0 6 0 rfl rfl rfl rfl rfl inb_S4x2x8x128x128_S1x1x1x128x128_0_0_6_0_0 inb_S1024x1024_S256x128_0_768 inb_S8x2x256x128_S1x1x256x128_6_0_0_0 _ rfl x, ?_⟩
  refine List.forall_mem_cons.mpr ⟨fun x => s_at x1 x2 (wScr x4) 0 5 1 0 640 0 5 1 rfl rfl rfl rfl rfl inb_S4x2x8x128x128_S1x1x1x128x128_0_1_5_0_0 inb_S1024x1024_S256x128_0_640 inb_S8x2x256x128_S1x1x256x128_5_1_0_0 _ rfl x, ?_⟩
  refine List.forall_mem_cons.mpr ⟨fun x => s_at x1 x2 (wScr x4) 0 5 0 0 640 0 5 0 rfl rfl rfl rfl rfl inb_S4x2x8x128x128_S1x1x1x128x128_0_0_5_0_0 inb_S1024x1024_S256x128_0_640 inb_S8x2x256x128_S1x1x256x128_5_0_0_0 _ rfl x, ?_⟩
  refine List.forall_mem_cons.mpr ⟨fun x => s_at x1 x2 (wScr x4) 0 4 1 0 512 0 4 1 rfl rfl rfl rfl rfl inb_S4x2x8x128x128_S1x1x1x128x128_0_1_4_0_0 inb_S1024x1024_S256x128_0_512 inb_S8x2x256x128_S1x1x256x128_4_1_0_0 _ rfl x, ?_⟩
  refine List.forall_mem_cons.mpr ⟨fun x => s_at x1 x2 (wScr x4) 0 4 0 0 512 0 4 0 rfl rfl rfl rfl rfl inb_S4x2x8x128x128_S1x1x1x128x128_0_0_4_0_0 inb_S1024x1024_S256x128_0_512 inb_S8x2x256x128_S1x1x256x128_4_0_0_0 _ rfl x, ?_⟩
  refine List.forall_mem_cons.mpr ⟨fun x => s_at x1 x2 (wScr x4) 0 3 1 0 384 0 3 1 rfl rfl rfl rfl rfl inb_S4x2x8x128x128_S1x1x1x128x128_0_1_3_0_0 inb_S1024x1024_S256x128_0_384 inb_S8x2x256x128_S1x1x256x128_3_1_0_0 _ rfl x, ?_⟩
  refine List.forall_mem_cons.mpr ⟨fun x => s_at x1 x2 (wScr x4) 0 3 0 0 384 0 3 0 rfl rfl rfl rfl rfl inb_S4x2x8x128x128_S1x1x1x128x128_0_0_3_0_0 inb_S1024x1024_S256x128_0_384 inb_S8x2x256x128_S1x1x256x128_3_0_0_0 _ rfl x, ?_⟩
  refine List.forall_mem_cons.mpr ⟨fun x => s_at x1 x2 (wScr x4) 0 2 1 0 256 0 2 1 rfl rfl rfl rfl rfl inb_S4x2x8x128x128_S1x1x1x128x128_0_1_2_0_0 inb_S1024x1024_S256x128_0_256 inb_S8x2x256x128_S1x1x256x128_2_1_0_0 _ rfl x, ?_⟩
  refine List.forall_mem_cons.mpr ⟨fun x => s_at x1 x2 (wScr x4) 0 2 0 0 256 0 2 0 rfl rfl rfl rfl rfl inb_S4x2x8x128x128_S1x1x1x128x128_0_0_2_0_0 inb_S1024x1024_S256x128_0_256 inb_S8x2x256x128_S1x1x256x128_2_0_0_0 _ rfl x, ?_⟩
  refine List.forall_mem_cons.mpr ⟨fun x => s_at x1 x2 (wScr x4) 0 1 1 0 128 0 1 1 rfl rfl rfl rfl rfl inb_S4x2x8x128x128_S1x1x1x128x128_0_1_1_0_0 inb_S1024x1024_S256x128_0_128 inb_S8x2x256x128_S1x1x256x128_1_1_0_0 _ rfl x, ?_⟩
  refine List.forall_mem_cons.mpr ⟨fun x => s_at x1 x2 (wScr x4) 0 1 0 0 128 0 1 0 rfl rfl rfl rfl rfl inb_S4x2x8x128x128_S1x1x1x128x128_0_0_1_0_0 inb_S1024x1024_S256x128_0_128 inb_S8x2x256x128_S1x1x256x128_1_0_0_0 _ rfl x, ?_⟩
  refine List.forall_mem_cons.mpr ⟨fun x => s_at x1 x2 (wScr x4) 0 0 1 0 0 0 0 1 rfl rfl rfl rfl rfl inb_S4x2x8x128x128_S1x1x1x128x128_0_1_0_0_0 inb_S1024x1024_S256x128_0_0 inb_S8x2x256x128_S1x1x256x128_0_1_0_0 _ rfl x, ?_⟩
  refine List.forall_mem_cons.mpr ⟨fun x => s_at x1 x2 (wScr x4) 0 0 0 0 0 0 0 0 rfl rfl rfl rfl rfl inb_S4x2x8x128x128_S1x1x1x128x128_0_0_0_0_0 inb_S1024x1024_S256x128_0_0 inb_S8x2x256x128_S1x1x256x128_0_0_0_0 _ rfl x, ?_⟩
  exact fun p hp => absurd hp List.not_mem_nil

end Cert.KernelIdeal.Hand
-- ==== Proof.Whole.lean ====
module
public import proofs.«01_k».proof.Proof.OutA
public import proofs.«01_k».proof.Proof.Gen.KernelIdeal.Value
public import Idealize.ShloMosaic.Lib.Claim

@[expose] public section

set_option maxRecDepth 16384

noncomputable section

open Idealize.ShloMosaic Idealize.ShloMosaic.TcCoe Idealize.SL.Sem

namespace Cert.KernelIdeal.Hand

open Cert.KernelIdeal Cert.KernelIdeal.Gen

variable {F : FTy → Type} [FloatOps F]
variable (m : (ℓ : Loc nD τ sig) → Buf (Elt F) ℓ)

/-- The projections as launched. -/
abbrev aProj (c : Dev nD) : Vec F S8192x11264 .bf16 := m ((c : Thread nD τ).loc main_arg0)
/-- The decay logits as launched. -/
abbrev aLogit (c : Dev nD) : Vec F S2x8 .f32 := m ((c : Thread nD τ).loc main_arg1)
/-- The norm weights as launched. -/
abbrev aGn (c : Dev nD) : Vec F S1024 .f32 := m ((c : Thread nD τ).loc main_arg2)

/-- The decay logits as the host lays them out: transposed, repeated over the lanes. -/
theorem V_logit (c : Dev nD) : (V m c main_v2 : Vec F S8x2x1x128 .f32) = fun p => aLogit m c (ix2 (p 1) (p 0)) := by
  have e : (V m c main_v2 : Vec F S8x2x1x128 .f32) = broadcastInDim S8x2x1x128 ![0, 1, 2, 3] bcast_S8x2x1x1_S8x2x1x128_0_1_2_3 (broadcastInDim S8x2x1x1 ![0, 1] bcast_S8x2_S8x2x1x1_0_1 (transpose S8x2 [1, 0] (aLogit m c) transposes_S2x8_S8x2_1_0)) := by
    entry_read
    rfl
  rw [e]
  funext p
  obtain ⟨a, b, d, l, hp⟩ : ∃ a b d l, p = ix4 a b d l := ⟨_, _, _, _, eq_ix4 p⟩
  subst hp
  pointwise

/-- The norm weights as the host lays them out: one row. -/
theorem V_gn (c : Dev nD) : (V m c main_v3 : Vec F S1x1024 .f32) = fun p => aGn m c (ix1 (p 1)) := by
  have e : (V m c main_v3 : Vec F S1x1024 .f32) = shapeCast S1x1024 (aGn m c) shapeCasts_S1024_S1x1024 := by
    entry_read
    rfl
  rw [e]
  funext p
  obtain ⟨a, b, hp⟩ : ∃ a b, p = ix2 a b := ⟨_, _, eq_ix2 p⟩
  subst hp
  pointwise

theorem idx_facts0 : ∀ t : Fin cfg0.N, win0_0.index t (0 : Fin 2) = t.val ∧ win0_0.index t (1 : Fin 2) = 3
    ∧ win0_1.index t (0 : Fin 2) = t.val ∧ win0_1.index t (1 : Fin 2) = 4
    ∧ win0_2.index t (0 : Fin 2) = t.val ∧ win0_2.index t (1 : Fin 2) = 5
    ∧ win0_3.index t (0 : Fin 2) = t.val ∧ win0_3.index t (1 : Fin 2) = 6
    ∧ win0_4.index t (0 : Fin 4) = 0 ∧ win0_4.index t (1 : Fin 4) = 0 ∧ win0_4.index t (2 : Fin 4) = 0 ∧ win0_4.index t (3 : Fin 4) = 0
    ∧ win0_5.index t (0 : Fin 2) = 0 ∧ win0_5.index t (1 : Fin 2) = 0 :=
  (by decide +kernel : ∀ t : Fin grid0.N, _)

/-- A block of 1024 rows and 1024 columns of the projections. -/
def pblk (x : Vec F S8192x11264 .bf16) (t : Fin 8) (w : Fin 8) : Vec F S1024x1024 .bf16 :=
  fun p => x (ix2 (⟨1024 * t.val + (p 0).val, by have : (p 0).val < 1024 := (p 0).isLt; have := t.isLt; omega⟩ : Fin 8192) (⟨1024 * w.val + (p 1).val, by have : (p 1).val < 1024 := (p 1).isLt; have := w.isLt; omega⟩ : Fin 11264))

theorem pt_lt (t : Fin cfg0.N) : t.val < 8 := lt_of_lt_of_eq t.isLt N_0

theorem iblk0 (c : Dev nD) (t : Fin cfg0.N) : iblk m c 0 t = pblk (aProj m c) ⟨t.val, pt_lt t⟩ 3 := by
  have f := idx_facts0 t
  funext p
  show V m c main_arg0 (((cfg0.win 0).blk t).view.emb p) = _
  rw [V_main_arg0]
  refine congrArg _ (funext fun a => Fin.ext ?_)
  match a with
  | ⟨0, _⟩ => show win0_0.index t (0 : Fin 2) * 1024 + 1 * (p 0).val = 1024 * t.val + (p 0).val; omega
  | ⟨1, _⟩ => show win0_0.index t (1 : Fin 2) * 1024 + 1 * (p 1).val = 1024 * 3 + (p 1).val; omega

theorem iblk1 (c : Dev nD) (t : Fin cfg0.N) : iblk m c 1 t = pblk (aProj m c) ⟨t.val, pt_lt t⟩ 4 := by
  have f := idx_facts0 t
  funext p
  show V m c main_arg0 (((cfg0.win 1).blk t).view.emb p) = _
  rw [V_main_arg0]
  refine congrArg _ (funext fun a => Fin.ext ?_)
  match a with
  | ⟨0, _⟩ => show win0_1.index t (0 : Fin 2) * 1024 + 1 * (p 0).val = 1024 * t.val + (p 0).val; omega
  | ⟨1, _⟩ => show win0_1.index t (1 : Fin 2) * 1024 + 1 * (p 1).val = 1024 * 4 + (p 1).val; omega

theorem iblk2 (c : Dev nD) (t : Fin cfg0.N) : iblk m c 2 t = pblk (aProj m c) ⟨t.val, pt_lt t⟩ 5 := by
  have f := idx_facts0 t
  funext p
  show V m c main_arg0 (((cfg0.win 2).blk t).view.emb p) = _
  rw [V_main_arg0]
  refine congrArg _ (funext fun a => Fin.ext ?_)
  match a with
  | ⟨0, _⟩ => show win0_2.index t (0 : Fin 2) * 1024 + 1 * (p 0).val = 1024 * t.val + (p 0).val; omega
  | ⟨1, _⟩ => show win0_2.index t (1 : Fin 2) * 1024 + 1 * (p 1).val = 1024 * 5 + (p 1).val; omega

theorem iblk3 (c : Dev nD) (t : Fin cfg0.N) : iblk m c 3 t = pblk (aProj m c) ⟨t.val, pt_lt t⟩ 6 := by
  have f := idx_facts0 t
  funext p
  show V m c main_arg0 (((cfg0.win 3).blk t).view.emb p) = _
  rw [V_main_arg0]
  refine congrArg _ (funext fun a => Fin.ext ?_)
  match a with
  | ⟨0, _⟩ => show win0_3.index t (0 : Fin 2) * 1024 + 1 * (p 0).val = 1024 * t.val + (p 0).val; omega
  | ⟨1, _⟩ => show win0_3.index t (1 : Fin 2) * 1024 + 1 * (p 1).val = 1024 * 6 + (p 1).val; omega

theorem iblk4 (c : Dev nD) (t : Fin cfg0.N) : iblk m c 4 t = (V m c main_v2 : Vec F S8x2x1x128 .f32) := by
  have f := idx_facts0 t
  funext p
  show V m c main_v2 (((cfg0.win 4).blk t).view.emb p) = _
  refine congrArg _ (funext fun a => Fin.ext ?_)
  match a with
  | ⟨0, _⟩ => show win0_4.index t (0 : Fin 4) * 8 + 1 * (p 0).val = (p 0).val; omega
  | ⟨1, _⟩ => show win0_4.index t (1 : Fin 4) * 2 + 1 * (p 1).val = (p 1).val; omega
  | ⟨2, _⟩ => show win0_4.index t (2 : Fin 4) * 1 + 1 * (p 2).val = (p 2).val; omega
  | ⟨3, _⟩ => show win0_4.index t (3 : Fin 4) * 128 + 1 * (p 3).val = (p 3).val; omega

theorem iblk5 (c : Dev nD) (t : Fin cfg0.N) : iblk m c 5 t = (V m c main_v3 : Vec F S1x1024 .f32) := by
  have f := idx_facts0 t
  funext p
  show V m c main_v3 (((cfg0.win 5).blk t).view.emb p) = _
  refine congrArg _ (funext fun a => Fin.ext ?_)
  match a with
  | ⟨0, _⟩ => show win0_5.index t (0 : Fin 2) * 1 + 1 * (p 0).val = (p 0).val; omega
  | ⟨1, _⟩ => show win0_5.index t (1 : Fin 2) * 1024 + 1 * (p 1).val = (p 1).val; omega

/-- What the outputs and the carried scratch hold after a grid point: the point's blocks of outputs and states, and the
    decay matrices and weights, which the first point stored. -/
theorem outs_at (c : Dev nD) : ∀ (n : ℕ) (hn : n < cfg0.N), outsAt0 m c n hn =
    (yBlock (iblk m c 0 ⟨n, hn⟩) (iblk m c 1 ⟨n, hn⟩) (iblk m c 2 ⟨n, hn⟩) (iblk m c 3 ⟨n, hn⟩) (V m c main_v3) (dScr (V m c main_v2)),
     sBlock (iblk m c 1 ⟨n, hn⟩) (iblk m c 2 ⟨n, hn⟩) (wScr (V m c main_v2)), dScr (V m c main_v2), wScr (V m c main_v2)) := by
  intro n
  induction n with
  | zero =>
    intro hn
    refine (outsAt0_A m c ⟨0, hn⟩ rfl).trans ?_
    rw [out_A_6, out_A_7, sout_A_0, sout_A_1, iblk4, iblk5]
  | succ n ih =>
    intro hn
    have hN : cfg0.N = 8 := N_0
    refine (outsAt0_B m c ⟨n + 1, hn⟩ (by show ¬ (n + 1) % 8 = 0; omega)).trans ?_
    rw [out_B_6, out_B_7, iblk5]
    have e := ih (Nat.lt_of_succ_lt hn)
    unfold sout0_B_0 sout0_B_1
    show (yBlock _ _ _ _ _ (outsAt0 m c n _).2.2.1, sBlock _ _ (outsAt0 m c n _).2.2.2, (outsAt0 m c n _).2.2.1, (outsAt0 m c n _).2.2.2) = _
    rw [e]

/-- The outputs after the run, at a row and a column. -/
theorem G6_at (c : Dev nD) (r : Fin 8192) (l : Fin 1024) : Value.G6 m c (ix2 r l) =
    yBlock (pblk (aProj m c) ⟨r.val / 1024, by omega⟩ 3) (pblk (aProj m c) ⟨r.val / 1024, by omega⟩ 4) (pblk (aProj m c) ⟨r.val / 1024, by omega⟩ 5) (pblk (aProj m c) ⟨r.val / 1024, by omega⟩ 6)
      (V m c main_v3) (dScr (V m c main_v2)) (ix2 (⟨r.val % 1024, Nat.mod_lt _ (by decide)⟩ : Fin 1024) l) := by
  have hN : cfg0.N = 8 := N_0
  have hp : Value.pt6Of (ix2 r l) = r.val / 1024 := by
    show 1 * (r.val / 1024 - 0) + 1 * (l.val / 1024 - 0) = _
    omega
  have hlt : r.val / 1024 < cfg0.N := by omega
  have hl : Value.loc6Of (ix2 r l) = ix2 (⟨r.val % 1024, Nat.mod_lt _ (by decide)⟩ : Fin 1024) l := by
    funext a
    apply Fin.ext
    match a with
    | ⟨0, _⟩ => rfl
    | ⟨1, _⟩ => show l.val % 1024 = l.val; omega
  unfold Value.G6
  rw [dif_pos (by rw [hp]; exact hlt), hl, Value.fold0_congr m c _ _ (r.val / 1024) (by omega) hp, ← Value.outsAt0_sweep m c _ hlt, outs_at, iblk0, iblk1, iblk2, iblk3]

/-- The states after the run, at an index. -/
theorem G7_at (c : Dev nD) (s : Fin 32) (d : Fin 2) (h : Fin 8) (i j : Fin 128) : Value.G7 m c (ix5 s d h i j) =
    sBlock (pblk (aProj m c) ⟨s.val / 4, by omega⟩ 4) (pblk (aProj m c) ⟨s.val / 4, by omega⟩ 5)
      (wScr (V m c main_v2)) (ix5 (⟨s.val % 4, Nat.mod_lt _ (by decide)⟩ : Fin 4) d h i j) := by
  have hN : cfg0.N = 8 := N_0
  have hp : Value.pt7Of (ix5 s d h i j) = s.val / 4 := by
    show 1 * (s.val / 4 - 0) + 1 * (d.val / 2 - 0) + 1 * (h.val / 8 - 0) + 1 * (i.val / 128 - 0) + 1 * (j.val / 128 - 0) = _
    omega
  have hlt : s.val / 4 < cfg0.N := by omega
  have hl : Value.loc7Of (ix5 s d h i j) = ix5 (⟨s.val % 4, Nat.mod_lt _ (by decide)⟩ : Fin 4) d h i j := by
    funext a
    apply Fin.ext
    match a with
    | ⟨0, _⟩ => rfl
    | ⟨1, _⟩ => show d.val % 2 = d.val; omega
    | ⟨2, _⟩ => show h.val % 8 = h.val; omega
    | ⟨3, _⟩ => show i.val % 128 = i.val; omega
    | ⟨4, _⟩ => show j.val % 128 = j.val; omega
  unfold Value.G7
  rw [dif_pos (by rw [hp]; exact hlt), hl, Value.fold0_congr m c _ _ (s.val / 4) (by omega) hp, ← Value.outsAt0_sweep m c _ hlt, outs_at, iblk1, iblk2]

end Cert.KernelIdeal.Hand

end
-- ==== Proof.Ref.lean ====
module
public import proofs.«01_k».proof.Proof.Gen.ReferenceIdeal.Read
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.ReferenceIdeal.Hand

open Cert.ReferenceIdeal Cert.ReferenceIdeal.Facts Cert.ReferenceIdeal.Gen Cert.ReferenceIdeal.Read

variable {F : FTy → Type} [FloatOps F]

/-- The decay inside a chunk, from the logarithms of the decay rates. -/
def intra (lg : Vec F S8 .f32) : Vec F S8x128x128 .f32 :=
  select (broadcastInDim S8x128x128 ![0, 1, 2] bcast_S1x128x128_S8x128x128_0_1_2 (cmpf .oge (broadcastInDim S1x128x128 ![1, 2] bcast_S128x128_S1x128x128_1_2 (subf (broadcastInDim S128x128 ![0, 1] bcast_S128x1_S128x128_0_1 (broadcastInDim S128x1 ![0] bcast_S128_S128x1_0 (sitofp (F := F) .f32 (iotaInDim S128 32 0)))) (broadcastInDim S128x128 ![0, 1] bcast_S1x128_S128x128_0_1 (broadcastInDim S1x128 ![1] bcast_S128_S1x128_1 (sitofp (F := F) .f32 (iotaInDim S128 32 0)))))) (broadcastInDim S1x128x128 ![] bcast_S_S1x128x128 (constant (F := F) S_ .f32 0x00000000#32)))) (Host.exp (mulf (broadcastInDim S8x128x128 ![0, 1, 2] bcast_S8x1x1_S8x128x128_0_1_2 (broadcastInDim S8x1x1 ![0] bcast_S8_S8x1x1_0 lg)) (broadcastInDim S8x128x128 ![0, 1, 2] bcast_S1x128x128_S8x128x128_0_1_2 (broadcastInDim S1x128x128 ![1, 2] bcast_S128x128_S1x128x128_1_2 (maximumf (subf (broadcastInDim S128x128 ![0, 1] bcast_S128x1_S128x128_0_1 (broadcastInDim S128x1 ![0] bcast_S128_S128x1_0 (sitofp (F := F) .f32 (iotaInDim S128 32 0)))) (broadcastInDim S128x128 ![0, 1] bcast_S1x128_S128x128_0_1 (broadcastInDim S1x128 ![1] bcast_S128_S1x128_1 (sitofp (F := F) .f32 (iotaInDim S128 32 0))))) (broadcastInDim S128x128 ![] bcast_S_S128x128 (constant (F := F) S_ .f32 0x00000000#32))))))) (broadcastInDim S8x128x128 ![] bcast_S_S8x128x128 (id (constant (F := F) S_ .f32 0x00000000#32)))

/-- The weight of the state in row `i` of a chunk. -/
def xi (lg : Vec F S8 .f32) : Vec F S128x8 .f32 :=
  Host.exp (mulf (broadcastInDim S128x8 ![0, 1] bcast_S1x8_S128x8_0_1 (broadcastInDim S1x8 ![1] bcast_S8_S1x8_1 lg)) (broadcastInDim S128x8 ![0, 1] bcast_S128x1_S128x8_0_1 (addf (broadcastInDim S128x1 ![0] bcast_S128_S128x1_0 (sitofp (F := F) .f32 (iotaInDim S128 32 0))) (broadcastInDim S128x1 ![] bcast_S_S128x1 (constant (F := F) S_ .f32 0x3F800000#32)))))

/-- The weight of row `i` of a chunk in the state. -/
def zeta (lg : Vec F S8 .f32) : Vec F S128x8 .f32 :=
  Host.exp (mulf (broadcastInDim S128x8 ![0, 1] bcast_S1x8_S128x8_0_1 (broadcastInDim S1x8 ![1] bcast_S8_S1x8_1 lg)) (broadcastInDim S128x8 ![0, 1] bcast_S128x1_S128x8_0_1 (broadcastInDim S128x1 ![0] bcast_S128_S128x1_0 (subf (broadcastInDim S128 ![] bcast_S_S128 (constant (F := F) S_ .f32 0x42FE0000#32)) (sitofp (F := F) .f32 (iotaInDim S128 32 0))))))

/-- The decay of the state over a chunk. -/
def chunkDecay (lg : Vec F S8 .f32) : Vec F S8 .f32 :=
  Host.exp (mulf lg (broadcastInDim S8 ![] bcast_S_S8 (constant (F := F) S_ .f32 0x43000000#32)))

/-- The first chunk. -/
def part0 (x : Vec F S32x256x8x128 .f32) : Vec F S32x128x8x128 .f32 :=
  extractStridedSlice S32x128x8x128 ![0, 0, 0, 0] x slices_S32x256x8x128_S32x128x8x128_0_0_0_0

/-- The second chunk. -/
def part1 (x : Vec F S32x256x8x128 .f32) : Vec F S32x128x8x128 .f32 :=
  extractStridedSlice S32x128x8x128 ![0, 128, 0, 0] x slices_S32x256x8x128_S32x128x8x128_0_128_0_0

/-- A chunk of the output. -/
def chunkOut (q k v : Vec F S32x128x8x128 .f32) (R : Vec F S32x8x128x128 .f32) (lg : Vec F S8 .f32) : Vec F S32x128x8x128 .f32 :=
  addf (transpose S32x128x8x128 [0, 3, 1, 2] (Host.dotGeneral dot_S32x128x8x128_S32x8x128x128_S32x8x128x128_1_3_3_2_02_01 none v (mulf (Host.dotGeneral dot_S32x128x8x128_S32x128x8x128_S32x8x128x128_3_3_1_1_02_02 none q k) (broadcastInDim S32x8x128x128 ![0, 1, 2, 3] bcast_S1x8x128x128_S32x8x128x128_0_1_2_3 (broadcastInDim S1x8x128x128 ![1, 2, 3] bcast_S8x128x128_S1x8x128x128_1_2_3 (intra lg))))) transposes_S32x8x128x128_S32x128x8x128_0_3_1_2) (mulf (transpose S32x128x8x128 [0, 3, 1, 2] (Host.dotGeneral dot_S32x8x128x128_S32x128x8x128_S32x8x128x128_2_3_3_1_01_02 none R q) transposes_S32x8x128x128_S32x128x8x128_0_3_1_2) (broadcastInDim S32x128x8x128 ![0, 1, 2, 3] bcast_S1x128x8x1_S32x128x8x128_0_1_2_3 (broadcastInDim S1x128x8x1 ![1, 2] bcast_S128x8_S1x128x8x1_1_2 (xi lg))))

/-- The state after a chunk. -/
def chunkState (k v : Vec F S32x128x8x128 .f32) (R : Vec F S32x8x128x128 .f32) (lg : Vec F S8 .f32) : Vec F S32x8x128x128 .f32 :=
  addf (mulf R (broadcastInDim S32x8x128x128 ![0, 1, 2, 3] bcast_S1x8x1x1_S32x8x128x128_0_1_2_3 (broadcastInDim S1x8x1x1 ![1] bcast_S8_S1x8x1x1_1 (chunkDecay lg)))) (Host.dotGeneral dot_S32x128x8x128_S32x128x8x128_S32x8x128x128_1_1_3_3_02_02 none (mulf k (broadcastInDim S32x128x8x128 ![0, 1, 2, 3] bcast_S1x128x8x1_S32x128x8x128_0_1_2_3 (broadcastInDim S1x128x8x1 ![1, 2] bcast_S128x8_S1x128x8x1_1_2 (zeta lg)))) v)

/-- The two chunks one after the other. -/
def joined (a b : Vec F S32x128x8x128 .f32) : Vec F S32x256x8x128 .f32 :=
  concatenate S32x256x8x128 1 [⟨S32x128x8x128, a⟩, ⟨S32x128x8x128, b⟩] concatenates_S32x128x8x128_S32x128x8x128_S32x256x8x128_d1

/-- The rows of a sequence in reverse order. -/
def back (x : Vec F S32x256x8x128 .f32) : Vec F S32x256x8x128 .f32 :=
  Host.reverse [1] x

/-- The output of one direction. -/
def scanOut (q k v : Vec F S32x256x8x128 .f32) (R : Vec F S32x8x128x128 .f32) (lg : Vec F S8 .f32) : Vec F S32x256x8x128 .f32 :=
  joined (chunkOut (part0 q) (part0 k) (part0 v) R lg) (chunkOut (part1 q) (part1 k) (part1 v) (chunkState (part0 k) (part0 v) R lg) lg)

/-- The last state of one direction. -/
def scanState (k v : Vec F S32x256x8x128 .f32) (R : Vec F S32x8x128x128 .f32) (lg : Vec F S8 .f32) : Vec F S32x8x128x128 .f32 :=
  chunkState (part1 k) (part1 v) (chunkState (part0 k) (part0 v) R lg) lg

/-- The output normalised, weighted and gated. -/
def normed (o : Vec F S32x256x8x128 .f32) (x0 : Vec F S8192x11264 .bf16) (x2 : Vec F S1024 .f32) : Vec F S8192x1024 .bf16 :=
  truncf .bf16 (shapeCast S8192x1024 (mulf (mulf (shapeCast S32x256x1024 (mulf (subf o (broadcastInDim S32x256x8x128 ![0, 1, 2, 3] bcast_S32x256x8x1_S32x256x8x128_0_1_2_3 (Host.divf (broadcastInDim S32x256x8x1 ![0, 1, 2] bcast_S32x256x8_S32x256x8x1_0_1_2 (Host.reduceAdd o (constant (F := F) S_ .f32 0x00000000#32) reducesTo_S32x256x8x128_S32x256x8_d3 h_S_)) (broadcastInDim S32x256x8x1 ![] bcast_S_S32x256x8x1 (constant (F := F) S_ .f32 0x43000000#32))))) (broadcastInDim S32x256x8x128 ![0, 1, 2, 3] bcast_S32x256x8x1_S32x256x8x128_0_1_2_3 (Host.rsqrt (addf (Host.divf (broadcastInDim S32x256x8x1 ![0, 1, 2] bcast_S32x256x8_S32x256x8x1_0_1_2 (Host.reduceAdd (mulf (subf o (broadcastInDim S32x256x8x128 ![0, 1, 2, 3] bcast_S32x256x8x1_S32x256x8x128_0_1_2_3 (Host.divf (broadcastInDim S32x256x8x1 ![0, 1, 2] bcast_S32x256x8_S32x256x8x1_0_1_2 (Host.reduceAdd o (constant (F := F) S_ .f32 0x00000000#32) reducesTo_S32x256x8x128_S32x256x8_d3 h_S_)) (broadcastInDim S32x256x8x1 ![] bcast_S_S32x256x8x1 (constant (F := F) S_ .f32 0x43000000#32))))) (subf o (broadcastInDim S32x256x8x128 ![0, 1, 2, 3] bcast_S32x256x8x1_S32x256x8x128_0_1_2_3 (Host.divf (broadcastInDim S32x256x8x1 ![0, 1, 2] bcast_S32x256x8_S32x256x8x1_0_1_2 (Host.reduceAdd o (constant (F := F) S_ .f32 0x00000000#32) reducesTo_S32x256x8x128_S32x256x8_d3 h_S_)) (broadcastInDim S32x256x8x1 ![] bcast_S_S32x256x8x1 (constant (F := F) S_ .f32 0x43000000#32)))))) (constant (F := F) S_ .f32 0x00000000#32) reducesTo_S32x256x8x128_S32x256x8_d3 h_S_)) (broadcastInDim S32x256x8x1 ![] bcast_S_S32x256x8x1 (constant (F := F) S_ .f32 0x43000000#32))) (broadcastInDim S32x256x8x1 ![] bcast_S_S32x256x8x1 (constant (F := F) S_ .f32 0x3727C5AC#32)))))) shapeCasts_S32x256x8x128_S32x256x1024) (broadcastInDim S32x256x1024 ![0, 1, 2] bcast_S1x1x1024_S32x256x1024_0_1_2 (broadcastInDim S1x1x1024 ![2] bcast_S1024_S1x1x1024_2 (x2)))) (extractStridedSlice S32x256x1024 ![0, 0, 3072] (extf .f32 (extractStridedSlice S32x256x4096 ![0, 0, 3072] (shapeCast S32x256x11264 (x0) shapeCasts_S8192x11264_S32x256x11264) slices_S32x256x11264_S32x256x4096_0_0_3072) bitsLt_bf16_f32) slices_S32x256x4096_S32x256x1024_0_0_3072)) shapeCasts_S32x256x1024_S8192x1024) bitsLt_bf16_f32

/-- The states of the two directions side by side. -/
def stacked (a b : Vec F S32x8x128x128 .f32) : Vec F S32x2x8x128x128 .f32 :=
  concatenate S32x2x8x128x128 1 [⟨S32x1x8x128x128, (broadcastInDim S32x1x8x128x128 ![0, 2, 3, 4] bcast_S32x8x128x128_S32x1x8x128x128_0_2_3_4 a)⟩, ⟨S32x1x8x128x128, (broadcastInDim S32x1x8x128x128 ![0, 2, 3, 4] bcast_S32x8x128x128_S32x1x8x128x128_0_2_3_4 b)⟩] concatenates_S32x1x8x128x128_S32x1x8x128x128_S32x2x8x128x128_d1

theorem v107_eq (x0 : Vec F S8192x11264 .bf16) (x1 : Vec F S2x8 .f32) : val_main_v107 x0 x1 = scanOut (val_main_v7 x0) (val_main_v11 x0) (val_main_v9 x0) (val_main_v22 (F := F)) (val_main_v23 x1) := rfl
theorem v106_eq (x0 : Vec F S8192x11264 .bf16) (x1 : Vec F S2x8 .f32) : val_main_v106 x0 x1 = scanState (val_main_v11 x0) (val_main_v9 x0) (val_main_v22 (F := F)) (val_main_v23 x1) := rfl
theorem v199_eq (x0 : Vec F S8192x11264 .bf16) (x1 : Vec F S2x8 .f32) : val_main_v199 x0 x1 = scanOut (back (val_main_v7 x0)) (back (val_main_v11 x0)) (back (val_main_v9 x0)) (val_main_v114 (F := F)) (val_main_v115 x1) := rfl
theorem v198_eq (x0 : Vec F S8192x11264 .bf16) (x1 : Vec F S2x8 .f32) : val_main_v198 x0 x1 = scanState (back (val_main_v11 x0)) (back (val_main_v9 x0)) (val_main_v114 (F := F)) (val_main_v115 x1) := rfl
theorem v226_eq (x0 : Vec F S8192x11264 .bf16) (x1 : Vec F S2x8 .f32) (x2 : Vec F S1024 .f32) : val_main_v226 x0 x1 x2 = normed (addf (val_main_v107 x0 x1) (back (val_main_v199 x0 x1))) x0 x2 := rfl
theorem v229_eq (x0 : Vec F S8192x11264 .bf16) (x1 : Vec F S2x8 .f32) : val_main_v229 x0 x1 = stacked (val_main_v106 x0 x1) (val_main_v198 x0 x1) := rfl

end Cert.ReferenceIdeal.Hand

end

end
-- ==== Proof.Sums.lean ====
module
public import Idealize.ShloMosaic.PureOps.Ideal.Laws
public import Mathlib.Algebra.BigOperators.Fin
public import Mathlib.Algebra.BigOperators.Ring.Finset
public import Mathlib.Analysis.SpecialFunctions.Exp

@[expose] public section

noncomputable section

namespace Cert.Retention

/-- Retention in one direction: the row `t` against the rows up to it, decayed by the distance. -/
def fwd (Q K : Fin 256 → Fin 128 → ℝ) (V : Fin 256 → ℝ) (L : ℝ) (t : Fin 256) : ℝ :=
  ∑ s : Fin 256, if s ≤ t then Real.exp (L * ((t.val : ℝ) - s.val)) * (∑ d, Q t d * K s d) * V s else 0

/-- The state after all rows, decayed by the distance from the last. -/
def lastState (K V : Fin 256 → ℝ) (L : ℝ) : ℝ :=
  ∑ s : Fin 256, Real.exp (L * (255 - (s.val : ℝ))) * K s * V s

/-- The decay inside a chunk. -/
def within (L : ℝ) (i j : Fin 128) : ℝ :=
  if 0 ≤ (i.val : ℝ) - j.val then Real.exp (L * max ((i.val : ℝ) - j.val) 0) else 0

/-- The state after a chunk, from the one before it. -/
def stepState (K V : Fin 128 → ℝ) (r L : ℝ) : ℝ :=
  r * Real.exp (L * 128) + ∑ y : Fin 128, K y * Real.exp (L * (127 - (y.val : ℝ))) * V y

theorem sum_halves (f : Fin 256 → ℝ) :
    ∑ s, f s = (∑ x : Fin 128, f ⟨x.val, by omega⟩) + ∑ x : Fin 128, f ⟨128 + x.val, by omega⟩ :=
  Fin.sum_univ_add (a := 128) (b := 128) f

/-- A row is in one chunk or the other. -/
theorem halves (t : Fin 256) : (∃ i : Fin 128, t = ⟨i.val, by omega⟩) ∨ ∃ i : Fin 128, t = ⟨128 + i.val, by omega⟩ := by
  by_cases h : t.val < 128
  · exact Or.inl ⟨⟨t.val, h⟩, rfl⟩
  · exact Or.inr ⟨⟨t.val - 128, by omega⟩, Fin.ext (by simp only; omega)⟩

/-- A row of the first chunk: the state before it is nothing. -/
theorem fwd_low (Q K : Fin 256 → Fin 128 → ℝ) (V : Fin 256 → ℝ) (L : ℝ) (i : Fin 128) :
    fwd Q K V L ⟨i.val, by omega⟩ =
      ∑ x : Fin 128, V ⟨x.val, by omega⟩ * ((∑ d, Q ⟨i.val, by omega⟩ d * K ⟨x.val, by omega⟩ d) * within L i x) := by
  unfold fwd
  rw [sum_halves, add_eq_left.mpr]
  · refine Finset.sum_congr rfl fun x _ => ?_
    unfold within
    by_cases h : x ≤ i
    · have h' : (x.val : ℝ) ≤ i.val := by exact_mod_cast h
      rw [if_pos (by exact h), if_pos (by linarith), max_eq_left (by linarith)]
      ring
    · have h' : (i.val : ℝ) < x.val := by exact_mod_cast not_le.mp h
      rw [if_neg (by exact h), if_neg (by linarith)]
      ring
  · refine Finset.sum_eq_zero fun x _ => if_neg ?_
    simp only [Fin.mk_le_mk]
    omega

/-- A row of the second chunk: the chunk's own rows and the state the first left. -/
theorem fwd_high (Q K : Fin 256 → Fin 128 → ℝ) (V : Fin 256 → ℝ) (L : ℝ) (i : Fin 128) :
    fwd Q K V L ⟨128 + i.val, by omega⟩ =
      (∑ x : Fin 128, V ⟨128 + x.val, by omega⟩ * ((∑ d, Q ⟨128 + i.val, by omega⟩ d * K ⟨128 + x.val, by omega⟩ d) * within L i x))
        + (∑ d, stepState (fun y => K ⟨y.val, by omega⟩ d) (fun y => V ⟨y.val, by omega⟩) 0 L * Q ⟨128 + i.val, by omega⟩ d) * Real.exp (L * ((i.val : ℝ) + 1)) := by
  unfold fwd
  rw [sum_halves, add_comm]
  congr 1
  · refine Finset.sum_congr rfl fun x _ => ?_
    unfold within
    by_cases h : x.val ≤ i.val
    · have h' : (x.val : ℝ) ≤ i.val := by exact_mod_cast h
      rw [if_pos (by simp only [Fin.mk_le_mk]; omega), if_pos (by linarith), max_eq_left (by linarith)]
      push_cast
      rw [show (128 + (i.val : ℝ) - (128 + x.val)) = i.val - x.val by ring]
      ring
    · have h' : (i.val : ℝ) < x.val := by exact_mod_cast not_le.mp h
      rw [if_neg (by simp only [Fin.mk_le_mk]; omega), if_neg (by linarith)]
      ring
  · unfold stepState
    simp only [zero_mul, zero_add, Finset.sum_mul, Finset.mul_sum]
    rw [Finset.sum_comm]
    refine Finset.sum_congr rfl fun x _ => ?_
    rw [if_pos (by simp only [Fin.mk_le_mk]; omega)]
    refine Finset.sum_congr rfl fun d _ => ?_
    rw [show L * (((128 + i.val : ℕ) : ℝ) - x.val) = L * (127 - (x.val : ℝ)) + L * ((i.val : ℝ) + 1) by push_cast; ring, Real.exp_add]
    ring

/-- The state after both chunks. -/
theorem lastState_eq (K V : Fin 256 → ℝ) (L : ℝ) :
    lastState K V L = stepState (fun y => K ⟨128 + y.val, by omega⟩) (fun y => V ⟨128 + y.val, by omega⟩)
      (stepState (fun y => K ⟨y.val, by omega⟩) (fun y => V ⟨y.val, by omega⟩) 0 L) L := by
  unfold lastState stepState
  rw [sum_halves]
  simp only [zero_mul, zero_add, Finset.sum_mul]
  congr 1
  · refine Finset.sum_congr rfl fun x _ => ?_
    rw [show L * (255 - (x.val : ℝ)) = L * (127 - (x.val : ℝ)) + L * 128 by ring, Real.exp_add]
    ring
  · refine Finset.sum_congr rfl fun x _ => ?_
    rw [show L * (255 - ((128 + x.val : ℕ) : ℝ)) = L * (127 - (x.val : ℝ)) by push_cast; ring]
    ring

theorem rev_val (s : Fin 256) : ((Fin.rev s).val : ℝ) = 255 - (s.val : ℝ) := by
  rw [Fin.val_rev]
  have := s.isLt
  rw [Nat.cast_sub (by omega)]
  push_cast
  ring

/-- The reversed sequence's retention: the row against the rows from it on. -/
theorem fwd_rev (Q K : Fin 256 → Fin 128 → ℝ) (V : Fin 256 → ℝ) (L : ℝ) (t : Fin 256) :
    fwd (fun s => Q s.rev) (fun s => K s.rev) (fun s => V s.rev) L t.rev =
      ∑ s : Fin 256, if t ≤ s then Real.exp (L * ((s.val : ℝ) - t.val)) * (∑ d, Q t d * K s d) * V s else 0 := by
  unfold fwd
  rw [← Equiv.sum_comp Fin.revPerm]
  refine Finset.sum_congr rfl fun s _ => ?_
  simp only [Fin.revPerm_apply, Fin.rev_rev, Fin.rev_le_rev, rev_val]
  rw [show (255 - (t.val : ℝ) - (255 - (s.val : ℝ))) = (s.val : ℝ) - t.val by ring]

/-- The reversed sequence's last state. -/
theorem lastState_rev (K V : Fin 256 → ℝ) (L : ℝ) :
    lastState (fun s => K s.rev) (fun s => V s.rev) L = ∑ s : Fin 256, Real.exp (L * (s.val : ℝ)) * K s * V s := by
  unfold lastState
  rw [← Equiv.sum_comp Fin.revPerm]
  refine Finset.sum_congr rfl fun s _ => ?_
  simp only [Fin.revPerm_apply, Fin.rev_rev, rev_val]
  rw [show (255 - (255 - (s.val : ℝ))) = (s.val : ℝ) by ring]

/-- The decay of both directions at once, with the key scale. -/
def both (c lf lb : ℝ) (t s : Fin 256) : ℝ :=
  (if s ≤ t then c * Real.exp (lf * ((t.val : ℝ) - s.val)) else 0) + if t ≤ s then c * Real.exp (lb * ((s.val : ℝ) - t.val)) else 0

/-- The two directions are one product with the decay of both. -/
theorem both_dirs (Q K : Fin 256 → Fin 128 → ℝ) (V : Fin 256 → ℝ) (c lf lb : ℝ) (t : Fin 256) :
    fwd Q (fun s d => K s d * c) V lf t + fwd (fun s => Q s.rev) (fun s d => K s.rev d * c) (fun s => V s.rev) lb t.rev
      = ∑ s : Fin 256, (∑ d, Q t d * K s d) * both c lf lb t s * V s := by
  rw [fwd_rev Q (fun s d => K s d * c) V lb t]
  unfold fwd both
  rw [← Finset.sum_add_distrib]
  refine Finset.sum_congr rfl fun s _ => ?_
  have e : (∑ d, Q t d * (K s d * c)) = (∑ d, Q t d * K s d) * c := by
    rw [Finset.sum_mul]
    exact Finset.sum_congr rfl fun d _ => by ring
  rw [e]
  split_ifs <;> ring

/-- A sum of real numbers is the same among the extended ones. -/
theorem coe_sum {ι : Type} (s : Finset ι) (f : ι → ℝ) : (∑ x ∈ s, ((f x : ℝ) : EReal)) = ((∑ x ∈ s, f x : ℝ) : EReal) := by
  classical
  induction s using Finset.induction_on with
  | empty => simp
  | insert a s ha ih => rw [Finset.sum_insert ha, Finset.sum_insert ha, ih, EReal.coe_add]

theorem coe_ite (p : Prop) [Decidable p] (a b : ℝ) : (if p then ((a : ℝ) : EReal) else ((b : ℝ) : EReal)) = ((if p then a else b : ℝ) : EReal) := by
  split_ifs <;> rfl

end Cert.Retention

end

end
-- ==== Proof.RefAt.lean ====
module
public import proofs.«01_k».proof.Proof.Ref
public import proofs.«01_k».proof.Proof.Sums

@[expose] public section

set_option maxRecDepth 16384

noncomputable section

open Idealize.ShloMosaic Idealize.ShloMosaic.TcCoe Idealize.SL.Sem

namespace Cert.Retention

/-- A small integer as a number. -/
theorem sitofp_nat (n : ℕ) (hn : n < 256) : FloatOps.sitofp (F := Ideal) FTy.f32 (BitVec.ofNat 32 n) = ((n : ℝ) : EReal) := by
  show (((BitVec.ofNat 32 n).toInt : ℝ) : EReal) = _
  have : (BitVec.ofNat 32 n).toInt = (n : ℤ) := by
    rw [BitVec.toInt_eq_toNat_cond, BitVec.toNat_ofNat, Nat.mod_eq_of_lt (by omega), if_pos (by omega)]
  rw [this]
  simp

/-- The difference of two small integers as a number. -/
theorem sitofp_sub (n k : ℕ) (hn : n < 256) (hk : k < 256) :
    FloatOps.sitofp (F := Ideal) FTy.f32 (IntOp.subi (BitVec.ofNat 32 n) (BitVec.ofNat 32 k)) = (((n : ℝ) - k : ℝ) : EReal) := by
  show (((BitVec.ofNat 32 n - BitVec.ofNat 32 k).toInt : ℝ) : EReal) = _
  have : (BitVec.ofNat 32 n - BitVec.ofNat 32 k).toInt = (n : ℤ) - k := by
    rw [BitVec.toInt_eq_toNat_cond, BitVec.toNat_sub, BitVec.toNat_ofNat, BitVec.toNat_ofNat, Nat.mod_eq_of_lt (a := n) (by omega), Nat.mod_eq_of_lt (a := k) (by omega)]
    split_ifs <;> omega
  rw [this]
  push_cast
  rfl

theorem bits127 : Ideal.ofBits .f32 0x42FE0000#32 = ((127 : ℝ) : EReal) := by
  simp [Ideal.ofBits, Ideal.ieee, -EReal.coe_mul]; norm_num
theorem bits128 : Ideal.ofBits .f32 0x43000000#32 = ((128 : ℝ) : EReal) := by
  simp [Ideal.ofBits, Ideal.ieee, -EReal.coe_mul]; norm_num
theorem bits255 : Ideal.ofBits .f32 0x437F0000#32 = ((255 : ℝ) : EReal) := by
  simp [Ideal.ofBits, Ideal.ieee, -EReal.coe_mul]; norm_num

/-- The key scale. -/
def keyScale : ℝ := (Ideal.ofBits .f32 0x3DB504F3#32).toReal
theorem bitsScale : Ideal.ofBits .f32 0x3DB504F3#32 = ((keyScale : ℝ) : EReal) := by
  unfold keyScale
  simp [Ideal.ofBits, Ideal.ieee, -EReal.coe_mul]

end Cert.Retention

namespace Cert.ReferenceIdeal.Hand

open Cert.ReferenceIdeal Cert.ReferenceIdeal.Facts Cert.ReferenceIdeal.Gen Cert.ReferenceIdeal.Read Cert.Retention

section
variable {lg : Vec Ideal S8 .f32} {L : Fin 8 → ℝ} (hl : ∀ h, lg (ix1 h) = ((L h : ℝ) : EReal))
include hl

theorem intra_at (h : Fin 8) (i j : Fin 128) : intra lg (ix3 h i j) = ((within (L h) i j : ℝ) : EReal) := by
  pointwise [intra]
  have e0 : id (constant (F := Ideal) S_ FTy.f32 0x00000000#32) ix0 = ((0 : ℝ) : EReal) := Ideal.ofBits_zero_f32
  have em (a b : ℝ) : max ((a : ℝ) : EReal) ((b : ℝ) : EReal) = ((max a b : ℝ) : EReal) := (EReal.coe_strictMono.monotone.map_max).symm
  rw [hl, sitofp_nat _ (by omega), sitofp_nat _ (by omega), ← EReal.coe_sub, ← EReal.coe_zero, em, ← EReal.coe_mul, Ideal.exp_coe, e0, coe_ite]
  simp only [EReal.coe_le_coe_iff]
  rfl

theorem xi_at (h : Fin 8) (i : Fin 128) : xi lg (ix2 i h) = ((Real.exp (L h * ((i.val : ℝ) + 1)) : ℝ) : EReal) := by
  pointwise [xi]
  rw [hl, sitofp_nat _ (by omega), ← EReal.coe_one, ← EReal.coe_add, ← EReal.coe_mul, Ideal.exp_coe]

theorem zeta_at (h : Fin 8) (i : Fin 128) : zeta lg (ix2 i h) = ((Real.exp (L h * (127 - (i.val : ℝ))) : ℝ) : EReal) := by
  pointwise [zeta]
  rw [hl, bits127, sitofp_nat _ (by omega), ← EReal.coe_sub, ← EReal.coe_mul, Ideal.exp_coe]

theorem chunkDecay_at (h : Fin 8) : chunkDecay lg (ix1 h) = ((Real.exp (L h * 128) : ℝ) : EReal) := by
  pointwise [chunkDecay]
  rw [hl, bits128, ← EReal.coe_mul, Ideal.exp_coe]

/-- The state after a chunk of real numbers. -/
theorem chunkState_at {k v : Vec Ideal S32x128x8x128 .f32} {R : Vec Ideal S32x8x128x128 .f32}
    {K V : Fin 32 → Fin 128 → Fin 8 → Fin 128 → ℝ} {S : Fin 32 → Fin 8 → Fin 128 → Fin 128 → ℝ}
    (hk : ∀ b t h d, k (ix4 b t h d) = ((K b t h d : ℝ) : EReal)) (hv : ∀ b t h d, v (ix4 b t h d) = ((V b t h d : ℝ) : EReal))
    (hR : ∀ b h i j, R (ix4 b h i j) = ((S b h i j : ℝ) : EReal)) (b : Fin 32) (h : Fin 8) (i j : Fin 128) :
    chunkState k v R lg (ix4 b h i j) = ((stepState (fun y => K b y h i) (fun y => V b y h j) (S b h i j) (L h) : ℝ) : EReal) := by
  pointwise [chunkState]
  simp only [chunkDecay_at hl, zeta_at hl, hk, hv, hR, ← EReal.coe_mul, coe_sum, ← EReal.coe_add]
  rfl

/-- A chunk of the output of real numbers. -/
theorem chunkOut_at {q k v : Vec Ideal S32x128x8x128 .f32} {R : Vec Ideal S32x8x128x128 .f32}
    {Q K V : Fin 32 → Fin 128 → Fin 8 → Fin 128 → ℝ} {S : Fin 32 → Fin 8 → Fin 128 → Fin 128 → ℝ}
    (hq : ∀ b t h d, q (ix4 b t h d) = ((Q b t h d : ℝ) : EReal))
    (hk : ∀ b t h d, k (ix4 b t h d) = ((K b t h d : ℝ) : EReal)) (hv : ∀ b t h d, v (ix4 b t h d) = ((V b t h d : ℝ) : EReal))
    (hR : ∀ b h i j, R (ix4 b h i j) = ((S b h i j : ℝ) : EReal)) (b : Fin 32) (h : Fin 8) (i e : Fin 128) :
    chunkOut q k v R lg (ix4 b i h e) =
      (((∑ x, V b x h e * ((∑ d, Q b i h d * K b x h d) * within (L h) i x)) + (∑ d, S b h d e * Q b i h d) * Real.exp (L h * ((i.val : ℝ) + 1)) : ℝ) : EReal) := by
  pointwise [chunkOut]
  simp only [intra_at hl, xi_at hl, hq, hk, hv, hR, ← EReal.coe_mul, coe_sum, ← EReal.coe_add]

end

section
variable (x : Vec Ideal S32x256x8x128 .f32) (a b : Vec Ideal S32x128x8x128 .f32)

theorem part0_at (n : Fin 32) (i : Fin 128) (h : Fin 8) (j : Fin 128) : part0 x (ix4 n i h j) = x (ix4 n ⟨i.val, by omega⟩ h j) := by
  pointwise [part0]

theorem part1_at (n : Fin 32) (i : Fin 128) (h : Fin 8) (j : Fin 128) : part1 x (ix4 n i h j) = x (ix4 n ⟨128 + i.val, by omega⟩ h j) := by
  pointwise [part1]

theorem joined_low (n : Fin 32) (i : Fin 128) (h : Fin 8) (j : Fin 128) : joined a b (ix4 n ⟨i.val, by omega⟩ h j) = a (ix4 n i h j) := by
  pointwise [joined]

theorem joined_high (n : Fin 32) (i : Fin 128) (h : Fin 8) (j : Fin 128) : joined a b (ix4 n ⟨128 + i.val, by omega⟩ h j) = b (ix4 n i h j) := by
  pointwise [joined]

theorem back_at (n : Fin 32) (i : Fin 256) (h : Fin 8) (j : Fin 128) : back x (ix4 n i h j) = x (ix4 n i.rev h j) := by
  pointwise [back]
  rfl
end

section
variable {lg : Vec Ideal S8 .f32} {L : Fin 8 → ℝ} (hl : ∀ h, lg (ix1 h) = ((L h : ℝ) : EReal))
  {q k v : Vec Ideal S32x256x8x128 .f32} {R : Vec Ideal S32x8x128x128 .f32} {Q K V : Fin 32 → Fin 256 → Fin 8 → Fin 128 → ℝ}
  (hq : ∀ b t h d, q (ix4 b t h d) = ((Q b t h d : ℝ) : EReal))
  (hk : ∀ b t h d, k (ix4 b t h d) = ((K b t h d : ℝ) : EReal)) (hv : ∀ b t h d, v (ix4 b t h d) = ((V b t h d : ℝ) : EReal))
  (hR : ∀ b h i j, R (ix4 b h i j) = ((0 : ℝ) : EReal))
include hl hk hv hR

/-- The state the first chunk leaves. -/
theorem midState_at (b : Fin 32) (h : Fin 8) (i j : Fin 128) :
    chunkState (part0 k) (part0 v) R lg (ix4 b h i j) =
      ((stepState (fun y => K b ⟨y.val, by omega⟩ h i) (fun y => V b ⟨y.val, by omega⟩ h j) 0 (L h) : ℝ) : EReal) :=
  chunkState_at hl (K := fun b t h d => K b ⟨t.val, by omega⟩ h d) (V := fun b t h d => V b ⟨t.val, by omega⟩ h d) (S := fun _ _ _ _ => 0)
    (fun b t h d => (part0_at k b t h d).trans (hk ..)) (fun b t h d => (part0_at v b t h d).trans (hv ..)) hR b h i j

/-- The last state of one direction is the retention's. -/
theorem scanState_at (b : Fin 32) (h : Fin 8) (i j : Fin 128) :
    scanState k v R lg (ix4 b h i j) = ((lastState (fun t => K b t h i) (fun t => V b t h j) (L h) : ℝ) : EReal) := by
  rw [lastState_eq]
  exact chunkState_at hl (K := fun b t h d => K b ⟨128 + t.val, by omega⟩ h d) (V := fun b t h d => V b ⟨128 + t.val, by omega⟩ h d)
    (S := fun b h i j => stepState (fun y => K b ⟨y.val, by omega⟩ h i) (fun y => V b ⟨y.val, by omega⟩ h j) 0 (L h))
    (fun b t h d => (part1_at k b t h d).trans (hk ..)) (fun b t h d => (part1_at v b t h d).trans (hv ..))
    (midState_at hl hk hv hR) b h i j

include hq

/-- The output of one direction is the retention. -/
theorem scanOut_at (b : Fin 32) (t : Fin 256) (h : Fin 8) (e : Fin 128) :
    scanOut q k v R lg (ix4 b t h e) =
      ((fwd (fun t d => Q b t h d) (fun t d => K b t h d) (fun t => V b t h e) (L h) t : ℝ) : EReal) := by
  unfold scanOut
  rcases halves t with ⟨i, rfl⟩ | ⟨i, rfl⟩
  · rw [joined_low, fwd_low, chunkOut_at hl (Q := fun b t h d => Q b ⟨t.val, by omega⟩ h d) (K := fun b t h d => K b ⟨t.val, by omega⟩ h d) (V := fun b t h d => V b ⟨t.val, by omega⟩ h d)
      (S := fun _ _ _ _ => 0)
      (fun b t h d => (part0_at q b t h d).trans (hq ..)) (fun b t h d => (part0_at k b t h d).trans (hk ..)) (fun b t h d => (part0_at v b t h d).trans (hv ..)) hR]
    simp only [zero_mul, Finset.sum_const_zero, add_zero]
  · rw [joined_high, fwd_high]
    exact chunkOut_at hl (Q := fun b t h d => Q b ⟨128 + t.val, by omega⟩ h d) (K := fun b t h d => K b ⟨128 + t.val, by omega⟩ h d) (V := fun b t h d => V b ⟨128 + t.val, by omega⟩ h d)
      (S := fun b h i j => stepState (fun y => K b ⟨y.val, by omega⟩ h i) (fun y => V b ⟨y.val, by omega⟩ h j) 0 (L h))
      (fun b t h d => (part1_at q b t h d).trans (hq ..)) (fun b t h d => (part1_at k b t h d).trans (hk ..)) (fun b t h d => (part1_at v b t h d).trans (hv ..))
      (midState_at hl hk hv hR) b h i e

end

end Cert.ReferenceIdeal.Hand

end

end
-- ==== Proof.KerAt.lean ====
module
public import proofs.«01_k».proof.Proof.Scr
public import proofs.«01_k».proof.Proof.RefAt

@[expose] public section

set_option maxRecDepth 16384

noncomputable section

open Idealize.ShloMosaic Idealize.ShloMosaic.TcCoe Idealize.SL.Sem

namespace Cert.Retention

/-- The logarithm of the decay rate, from its logit. -/
def logRate (x : ℝ) : ℝ := Real.log (1 / (1 + Real.exp (-x)))

theorem logRate_at (x : ℝ) : Ideal.log (Ideal.div 1 (1 + Ideal.exp ((-x : ℝ) : EReal))) = ((logRate x : ℝ) : EReal) := by
  have hp : 0 < 1 + Real.exp (-x) := by positivity
  rw [Ideal.exp_coe, ← EReal.coe_one, ← EReal.coe_add, Ideal.div_coe hp.ne', ← EReal.coe_mul, Ideal.log_coe, if_neg (by rw [one_mul]; exact not_le.mpr (by positivity)), one_mul]
  rfl

theorem logRate_sub (x : ℝ) : Ideal.log (Ideal.div 1 (1 + Ideal.exp (0 - ((x : ℝ) : EReal)))) = ((logRate x : ℝ) : EReal) := by
  rw [zero_sub, ← EReal.coe_neg, logRate_at]

theorem logRate_neg (x : ℝ) : Ideal.log (Ideal.div 1 (1 + Ideal.exp (-((x : ℝ) : EReal)))) = ((logRate x : ℝ) : EReal) := by
  rw [← EReal.coe_neg, logRate_at]

/-- The decay of both directions in a quarter on the diagonal. -/
theorem both_same (c f b : ℝ) (t s : Fin 256) (i j : Fin 128) (h : (t.val : ℝ) - s.val = (i.val : ℝ) - j.val) :
    both c f b t s = (if 0 ≤ (i.val : ℝ) - j.val then c * Real.exp (f * ((i.val : ℝ) - j.val)) else 0)
      + if (i.val : ℝ) - j.val ≤ 0 then c * Real.exp (b * (0 - ((i.val : ℝ) - j.val))) else 0 := by
  unfold both
  have p1 : s ≤ t ↔ 0 ≤ (i.val : ℝ) - j.val := by rw [← h, sub_nonneg, Nat.cast_le]; rfl
  have p2 : t ≤ s ↔ (i.val : ℝ) - j.val ≤ 0 := by rw [← h, sub_nonpos, Nat.cast_le]; rfl
  simp only [p1, p2, h, show (s.val : ℝ) - t.val = 0 - ((i.val : ℝ) - j.val) by rw [← h]; ring]

/-- Below the diagonal only the forward direction is left. -/
theorem both_low (c f b : ℝ) (t s : Fin 256) (i j : Fin 128) (h : (t.val : ℝ) - s.val = (i.val : ℝ) - j.val + 128) :
    both c f b t s = c * Real.exp (f * ((i.val : ℝ) - j.val)) * Real.exp (f * 128) := by
  have hj : (j.val : ℝ) < 128 := by exact_mod_cast j.isLt
  have hi : (0 : ℝ) ≤ i.val := Nat.cast_nonneg _
  have p : s.val < t.val := by have : (s.val : ℝ) < t.val := by linarith
                               exact_mod_cast this
  unfold both
  rw [if_pos (Fin.lt_def.mpr p).le, if_neg (not_le.mpr (Fin.lt_def.mpr p)), h, mul_add, Real.exp_add]
  ring

/-- Above the diagonal only the backward direction is left. -/
theorem both_up (c f b : ℝ) (t s : Fin 256) (i j : Fin 128) (h : (s.val : ℝ) - t.val = 128 - ((i.val : ℝ) - j.val)) :
    both c f b t s = c * Real.exp (b * (0 - ((i.val : ℝ) - j.val))) * Real.exp (b * 128) := by
  have hi : (i.val : ℝ) < 128 := by exact_mod_cast i.isLt
  have hj : (0 : ℝ) ≤ j.val := Nat.cast_nonneg _
  have p : t.val < s.val := by have : (t.val : ℝ) < s.val := by linarith
                               exact_mod_cast this
  unfold both
  rw [if_neg (not_le.mpr (Fin.lt_def.mpr p)), if_pos (Fin.lt_def.mpr p).le, h,
    show b * (128 - ((i.val : ℝ) - j.val)) = b * (0 - ((i.val : ℝ) - j.val)) + b * 128 by ring, Real.exp_add]
  ring

end Cert.Retention

namespace Cert.KernelIdeal.Hand

open Cert.KernelIdeal Cert.KernelIdeal.Gen Cert.Retention

section
variable {lf lb : Vec Ideal S1x1x1x128 .f32} {f b : ℝ} (hf : lf (ix4 0 0 0 0) = ((f : ℝ) : EReal)) (hb : lb (ix4 0 0 0 0) = ((b : ℝ) : EReal))

include hf hb in
/-- A quarter on the diagonal. -/
theorem dDiag_at (i j : Fin 128) :
    dDiag lf lb (ix3 0 i j) = (((if 0 ≤ (i.val : ℝ) - j.val then keyScale * Real.exp (logRate f * ((i.val : ℝ) - j.val)) else 0)
      + if (i.val : ℝ) - j.val ≤ 0 then keyScale * Real.exp (logRate b * (0 - ((i.val : ℝ) - j.val))) else 0 : ℝ) : EReal) := by
  unfold dDiag
  pointwise [k0_pay10, k0_pay9, k0_pay8, k0_pay7, k0_pay6, k0_pay5, k0_pay4, k0_pay3, k0_pay2]
  rw [hf, hb, logRate_sub, logRate_sub, sitofp_sub _ _ (by omega) (by omega), bitsScale, ← EReal.coe_zero]
  simp only [← EReal.coe_sub, ← EReal.coe_mul, Ideal.exp_coe, coe_ite, ← EReal.coe_add, EReal.coe_le_coe_iff]

include hf in
/-- The quarter below the diagonal. -/
theorem dLow_at (i j : Fin 128) :
    dLow lf (ix3 0 i j) = ((keyScale * Real.exp (logRate f * ((i.val : ℝ) - j.val)) * Real.exp (logRate f * 128) : ℝ) : EReal) := by
  unfold dLow
  pointwise [k0_pay12, k0_pay5, k0_pay3, k0_pay2]
  rw [hf, logRate_sub, sitofp_sub _ _ (by omega) (by omega), bitsScale, bits128]
  simp only [← EReal.coe_mul, Ideal.exp_coe]

include hb in
/-- The quarter above the diagonal. -/
theorem dUp_at (i j : Fin 128) :
    dUp lb (ix3 0 i j) = ((keyScale * Real.exp (logRate b * (0 - ((i.val : ℝ) - j.val))) * Real.exp (logRate b * 128) : ℝ) : EReal) := by
  unfold dUp
  pointwise [k0_pay11, k0_pay6, k0_pay4, k0_pay2]
  rw [hb, logRate_sub, sitofp_sub _ _ (by omega) (by omega), bitsScale, bits128, ← EReal.coe_zero]
  simp only [← EReal.coe_sub, ← EReal.coe_mul, Ideal.exp_coe]

include hf in
/-- The weights of the forward state. -/
theorem wFwd_at (i : Fin 256) (e : Fin 128) :
    wFwd lf (ix4 0 0 i e) = ((keyScale * Real.exp (logRate f * (255 - (i.val : ℝ))) : ℝ) : EReal) := by
  unfold wFwd
  pointwise [k0_pay16, k0_pay15, k0_pay14, k0_pay3]
  rw [hf, logRate_sub, sitofp_nat _ (by omega), bitsScale, bits255]
  simp only [← EReal.coe_sub, ← EReal.coe_mul, Ideal.exp_coe]

include hb in
/-- The weights of the backward state. -/
theorem wBwd_at (i : Fin 256) (e : Fin 128) :
    wBwd lb (ix4 0 0 i e) = ((keyScale * Real.exp (logRate b * (i.val : ℝ)) : ℝ) : EReal) := by
  unfold wBwd
  pointwise [k0_pay17, k0_pay14, k0_pay4]
  rw [hb, logRate_sub, sitofp_nat _ (by omega), bitsScale]
  simp only [← EReal.coe_mul, Ideal.exp_coe]
end

section
variable {x : Vec Ideal S8x2x1x128 .f32} {lg : Fin 2 → Fin 8 → ℝ} (hx : ∀ h r l, x (ix4 h r 0 l) = ((lg r h : ℝ) : EReal))
include hx

/-- A head's decay matrix is the decay of both directions. -/
theorem dScr_at (h : Fin 8) (t s : Fin 256) :
    dScr x (ix3 h t s) = ((both keyScale (logRate (lg 0 h)) (logRate (lg 1 h)) t s : ℝ) : EReal) := by
  have hf : lgslab x h 0 (ix4 0 0 0 0) = ((lg 0 h : ℝ) : EReal) := hx h 0 0
  have hb : lgslab x h 1 (ix4 0 0 0 0) = ((lg 1 h : ℝ) : EReal) := hx h 1 0
  show dUnit (lgslab x h 0) (lgslab x h 1) ⟨t.val / 128, _⟩ ⟨s.val / 128, _⟩ (ix3 0 ⟨t.val % 128, _⟩ ⟨s.val % 128, _⟩) = _
  have ht := t.isLt
  have hs := s.isLt
  have et : (t.val : ℝ) = 128 * ((t.val / 128 : ℕ) : ℝ) + ((t.val % 128 : ℕ) : ℝ) := by exact_mod_cast (Nat.div_add_mod t.val 128).symm
  have es : (s.val : ℝ) = 128 * ((s.val / 128 : ℕ) : ℝ) + ((s.val % 128 : ℕ) : ℝ) := by exact_mod_cast (Nat.div_add_mod s.val 128).symm
  unfold dUnit
  split_ifs with h1 h2
  · simp only at h1
    rw [dDiag_at hf hb, both_same _ _ _ t s ⟨t.val % 128, by omega⟩ ⟨s.val % 128, by omega⟩ (by rw [et, es, h1]; ring)]
  · simp only at h1 h2
    have e1 : t.val / 128 = 1 := by omega
    have e0 : s.val / 128 = 0 := by omega
    rw [dLow_at hf, both_low _ _ _ t s ⟨t.val % 128, by omega⟩ ⟨s.val % 128, by omega⟩ (by rw [et, es, e1, e0]; push_cast; ring)]
  · simp only at h1 h2
    have e1 : s.val / 128 = 1 := by omega
    have e0 : t.val / 128 = 0 := by omega
    rw [dUp_at hb, both_up _ _ _ t s ⟨t.val % 128, by omega⟩ ⟨s.val % 128, by omega⟩ (by rw [et, es, e1, e0]; push_cast; ring)]

/-- The state weights of a head. -/
theorem wScr_fwd (h : Fin 8) (t : Fin 256) (e : Fin 128) :
    wScr x (ix4 h 0 t e) = ((keyScale * Real.exp (logRate (lg 0 h) * (255 - (t.val : ℝ))) : ℝ) : EReal) :=
  wFwd_at (hx h 0 0) t e

theorem wScr_bwd (h : Fin 8) (t : Fin 256) (e : Fin 128) :
    wScr x (ix4 h 1 t e) = ((keyScale * Real.exp (logRate (lg 1 h) * (t.val : ℝ)) : ℝ) : EReal) :=
  wBwd_at (hx h 1 0) t e
end

end Cert.KernelIdeal.Hand

end

end
-- ==== Proof.Match.lean ====
module
public import proofs.«01_k».proof.Proof.Whole
public import proofs.«01_k».proof.Proof.KerAt

@[expose] public section

set_option maxRecDepth 16384

noncomputable section

open Idealize.ShloMosaic Idealize.ShloMosaic.TcCoe Idealize.SL.Sem

namespace Cert.Retention

/-- An output row normalised: its mean taken off, divided by its spread. -/
def normAt (o : Fin 128 → EReal) (e : Fin 128) : EReal :=
  (o e - Ideal.div (∑ x, o x) (Ideal.ofBits .f32 0x43000000#32)) *
    Ideal.rsqrt (Ideal.div (∑ y, (o y - Ideal.div (∑ x, o x) (Ideal.ofBits .f32 0x43000000#32)) * (o y - Ideal.div (∑ x, o x) (Ideal.ofBits .f32 0x43000000#32)))
      (Ideal.ofBits .f32 0x43000000#32) + Ideal.ofBits .f32 0x3727C5AC#32)

end Cert.Retention

namespace Cert.ReferenceIdeal.Hand

open Cert.ReferenceIdeal Cert.ReferenceIdeal.Facts Cert.ReferenceIdeal.Gen Cert.ReferenceIdeal.Read Cert.Retention

theorem normed_at (o : Vec Ideal S32x256x8x128 .f32) (x0 : Vec Ideal S8192x11264 .bf16) (x2 : Vec Ideal S1024 .f32) (r : Fin 8192) (j : Fin 1024) :
    normed o x0 x2 (ix2 r j) = normAt (fun e => o (ix4 (⟨r.val / 256, by omega⟩ : Fin 32) (⟨r.val % 256, by omega⟩ : Fin 256) (⟨j.val / 128, by omega⟩ : Fin 8) e)) ⟨j.val % 128, by omega⟩
      * x2 (ix1 j) * x0 (ix2 r (⟨3072 + (3072 + j.val), by omega⟩ : Fin 11264)) := by
  pointwise [normed]
  rfl

theorem stacked_0 (a b : Vec Ideal S32x8x128x128 .f32) (n : Fin 32) (h : Fin 8) (i j : Fin 128) : stacked a b (ix5 n 0 h i j) = a (ix4 n h i j) := by
  pointwise [stacked]

theorem stacked_1 (a b : Vec Ideal S32x8x128x128 .f32) (n : Fin 32) (h : Fin 8) (i j : Fin 128) : stacked a b (ix5 n 1 h i j) = b (ix4 n h i j) := by
  pointwise [stacked]

section
variable {x0 : Vec Ideal S8192x11264 .bf16} {x1 : Vec Ideal S2x8 .f32} (x2 : Vec Ideal S1024 .f32)
  {P : Fin 8192 → Fin 11264 → ℝ} {lg : Fin 2 → Fin 8 → ℝ}

/-- A row of a sequence, and a column of a head in one of the projections. -/
def at3 (P : Fin 8192 → Fin 11264 → ℝ) (w : Fin 8) (b : Fin 32) (t : Fin 256) (h : Fin 8) (d : Fin 128) : ℝ :=
  P ⟨256 * b.val + t.val, by omega⟩ ⟨1024 * w.val + (128 * h.val + d.val), by omega⟩

variable (hp : ∀ (r : Fin 8192) (c : Fin 11264), 3072 ≤ c.val → c.val < 6144 → x0 (ix2 r c) = ((P r c : ℝ) : EReal))
  (hl : ∀ d h, x1 (ix2 d h) = ((lg d h : ℝ) : EReal))

include hp in
theorem v7_at (b : Fin 32) (t : Fin 256) (h : Fin 8) (d : Fin 128) : val_main_v7 x0 (ix4 b t h d) = ((at3 P 3 b t h d : ℝ) : EReal) := by
  pointwise [val_main_v7, val_main_v3, val_main_v2, val_main_v1, val_main_v0]
  rw [hp _ _ (by show 3072 ≤ 3072 + (h.val * 128 + d.val); omega) (by show 3072 + (h.val * 128 + d.val) < 6144; omega)]
  unfold at3
  congr 2 <;> exact Fin.ext (by simp <;> omega)

include hp in
theorem v9_at (b : Fin 32) (t : Fin 256) (h : Fin 8) (d : Fin 128) : val_main_v9 x0 (ix4 b t h d) = ((at3 P 5 b t h d : ℝ) : EReal) := by
  pointwise [val_main_v9, val_main_v5, val_main_v2, val_main_v1, val_main_v0]
  rw [hp _ _ (by show 3072 ≤ 3072 + (2048 + (h.val * 128 + d.val)); omega) (by show 3072 + (2048 + (h.val * 128 + d.val)) < 6144; omega)]
  unfold at3
  congr 2 <;> exact Fin.ext (by simp <;> omega)

include hp in
theorem v11_at (b : Fin 32) (t : Fin 256) (h : Fin 8) (d : Fin 128) : val_main_v11 x0 (ix4 b t h d) = ((at3 P 4 b t h d * keyScale : ℝ) : EReal) := by
  pointwise [val_main_v11, val_main_v8, val_main_v4, val_main_v2, val_main_v1, val_main_v0, val_main_v10, val_main_cst]
  rw [hp _ _ (by show 3072 ≤ 3072 + (1024 + (h.val * 128 + d.val)); omega) (by show 3072 + (1024 + (h.val * 128 + d.val)) < 6144; omega), bitsScale, ← EReal.coe_mul]
  unfold at3
  congr 3 <;> exact Fin.ext (by simp <;> omega)

include hl in
theorem v23_at (h : Fin 8) : val_main_v23 x1 (ix1 h) = ((logRate (lg 0 h) : ℝ) : EReal) := by
  pointwise [val_main_v23, val_main_v20, val_main_v19, val_main_v17, val_main_v16, val_main_cst_1, val_main_v15, val_main_v14, val_main_cst_0, val_main_v13, val_main_v12]
  rw [hl, logRate_neg]

include hl in
theorem v115_at (h : Fin 8) : val_main_v115 x1 (ix1 h) = ((logRate (lg 1 h) : ℝ) : EReal) := by
  pointwise [val_main_v115, val_main_v112, val_main_v111, val_main_v17, val_main_v16, val_main_cst_1, val_main_v15, val_main_v14, val_main_cst_0, val_main_v13, val_main_v12]
  rw [hl, logRate_neg]

theorem v22_at (b : Fin 32) (h : Fin 8) (i j : Fin 128) : val_main_v22 (F := Ideal) (ix4 b h i j) = ((0 : ℝ) : EReal) := by
  rw [EReal.coe_zero]
  pointwise [val_main_v22, val_main_v21, val_main_v18, val_main_cst_2]

theorem v114_at (b : Fin 32) (h : Fin 8) (i j : Fin 128) : val_main_v114 (F := Ideal) (ix4 b h i j) = ((0 : ℝ) : EReal) := by
  rw [EReal.coe_zero]
  pointwise [val_main_v114, val_main_v113, val_main_v18, val_main_cst_2]

/-- The retention of both directions, a row of a head. -/
def sumOut (P : Fin 8192 → Fin 11264 → ℝ) (lg : Fin 2 → Fin 8 → ℝ) (b : Fin 32) (t : Fin 256) (h : Fin 8) (e : Fin 128) : ℝ :=
  ∑ s : Fin 256, (∑ d, at3 P 3 b t h d * at3 P 4 b s h d) * both keyScale (logRate (lg 0 h)) (logRate (lg 1 h)) t s * at3 P 5 b s h e

/-- The weight of a row in a state. -/
def stateWeight (lg : Fin 2 → Fin 8 → ℝ) (d : Fin 2) (h : Fin 8) (t : Fin 256) : ℝ :=
  if d.val = 0 then keyScale * Real.exp (logRate (lg 0 h) * (255 - (t.val : ℝ))) else keyScale * Real.exp (logRate (lg 1 h) * (t.val : ℝ))

/-- The state of a direction and a head. -/
def sumState (P : Fin 8192 → Fin 11264 → ℝ) (lg : Fin 2 → Fin 8 → ℝ) (b : Fin 32) (d : Fin 2) (h : Fin 8) (i j : Fin 128) : ℝ :=
  ∑ s : Fin 256, at3 P 4 b s h i * stateWeight lg d h s * at3 P 5 b s h j

include hp hl

/-- The reference's two directions added. -/
theorem o_at (b : Fin 32) (t : Fin 256) (h : Fin 8) (e : Fin 128) :
    addf (val_main_v107 x0 x1) (back (val_main_v199 x0 x1)) (ix4 b t h e) = ((sumOut P lg b t h e : ℝ) : EReal) := by
  show val_main_v107 x0 x1 (ix4 b t h e) + back (val_main_v199 x0 x1) (ix4 b t h e) = _
  rw [back_at, v107_eq, v199_eq, scanOut_at (v23_at hl) (v7_at hp) (v11_at hp) (v9_at hp) v22_at,
    scanOut_at (v115_at hl) (Q := fun b t h d => at3 P 3 b t.rev h d) (K := fun b t h d => at3 P 4 b t.rev h d * keyScale) (V := fun b t h d => at3 P 5 b t.rev h d)
      (fun b t h d => (back_at _ b t h d).trans (v7_at hp ..)) (fun b t h d => (back_at _ b t h d).trans (v11_at hp ..)) (fun b t h d => (back_at _ b t h d).trans (v9_at hp ..)) v114_at,
    ← EReal.coe_add]
  exact congrArg _ (both_dirs (fun t d => at3 P 3 b t h d) (fun t d => at3 P 4 b t h d) (fun t => at3 P 5 b t h e) keyScale _ _ t)

/-- The reference's first result. -/
theorem v226_at (r : Fin 8192) (j : Fin 1024) :
    val_main_v226 x0 x1 x2 (ix2 r j) = normAt (fun e => ((sumOut P lg ⟨r.val / 256, by omega⟩ ⟨r.val % 256, by omega⟩ ⟨j.val / 128, by omega⟩ e : ℝ) : EReal)) ⟨j.val % 128, by omega⟩
      * x2 (ix1 j) * x0 (ix2 r (⟨3072 + (3072 + j.val), by omega⟩ : Fin 11264)) := by
  rw [v226_eq, normed_at]
  simp only [o_at hp hl]

/-- The reference's second result. -/
theorem v229_at (b : Fin 32) (d : Fin 2) (h : Fin 8) (i j : Fin 128) :
    val_main_v229 x0 x1 (ix5 b d h i j) = ((sumState P lg b d h i j : ℝ) : EReal) := by
  rw [v229_eq]
  unfold sumState stateWeight
  match d with
  | 0 =>
    rw [stacked_0, v106_eq, scanState_at (v23_at hl) (v11_at hp) (v9_at hp) v22_at]
    unfold lastState
    refine congrArg _ (Finset.sum_congr rfl fun s _ => ?_)
    rw [if_pos (by decide)]
    ring
  | 1 =>
    rw [stacked_1, v198_eq, scanState_at (v115_at hl) (K := fun b t h d => at3 P 4 b t.rev h d * keyScale) (V := fun b t h d => at3 P 5 b t.rev h d)
      (fun b t h d => (back_at _ b t h d).trans (v11_at hp ..)) (fun b t h d => (back_at _ b t h d).trans (v9_at hp ..)) v114_at,
      lastState_rev (fun t => at3 P 4 b t h i * keyScale) (fun t => at3 P 5 b t h j)]
    refine congrArg _ (Finset.sum_congr rfl fun s _ => ?_)
    rw [if_neg (by decide)]
    ring
end

end Cert.ReferenceIdeal.Hand

namespace Cert.KernelIdeal.Hand

open Cert.KernelIdeal Cert.KernelIdeal.Gen Cert.Retention
open Cert.ReferenceIdeal.Hand (at3 sumOut sumState stateWeight)

/-- The kernel's output of a sequence and a head: the products with the decay matrix, normalised, weighted and gated. -/
theorem yUnit_at (q k v g : Vec Ideal S256x128 .bf16) (d : Vec Ideal S1x256x256 .f32) (gn : Vec Ideal S1x128 .f32) (i : Fin 256) (e : Fin 128) :
    yUnit q k v d gn g (ix2 i e) = normAt (fun e => ∑ s, (∑ x, q (ix2 i x) * k (ix2 s x)) * d (ix3 0 i s) * v (ix2 s e)) e * gn (ix2 0 e) * g (ix2 i e) := by
  unfold yUnit
  pointwise [k0_pay119, k0_pay114]
  rfl

/-- The kernel's state of a sequence, a head and a direction. -/
theorem sUnit_at (k v : Vec Ideal S256x128 .bf16) (w : Vec Ideal S1x1x256x128 .f32) (i j : Fin 128) :
    sUnit k v w (ix5 0 0 0 i j) = ∑ s, k (ix2 s i) * w (ix4 0 0 s i) * v (ix2 s j) := by
  unfold sUnit
  pointwise [k0_pay116, k0_pay115]

section
variable {x0 : Vec Ideal S8192x11264 .bf16} {P : Fin 8192 → Fin 11264 → ℝ}
  (hp : ∀ (r : Fin 8192) (c : Fin 11264), 3072 ≤ c.val → c.val < 6144 → x0 (ix2 r c) = ((P r c : ℝ) : EReal))
include hp

/-- A head's columns of a block of the projections. -/
theorem slab_at (T : Fin 8) (w : Fin 8) (h3 : 3 ≤ w.val) (h5 : w.val ≤ 5) (a : Fin 4) (h : Fin 8) (b : Fin 32) (hb : b.val = 4 * T.val + a.val) (t : Fin 256) (d : Fin 128) :
    slab (pblk x0 T w) a h (ix2 t d) = ((at3 P w b t h d : ℝ) : EReal) := by
  refine (hp _ _ ?_ ?_).trans ?_
  · show 3072 ≤ 1024 * w.val + (128 * h.val + d.val)
    omega
  · show 1024 * w.val + (128 * h.val + d.val) < 6144
    omega
  · unfold at3
    refine congrArg _ (congrArg₂ P (Fin.ext ?_) (Fin.ext ?_))
    · show 1024 * T.val + (256 * a.val + t.val) = 256 * b.val + t.val
      omega
    · rfl

variable {lx : Vec Ideal S8x2x1x128 .f32} {lg : Fin 2 → Fin 8 → ℝ} (hx : ∀ h r l, lx (ix4 h r 0 l) = ((lg r h : ℝ) : EReal))
include hx

/-- The kernel's block of outputs. -/
theorem yBlock_at (T : Fin 8) (gn : Vec Ideal S1x1024 .f32) (r l : Fin 1024) (b : Fin 32) (hb : b.val = 4 * T.val + r.val / 256) :
    yBlock (pblk x0 T 3) (pblk x0 T 4) (pblk x0 T 5) (pblk x0 T 6) gn (dScr lx) (ix2 r l) =
      normAt (fun e => ((sumOut P lg b ⟨r.val % 256, by omega⟩ ⟨l.val / 128, by omega⟩ e : ℝ) : EReal)) ⟨l.val % 128, by omega⟩
        * gn (ix2 0 l) * x0 (ix2 (⟨1024 * T.val + r.val, by omega⟩ : Fin 8192) (⟨3072 + (3072 + l.val), by omega⟩ : Fin 11264)) := by
  unfold yBlock
  refine (yUnit_at ..).trans ?_
  refine congrArg₂ (· * ·) (congrArg₂ (· * ·) (congrArg₂ normAt (funext fun e => ?_) rfl) ?_) ?_
  · unfold sumOut
    rw [← coe_sum]
    refine Finset.sum_congr rfl fun s _ => ?_
    have hd : dslab (dScr lx) (⟨l.val / 128, by omega⟩ : Fin 8) (ix3 0 (⟨r.val % 256, by omega⟩ : Fin 256) s) = _ := dScr_at hx ⟨l.val / 128, by omega⟩ ⟨r.val % 256, by omega⟩ s
    refine Eq.trans (congrArg₂ (· * ·) (congrArg₂ (· * ·) (Finset.sum_congr rfl fun d _ => congrArg₂ (· * ·) (slab_at hp T 3 (by decide) (by decide) _ _ b hb _ d) (slab_at hp T 4 (by decide) (by decide) _ _ b hb s d)) hd) (slab_at hp T 5 (by decide) (by decide) _ _ b hb s e)) ?_
    simp only [← EReal.coe_mul, coe_sum]
    rfl
  · refine congrArg gn (congrArg (ix2 0) (Fin.ext ?_))
    show 128 * (l.val / 128) + l.val % 128 = l.val
    omega
  · refine congrArg x0 (congrArg₂ ix2 (Fin.ext ?_) (Fin.ext ?_))
    · show 1024 * T.val + (256 * (r.val / 256) + r.val % 256) = 1024 * T.val + r.val
      omega
    · show 1024 * 6 + (128 * (l.val / 128) + l.val % 128) = 3072 + (3072 + l.val)
      omega

/-- The kernel's block of states. -/
theorem sBlock_at (T : Fin 8) (a : Fin 4) (d : Fin 2) (h : Fin 8) (i j : Fin 128) (b : Fin 32) (hb : b.val = 4 * T.val + a.val) :
    sBlock (pblk x0 T 4) (pblk x0 T 5) (wScr lx) (ix5 a d h i j) = ((sumState P lg b d h i j : ℝ) : EReal) := by
  unfold sBlock
  refine (sUnit_at ..).trans ?_
  unfold sumState
  rw [← coe_sum]
  refine Finset.sum_congr rfl fun s _ => ?_
  have hw : wslab (wScr lx) h d (ix4 0 0 s i) = ((stateWeight lg d h s : ℝ) : EReal) := by
    unfold stateWeight
    match d with
    | 0 => exact wScr_fwd hx h s i
    | 1 => exact wScr_bwd hx h s i
  refine Eq.trans (congrArg₂ (· * ·) (congrArg₂ (· * ·) (slab_at hp T 4 (by decide) (by decide) _ _ b hb s i) hw) (slab_at hp T 5 (by decide) (by decide) _ _ b hb s j)) ?_
  simp only [← EReal.coe_mul]
  rfl
end

end Cert.KernelIdeal.Hand

end

end
-- ==== Proof.FfnMath.lean ====
module
public import Idealize.ShloMosaic.Lib.Pointwise
public import Idealize.ShloMosaic.PureOps.Ideal.Laws

@[expose] public section

noncomputable section

open Idealize.ShloMosaic

/-! The feed-forward at one row and one column, of the arrays as functions of their indices. -/

namespace Cert.FeedForward

/-- The float word of 0.5. -/
abbrev half : EReal := Ideal.ofBits .f32 0x3F000000#32
/-- The float word of the square root of 2/π. -/
abbrev c1 : EReal := Ideal.ofBits .f32 0x3F4C422A#32
/-- The float word of 0.044715. -/
abbrev c3 : EReal := Ideal.ofBits .f32 0x3D372713#32
/-- The product of the two words. -/
abbrev c2 : EReal := ((80338380498831 / 2251799813685248 : ℝ) : EReal)

variable (h : Fin 8192 → Fin 2048 → EReal) (w : Fin 2048 → Fin 11264 → EReal) (cv : Fin 3 → Fin 11264 → EReal) (wd : Fin 5632 → Fin 2048 → EReal)

/-- The up projection. -/
def upAt (r : Fin 8192) (k : Fin 11264) : EReal := ∑ d, h r d * w d k

/-- The row before. -/
def before (r : Fin 8192) : Fin 8192 := ⟨r.val - 1, by omega⟩
/-- The row after, the last row's being the first. -/
def after (r : Fin 8192) : Fin 8192 := ⟨(r.val + 1) % 8192, Nat.mod_lt _ (by decide)⟩

/-- The up projection convolved along a sequence of 256 rows, nothing before its first row and nothing after its last. -/
def convAt (r : Fin 8192) (k : Fin 11264) : EReal :=
  (if r.val % 256 = 0 then 0 else upAt h w (before r) k) * cv 0 k + upAt h w r k * cv 1 k + (if r.val % 256 = 255 then 0 else upAt h w (after r) k) * cv 2 k

/-- The gate as the kernel computes it. -/
def gelu (a : EReal) : EReal := half * a + half * a * Ideal.tanh (a * (c1 + c2 * (a * a)))

/-- The gate as the reference computes it. -/
def geluRef (a : EReal) : EReal := a * (half * (Ideal.ofBits .f32 0x3F800000#32 + Ideal.tanh (c1 * (a + c3 * (a * a * a)))))

/-- A column of the gated half. -/
def lo (k : Fin 5632) : Fin 11264 := ⟨k.val, by omega⟩
/-- A column of the other half. -/
def hi (k : Fin 5632) : Fin 11264 := ⟨5632 + k.val, by omega⟩

/-- The activations. -/
def actAt (r : Fin 8192) (k : Fin 5632) : EReal := gelu (convAt h w cv r (lo k)) * convAt h w cv r (hi k)

/-- The down projection. -/
def downAt (r : Fin 8192) (n : Fin 2048) : EReal := ∑ k, actAt h w cv r k * wd k n

/-- A row normalised: each entry over the root of the row's mean square. -/
def normAt (f : Fin 2048 → EReal) (n : Fin 2048) : EReal :=
  f n * Ideal.rsqrt (Ideal.div (∑ n', f n' * f n') (Ideal.ofBits .f32 0x45000000#32) + Ideal.ofBits .f32 0x358637BD#32)

/-- The feed-forward added to its residual. -/
def ffnAt (x : Fin 8192 → Fin 2048 → EReal) (g gp : Fin 2048 → EReal) (r : Fin 8192) (n : Fin 2048) : EReal :=
  x r n + normAt (downAt h w cv wd r) n * (g n * gp n)

/-- The activations of a row of one block of 512 columns times the block's rows of the down weights. -/
def partAt (r : Fin 8192) (n : Fin 2048) (j : Fin 11) : EReal :=
  ∑ k : Fin 512, actAt h w cv r ⟨512 * j.val + k.val, by omega⟩ * wd ⟨512 * j.val + k.val, by omega⟩ n

/-- The down projection is the sum of its blocks. -/
theorem downAt_eq (r : Fin 8192) (n : Fin 2048) : downAt h w cv wd r n = ∑ j, partAt h w cv wd r n j := by
  unfold downAt partAt
  rw [← Fintype.sum_prod_type' (f := fun (j : Fin 11) (k : Fin 512) => actAt h w cv r ⟨512 * j.val + k.val, by omega⟩ * wd ⟨512 * j.val + k.val, by omega⟩ n)]
  refine (Fintype.sum_equiv (finProdFinEquiv (m := 11) (n := 512)) _ _ fun x => ?_).symm
  have e : (⟨512 * x.1.val + x.2.val, by omega⟩ : Fin 5632) = finProdFinEquiv x := Fin.ext (by show 512 * x.1.val + x.2.val = x.2.val + 512 * x.1.val; omega)
  exact congrArg (fun k => actAt h w cv r k * wd k n) e

theorem half_eq : half = ((1 / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem c1_eq : c1 = ((6693141 / 8388608 : ℝ) : EReal) := by
  simp [Ideal.ofBits, Ideal.ieee, -EReal.coe_mul]; norm_num
theorem c3_eq : c3 = ((12003091 / 268435456 : ℝ) : EReal) := by
  simp [Ideal.ofBits, Ideal.ieee, -EReal.coe_mul]; norm_num

/-- The two gates agree at a real number. -/
theorem gelu_eq (a : ℝ) : gelu a = geluRef a := by
  unfold gelu geluRef
  rw [half_eq, one_eq, c1_eq, c3_eq]
  simp only [← EReal.coe_mul, ← EReal.coe_add, Ideal.tanh_coe]
  congr 1
  have e : a * (6693141 / 8388608 + 80338380498831 / 2251799813685248 * (a * a)) = 6693141 / 8388608 * (a + 12003091 / 268435456 * (a * a * a)) := by ring
  rw [e]
  ring

/-- The up projection of real rows and columns is real. -/
theorem real_sum {ι : Type} [Fintype ι] {f : ι → EReal} (hf : ∀ i, ∃ a : ℝ, f i = a) : ∃ a : ℝ, ∑ i, f i = a := by
  choose g hg using hf
  refine ⟨∑ i, g i, ?_⟩
  rw [Finset.sum_congr rfl fun i _ => hg i]
  exact (map_sum (⟨⟨Real.toEReal, EReal.coe_zero⟩, EReal.coe_add⟩ : ℝ →+ EReal) g _).symm

theorem real_mul {a b : EReal} (ha : ∃ x : ℝ, a = x) (hb : ∃ x : ℝ, b = x) : ∃ x : ℝ, a * b = x := by
  obtain ⟨x, rfl⟩ := ha; obtain ⟨y, rfl⟩ := hb
  exact ⟨x * y, (EReal.coe_mul x y).symm⟩
theorem real_add {a b : EReal} (ha : ∃ x : ℝ, a = x) (hb : ∃ x : ℝ, b = x) : ∃ x : ℝ, a + b = x := by
  obtain ⟨x, rfl⟩ := ha; obtain ⟨y, rfl⟩ := hb
  exact ⟨x + y, (EReal.coe_add x y).symm⟩

theorem convAt_real (hh : ∀ r d, ∃ a : ℝ, h r d = (a : EReal)) (k : Fin 11264) (hw : ∀ d, ∃ a : ℝ, w d k = (a : EReal)) (hc : ∀ t, ∃ a : ℝ, cv t k = (a : EReal)) (r : Fin 8192) :
    ∃ a : ℝ, convAt h w cv r k = a := by
  have hu : ∀ r, ∃ a : ℝ, upAt h w r k = a := fun r => real_sum fun d => real_mul (hh r d) (hw d)
  have hi : ∀ (p : Prop) [Decidable p] (x : EReal), (∃ a : ℝ, x = a) → ∃ a : ℝ, (if p then 0 else x) = a := fun p _ x hx => by
    by_cases hp : p
    · exact ⟨0, by rw [if_pos hp, EReal.coe_zero]⟩
    · rw [if_neg hp]; exact hx
  exact real_add (real_add (real_mul (hi _ _ (hu _)) (hc 0)) (real_mul (hu _) (hc 1))) (real_mul (hi _ _ (hu _)) (hc 2))

end Cert.FeedForward

end
end
-- ==== Proof.FfnAt.lean ====
module
public import proofs.«01_k».proof.Proof.FfnFrame
public import proofs.«01_k».proof.Proof.FfnMath
public import Idealize.ShloMosaic.Lib.Pipeline.Value
public import Idealize.ShloMosaic.Lib.Pipeline.ValueKit.Tiles
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.FfnIdeal.Hand

open Cert.FfnIdeal Cert.FfnIdeal.Gen Cert.FeedForward

/-- The first rows of the sequences in a block. -/
theorem first_row : ∀ p : Fin 1024, k0_pay6 (ix2 p (0 : Fin 512)) = if p.val % 256 = 0 then 1#1 else 0#1 := by decide +kernel

theorem k6 (p : Fin 1024) (k : Fin 512) : k0_pay6 (ix2 p k) = if p.val % 256 = 0 then 1#1 else 0#1 := by
  rw [← first_row]
  pointwise [k0_pay6, k0_pay5]

/-- The last rows of the sequences in a block. -/
theorem last_row : ∀ p : Fin 1024, k0_pay7 (ix2 p (0 : Fin 512)) = if p.val % 256 = 255 then 1#1 else 0#1 := by decide +kernel

theorem k7 (p : Fin 1024) (k : Fin 512) : k0_pay7 (ix2 p k) = if p.val % 256 = 255 then 1#1 else 0#1 := by
  rw [← last_row]
  pointwise [k0_pay7, k0_pay5]

theorem select_ite (c : Prop) [Decidable c] (x y : EReal) : Scalar.select (if c then 1#1 else 0#1) x y = if c then x else y := by
  by_cases h : c
  · rw [if_pos h, if_pos h]; rfl
  · rw [if_neg h, if_neg h]; rfl

variable (h : Fin 8192 → Fin 2048 → EReal) (w : Fin 2048 → Fin 11264 → EReal) (cv : Fin 3 → Fin 11264 → EReal) (wd : Fin 5632 → Fin 2048 → EReal)

/-- Row `p` of block `i`. -/
def row (i : Fin 8) (p : Fin 1024) : Fin 8192 := ⟨1024 * i.val + p.val, by omega⟩
/-- Column `k` of block `j`. -/
def col (j : Fin 11) (k : Fin 512) : Fin 5632 := ⟨512 * j.val + k.val, by omega⟩

theorem conv_block (i : Fin 8) (p : Fin 1024) (k : Fin 11264) (q q' : Fin 1024) (hq : q.val = (p.val + 1024 - 1) % 1024) (hq' : q'.val = (p.val + 1024 - 1023) % 1024) :
    (if p.val % 256 = 0 then 0 else upAt h w (row i q) k) * cv 0 k + upAt h w (row i p) k * cv 1 k + (if p.val % 256 = 255 then 0 else upAt h w (row i q') k) * cv 2 k
      = convAt h w cv (row i p) k := by
  unfold convAt
  have e0 : (row i p).val % 256 = p.val % 256 := by show (1024 * i.val + p.val) % 256 = _; omega
  rw [e0]
  refine congrArg₂ (· + ·) (congrArg₂ (· + ·) (congrArg₂ (· * ·) ?_ rfl) rfl) (congrArg₂ (· * ·) ?_ rfl)
  · by_cases hp : p.val % 256 = 0
    · rw [if_pos hp, if_pos hp]
    · rw [if_neg hp, if_neg hp]
      exact congrArg (fun r => upAt h w r k) (Fin.ext (by show 1024 * i.val + q.val = 1024 * i.val + p.val - 1; omega))
  · by_cases hp : p.val % 256 = 255
    · rw [if_pos hp, if_pos hp]
    · rw [if_neg hp, if_neg hp]
      exact congrArg (fun r => upAt h w r k) (Fin.ext (by show 1024 * i.val + q'.val = (1024 * i.val + p.val + 1) % 8192; omega))

theorem ite_zero_mul' (c : Prop) [Decidable c] (x y : EReal) : (if c then 0 else x * y) = (if c then 0 else x) * y := by
  by_cases h : c
  · rw [if_pos h, if_pos h, zero_mul]
  · rw [if_neg h, if_neg h]

theorem named_c2 : (Named.named κ "c2" (0x3D122279#32) : Ideal .f32) = c2 := IdealRules.named_const.ideal_named_scalar _ _ _ _ rfl

/-- The activations of a block of rows and a block of columns. -/
theorem up_at (x0 : Vec Ideal S1024x2048 .bf16) (x3 x4 : Vec Ideal S2048x512 .bf16) (x5 x6 : Vec Ideal S3x512 .f32) (i : Fin 8) (j : Fin 11)
    (h0 : ∀ p d, x0 (ix2 p d) = h (row i p) d) (h3 : ∀ d k, x3 (ix2 d k) = w d (lo (col j k))) (h4 : ∀ d k, x4 (ix2 d k) = w d (hi (col j k)))
    (h5 : ∀ a k, x5 (ix2 a k) = cv a (lo (col j k))) (h6 : ∀ a k, x6 (ix2 a k) = cv a (hi (col j k))) (p : Fin 1024) (k : Fin 512) :
    up x0 x3 x4 x5 x6 (ix3 0 p k) = actAt h w cv (row i p) (col j k) := by
  unfold up
  pointwise [k0_pay1, k0_pay9, k0_pay10, k0_pay11, k0_pay8]
  have hA : ∀ q, ∑ d, x0 (ix2 q d) * x3 (ix2 d k) = upAt h w (row i q) (lo (col j k)) := fun q => by simp only [h0, h3, upAt]
  have hB : ∀ q, ∑ d, x0 (ix2 q d) * x4 (ix2 d k) = upAt h w (row i q) (hi (col j k)) := fun q => by simp only [h0, h4, upAt]
  simp only [hA, hB, h5, h6, k6, k7, select_ite, ite_zero_mul', named_c2]
  rw [conv_block h w cv i p _ _ _ rfl rfl, conv_block h w cv i p _ _ _ rfl rfl]
  rfl

/-- The first down product of a block. -/
theorem down_first (u : FVec Ideal S1x1024x512 .bf16) (x7 : Vec Ideal S512x2048 .bf16) (p : Fin 1024) (n : Fin 2048) :
    k0_pay12 u x7 (ix2 p n) = ∑ k : Fin 512, u (ix3 0 p k) * x7 (ix2 k n) := by
  pointwise [k0_pay12]

/-- A later one, added to what there is. -/
theorem down_next (x8 : Vec Ideal S1024x2048 .f32) (u : FVec Ideal S1x1024x512 .bf16) (x7 : Vec Ideal S512x2048 .bf16) (p : Fin 1024) (n : Fin 2048) :
    k0_pay19 x8 u x7 (ix2 p n) = x8 (ix2 p n) + ∑ k : Fin 512, u (ix3 0 p k) * x7 (ix2 k n) := by
  pointwise [k0_pay19]

/-- The finished block at a row and a column. -/
def finAt (x8 : Vec Ideal S1024x2048 .f32) (u : FVec Ideal S1x1024x512 .bf16) (x7 : Vec Ideal S512x2048 .bf16) (xr : Vec Ideal S1024x2048 .f32) (x1 : Vec Ideal S1x1x2048 .f32) (x2 : Vec Ideal S1x2048 .f32) : Vec Ideal S1024x2048 .f32 :=
  fun y => xr y + normAt (fun n => x8 (ix2 (y 0) n) + ∑ k : Fin 512, u (ix3 0 (y 0) k) * x7 (ix2 k n)) (y 1) * (x1 (ix3 0 0 (y 1)) * x2 (ix2 0 (y 1)))

theorem ld_rows (x : Vec Ideal S1024x2048 .f32) (o : ℕ) (inb) (q : Fin 512) (p : Fin 1024) (hp : p.val = o + q.val) (n : Fin 2048) :
    View.ld x (Rect.unit (s := S1024x2048) ![o, 0] S512x2048.size inb) (ix2 q n) = x (ix2 p n) :=
  View.ld_unit_apply_of _ _ _ _ _ _ fun a => by
    match a with
    | ⟨0, _⟩ => exact hp
    | ⟨1, _⟩ => exact (Nat.zero_add _).symm

theorem ld_urows (u : Vec Ideal S1x1024x512 .bf16) (o : ℕ) (inb) (q : Fin 512) (p : Fin 1024) (hp : p.val = o + q.val) (k : Fin 512) :
    View.ld u (Rect.unit (s := S1x1024x512) ![0, o, 0] S1x512x512.size inb) (ix3 0 q k) = u (ix3 0 p k) :=
  View.ld_unit_apply_of _ _ _ _ _ _ fun a => by
    match a with
    | ⟨0, _⟩ => rfl
    | ⟨1, _⟩ => exact hp
    | ⟨2, _⟩ => exact (Nat.zero_add _).symm

theorem emb_rows (o : ℕ) (inb) (q : Fin 512) (p : Fin 1024) (hp : p.val = o + q.val) (n : Fin 2048) :
    (Rect.unit (s := S1024x2048) ![o, 0] S512x2048.size inb).emb (ix2 q n) = ix2 p n :=
  funext fun a => Fin.ext ((Rect.idx_unit_val _ _ inb (ix2 q n) a).trans (by
    match a with
    | ⟨0, _⟩ => exact hp.symm
    | ⟨1, _⟩ => exact Nat.zero_add _))

theorem lo_at (x8 : Vec Ideal S512x2048 .f32) (u : Vec Ideal S1x512x512 .bf16) (x7 : Vec Ideal S512x2048 .bf16) (xr : Vec Ideal S512x2048 .f32) (x1 : Vec Ideal S1x1x2048 .f32) (x2 : Vec Ideal S1x2048 .f32) (q : Fin 512) (n : Fin 2048) :
    k0_pay28 x8 u x7 xr x1 x2 (ix2 q n) = xr (ix2 q n) + normAt (fun n => x8 (ix2 q n) + ∑ k : Fin 512, u (ix3 0 q k) * x7 (ix2 k n)) n * (x1 (ix3 0 0 n) * x2 (ix2 0 n)) := by
  pointwise [k0_pay28]
  rfl

theorem hi_at (x8 : Vec Ideal S512x2048 .f32) (u : Vec Ideal S1x512x512 .bf16) (x7 : Vec Ideal S512x2048 .bf16) (xr : Vec Ideal S512x2048 .f32) (x1 : Vec Ideal S1x1x2048 .f32) (x2 : Vec Ideal S1x2048 .f32) (q : Fin 512) (n : Fin 2048) :
    k0_pay4 (k0_pay29 x8) u x7 xr x1 x2 (ix2 q n) = xr (ix2 q n) + normAt (fun n => x8 (ix2 q n) + ∑ k : Fin 512, u (ix3 0 q k) * x7 (ix2 k n)) n * (x1 (ix3 0 0 n) * x2 (ix2 0 n)) := by
  pointwise [k0_pay4, k0_pay29]
  rfl

theorem fin_at (x8 : Vec Ideal S1024x2048 .f32) (u : FVec Ideal S1x1024x512 .bf16) (x7 : Vec Ideal S512x2048 .bf16) (xr : Vec Ideal S1024x2048 .f32) (x1 : Vec Ideal S1x1x2048 .f32) (x2 : Vec Ideal S1x2048 .f32) :
    fin x8 u x7 xr x1 x2 = finAt x8 u x7 xr x1 x2 := by
  funext y
  refine View.canon_apply_of_pieces (finAt x8 u x7 xr x1 x2) _ ?_ y (finPieces_cover x8 u x7 xr x1 x2 y)
  refine List.forall_mem_cons.mpr ⟨fun x => ?_, List.forall_mem_cons.mpr ⟨fun x => ?_, by simp⟩⟩
  · obtain ⟨q, n, e⟩ : ∃ (q : Fin 512) (n : Fin 2048), x = ix2 q n := ⟨_, _, eq_ix2 x⟩
    subst e
    have hp : (⟨512 + q.val, by omega⟩ : Fin 1024).val = 512 + q.val := rfl
    rw [emb_rows 512 _ q _ hp n]
    show finHi x8 u x7 xr x1 x2 (ix2 q n) = _
    unfold finHi
    rw [hi_at]
    exact congrArg₂ (· + ·) (ld_rows xr 512 _ q _ hp n) (congrArg₂ (· * ·) (congrArg₂ normAt (funext fun n => congrArg₂ (· + ·) (ld_rows x8 512 _ q _ hp n)
      (Finset.sum_congr rfl fun k _ => congrArg₂ (· * ·) (ld_urows u 512 _ q _ hp k) rfl)) rfl) rfl)
  · obtain ⟨q, n, e⟩ : ∃ (q : Fin 512) (n : Fin 2048), x = ix2 q n := ⟨_, _, eq_ix2 x⟩
    subst e
    have hp : (⟨q.val, by omega⟩ : Fin 1024).val = 0 + q.val := (Nat.zero_add _).symm
    rw [emb_rows 0 _ q _ hp n]
    show finLo x8 u x7 xr x1 x2 (ix2 q n) = _
    unfold finLo
    rw [lo_at]
    exact congrArg₂ (· + ·) (ld_rows xr 0 _ q _ hp n) (congrArg₂ (· * ·) (congrArg₂ normAt (funext fun n => congrArg₂ (· + ·) (ld_rows x8 0 _ q _ hp n)
      (Finset.sum_congr rfl fun k _ => congrArg₂ (· * ·) (ld_urows u 0 _ q _ hp k) rfl)) rfl) rfl)

end Cert.FfnIdeal.Hand
end
end
-- ==== Proof.FfnWhole.lean ====
module
public import proofs.«01_k».proof.Proof.FfnAt
public import Idealize.ShloMosaic.Lib.Claim

@[expose] public section

set_option maxRecDepth 16384

noncomputable section

open Idealize.ShloMosaic Idealize.ShloMosaic.TcCoe Idealize.SL.Sem

namespace Cert.FfnIdeal.Hand

open Cert.FfnIdeal Cert.FfnIdeal.Gen Cert.FeedForward

variable (m : (ℓ : Loc nD τ sig) → Buf (Elt Ideal) ℓ)

/-! ## The arrays as launched, as functions of a row and a column -/

abbrev aX (c : Dev nD) : Vec Ideal S8192x2048 .f32 := m ((c : Thread nD τ).loc main_arg0)
abbrev aH (c : Dev nD) : Vec Ideal S8192x2048 .bf16 := m ((c : Thread nD τ).loc main_arg1)
abbrev aGate (c : Dev nD) : Vec Ideal S1x1x2048 .f32 := m ((c : Thread nD τ).loc main_arg2)
abbrev aPost (c : Dev nD) : Vec Ideal S2048 .f32 := m ((c : Thread nD τ).loc main_arg3)
abbrev aUp (c : Dev nD) : Vec Ideal S2048x11264 .bf16 := m ((c : Thread nD τ).loc main_arg4)
abbrev aConv (c : Dev nD) : Vec Ideal S3x11264 .f32 := m ((c : Thread nD τ).loc main_arg5)
abbrev aDown (c : Dev nD) : Vec Ideal S5632x2048 .bf16 := m ((c : Thread nD τ).loc main_arg6)

abbrev fX (c : Dev nD) : Fin 8192 → Fin 2048 → EReal := fun r d => aX m c (ix2 r d)
abbrev fH (c : Dev nD) : Fin 8192 → Fin 2048 → EReal := fun r d => aH m c (ix2 r d)
abbrev fGate (c : Dev nD) : Fin 2048 → EReal := fun n => aGate m c (ix3 0 0 n)
abbrev fPost (c : Dev nD) : Fin 2048 → EReal := fun n => aPost m c (ix1 n)
abbrev fUp (c : Dev nD) : Fin 2048 → Fin 11264 → EReal := fun d k => aUp m c (ix2 d k)
abbrev fConv (c : Dev nD) : Fin 3 → Fin 11264 → EReal := fun t k => aConv m c (ix2 t k)
abbrev fDown (c : Dev nD) : Fin 5632 → Fin 2048 → EReal := fun k n => aDown m c (ix2 k n)

/-- The norm weights as the host lays them out: one row. -/
theorem V_post (c : Dev nD) : (V m c main_v0 : Vec Ideal S1x2048 .f32) = fun p => aPost m c (ix1 (p 1)) := by
  have e : (V m c main_v0 : Vec Ideal S1x2048 .f32) = broadcastInDim S1x2048 ![1] bcast_S2048_S1x2048_1 (aPost m c) := by
    entry_read
    rfl
  rw [e]
  funext p
  obtain ⟨a, b, hp⟩ : ∃ a b, p = ix2 a b := ⟨_, _, eq_ix2 p⟩
  subst hp
  pointwise

/-- A point's block of rows, of up columns, and of down rows. -/
def rowOf (t : Fin cfg0.N) : Fin 8 := ⟨t.val / 12, by have : t.val < 96 := lt_of_lt_of_eq t.isLt N_0; omega⟩
def upOf (t : Fin cfg0.N) : Fin 11 := ⟨min (t.val % 12) 10, by omega⟩
def downOf (t : Fin cfg0.N) : Fin 11 := ⟨t.val % 12 - 1, by omega⟩

theorem idx_facts0 : ∀ t : Fin cfg0.N, win0_0.index t (0 : Fin 2) = t.val / 12 ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = min (t.val % 12) 10
    ∧ win0_4.index t (0 : Fin 2) = 0 ∧ win0_4.index t (1 : Fin 2) = 11 + min (t.val % 12) 10
    ∧ win0_5.index t (0 : Fin 2) = 0 ∧ win0_5.index t (1 : Fin 2) = min (t.val % 12) 10
    ∧ win0_6.index t (0 : Fin 2) = 0 ∧ win0_6.index t (1 : Fin 2) = 11 + min (t.val % 12) 10
    ∧ win0_7.index t (0 : Fin 2) = t.val % 12 - 1 ∧ win0_7.index t (1 : Fin 2) = 0
    ∧ win0_8.index t (0 : Fin 2) = t.val / 12 ∧ win0_8.index t (1 : Fin 2) = 0 :=
  (by decide +kernel : ∀ t : Fin grid0.N, _)

theorem off1_at : ∀ t : Fin cfg0.N, k0_off1 (grid0.coords t) = ![1024 * (t.val / 12), 0] :=
  (by decide +kernel : ∀ t : Fin grid0.N, k0_off1 (grid0.coords t) = ![1024 * (t.val / 12), 0])

theorem iblk0 (c : Dev nD) (t : Fin cfg0.N) (p : Fin 1024) (d : Fin 2048) : iblk m c 0 t (ix2 p d) = fH m c (row (rowOf t) p) d := by
  have f := idx_facts0 t
  show V m c main_arg1 (((cfg0.win 0).blk t).view.emb (ix2 p d)) = _
  rw [V_main_arg1]
  refine congrArg _ (funext fun a => Fin.ext ?_)
  match a with
  | ⟨0, _⟩ => show win0_0.index t (0 : Fin 2) * 1024 + 1 * p.val = 1024 * (t.val / 12) + p.val; omega
  | ⟨1, _⟩ => show win0_0.index t (1 : Fin 2) * 2048 + 1 * d.val = d.val; omega

theorem iblk1 (c : Dev nD) (t : Fin cfg0.N) (n : Fin 2048) : iblk m c 1 t (ix3 0 0 n) = fGate m c n := by
  have f := idx_facts0 t
  show V m c main_arg2 (((cfg0.win 1).blk t).view.emb (ix3 0 0 n)) = _
  rw [V_main_arg2]
  refine congrArg _ (funext fun a => Fin.ext ?_)
  match a with
  | ⟨0, _⟩ => show win0_1.index t (0 : Fin 3) * 1 + 1 * 0 = 0; omega
  | ⟨1, _⟩ => show win0_1.index t (1 : Fin 3) * 1 + 1 * 0 = 0; omega
  | ⟨2, _⟩ => show win0_1.index t (2 : Fin 3) * 2048 + 1 * n.val = n.val; omega

theorem iblk2 (c : Dev nD) (t : Fin cfg0.N) (n : Fin 2048) : iblk m c 2 t (ix2 0 n) = fPost m c n := by
  have f := idx_facts0 t
  show V m c main_v0 (((cfg0.win 2).blk t).view.emb (ix2 0 n)) = _
  rw [V_post]
  refine congrArg (aPost m c) (funext fun a => Fin.ext ?_)
  match a with
  | ⟨0, _⟩ => show win0_2.index t (1 : Fin 2) * 2048 + 1 * n.val = n.val; omega

theorem iblk3 (c : Dev nD) (t : Fin cfg0.N) (d : Fin 2048) (k : Fin 512) : iblk m c 3 t (ix2 d k) = fUp m c d (lo (col (upOf t) k)) := by
  have f := idx_facts0 t
  show V m c main_arg4 (((cfg0.win 3).blk t).view.emb (ix2 d k)) = _
  rw [V_main_arg4]
  refine congrArg _ (funext fun a => Fin.ext ?_)
  match a with
  | ⟨0, _⟩ => show win0_3.index t (0 : Fin 2) * 2048 + 1 * d.val = d.val; omega
  | ⟨1, _⟩ => show win0_3.index t (1 : Fin 2) * 512 + 1 * k.val = 512 * min (t.val % 12) 10 + k.val; omega

theorem iblk4 (c : Dev nD) (t : Fin cfg0.N) (d : Fin 2048) (k : Fin 512) : iblk m c 4 t (ix2 d k) = fUp m c d (hi (col (upOf t) k)) := by
  have f := idx_facts0 t
  show V m c main_arg4 (((cfg0.win 4).blk t).view.emb (ix2 d k)) = _
  rw [V_main_arg4]
  refine congrArg _ (funext fun a => Fin.ext ?_)
  match a with
  | ⟨0, _⟩ => show win0_4.index t (0 : Fin 2) * 2048 + 1 * d.val = d.val; omega
  | ⟨1, _⟩ => show win0_4.index t (1 : Fin 2) * 512 + 1 * k.val = 5632 + (512 * min (t.val % 12) 10 + k.val); omega

theorem iblk5 (c : Dev nD) (t : Fin cfg0.N) (a : Fin 3) (k : Fin 512) : iblk m c 5 t (ix2 a k) = fConv m c a (lo (col (upOf t) k)) := by
  have f := idx_facts0 t
  show V m c main_arg5 (((cfg0.win 5).blk t).view.emb (ix2 a k)) = _
  rw [V_main_arg5]
  refine congrArg _ (funext fun b => Fin.ext ?_)
  match b with
  | ⟨0, _⟩ => show win0_5.index t (0 : Fin 2) * 3 + 1 * a.val = a.val; omega
  | ⟨1, _⟩ => show win0_5.index t (1 : Fin 2) * 512 + 1 * k.val = 512 * min (t.val % 12) 10 + k.val; omega

theorem iblk6 (c : Dev nD) (t : Fin cfg0.N) (a : Fin 3) (k : Fin 512) : iblk m c 6 t (ix2 a k) = fConv m c a (hi (col (upOf t) k)) := by
  have f := idx_facts0 t
  show V m c main_arg5 (((cfg0.win 6).blk t).view.emb (ix2 a k)) = _
  rw [V_main_arg5]
  refine congrArg _ (funext fun b => Fin.ext ?_)
  match b with
  | ⟨0, _⟩ => show win0_6.index t (0 : Fin 2) * 3 + 1 * a.val = a.val; omega
  | ⟨1, _⟩ => show win0_6.index t (1 : Fin 2) * 512 + 1 * k.val = 5632 + (512 * min (t.val % 12) 10 + k.val); omega

theorem iblk7 (c : Dev nD) (t : Fin cfg0.N) (k : Fin 512) (n : Fin 2048) : iblk m c 7 t (ix2 k n) = fDown m c (col (downOf t) k) n := by
  have f := idx_facts0 t
  show V m c main_arg6 (((cfg0.win 7).blk t).view.emb (ix2 k n)) = _
  rw [V_main_arg6]
  refine congrArg _ (funext fun a => Fin.ext ?_)
  match a with
  | ⟨0, _⟩ => show win0_7.index t (0 : Fin 2) * 512 + 1 * k.val = 512 * (t.val % 12 - 1) + k.val; omega
  | ⟨1, _⟩ => show win0_7.index t (1 : Fin 2) * 2048 + 1 * n.val = n.val; omega

theorem xgrp_at (c : Dev nD) (t : Fin cfg0.N) (p : Fin 1024) (n : Fin 2048) : xgrp m c t (ix2 p n) = fX m c (row (rowOf t) p) n := by
  have f := off1_at (first t)
  have e : (first t).val / 12 = t.val / 12 := by show 12 * (t.val / 12) / 12 = _; omega
  rw [e] at f
  have key := View.ld_unit_apply_of (V m c main_arg0 : Vec Ideal S8192x2048 .f32) (k0_off1 (grid0.coords (first t))) S1024x2048.size (k0_off1_inb (grid0.coords (first t)) (first_cond t)) (ix2 p n)
    (ix2 (row (rowOf t) p) n) (fun a => by
      refine Eq.trans ?_ (congrArg (· + (ix2 p n a).val) (congrFun f a).symm)
      match a with
      | ⟨0, _⟩ => rfl
      | ⟨1, _⟩ => exact (Nat.zero_add _).symm)
  rw [V_main_arg0] at key
  exact key

/-! ## What the output block holds after each point -/

/-- The part of the down projection that a column block contributes, at a row of the group's block. -/
def part (c : Dev nD) (t : Fin cfg0.N) (p : Fin 1024) (n : Fin 2048) (j : Fin 11) : EReal := partAt (fH m c) (fUp m c) (fConv m c) (fDown m c) (row (rowOf t) p) n j

/-- The point before's activations times the point's down rows are the column block's part. -/
theorem part_at (c : Dev nD) (t : Fin cfg0.N) (h : 1 ≤ t.val % 12) (p : Fin 1024) (n : Fin 2048) :
    ∑ k : Fin 512, ups m c (prev t) (ix3 0 p k) * (iblk m c 7 t : Vec Ideal S512x2048 .bf16) (ix2 k n) = part m c t p n (downOf t) := by
  have e1 : rowOf (prev t) = rowOf t := Fin.ext (by show (t.val - 1) / 12 = t.val / 12; omega)
  have e2 : upOf (prev t) = downOf t := Fin.ext (by show min ((t.val - 1) % 12) 10 = t.val % 12 - 1; omega)
  unfold part partAt
  refine Finset.sum_congr rfl fun k _ => ?_
  unfold ups
  rw [up_at (fH m c) (fUp m c) (fConv m c) _ _ _ _ _ (rowOf (prev t)) (upOf (prev t)) (iblk0 m c (prev t)) (iblk3 m c (prev t)) (iblk4 m c (prev t)) (iblk5 m c (prev t)) (iblk6 m c (prev t)), iblk7, e1, e2]
  rfl

theorem part_prev (c : Dev nD) (t : Fin cfg0.N) (h : 1 ≤ t.val % 12) : part m c (prev t) = part m c t := by
  have e1 : rowOf (prev t) = rowOf t := Fin.ext (by show (t.val - 1) / 12 = t.val / 12; omega)
  unfold part
  rw [e1]

/-- Until the last point of a group, the sum of the parts so far. -/
theorem acc_at (c : Dev nD) : ∀ (j : ℕ) (t : Fin cfg0.N) (h : t.val % 12 = j + 1) (hj : j < 10) (p : Fin 1024) (n : Fin 2048),
    acc m c t.val t.isLt (ix2 p n) = ∑ i ∈ Finset.range (j + 1), (if hi : i < 11 then part m c t p n ⟨i, hi⟩ else 0) := by
  intro j
  induction j with
  | zero =>
    intro t h hj p n
    rw [acc_B m c t h, down_first, part_at m c t (by omega), Finset.sum_range_one, dif_pos (by decide)]
    exact congrArg _ (Fin.ext (by show t.val % 12 - 1 = 0; omega))
  | succ j ih =>
    intro t h hj p n
    have hp : (prev t).val % 12 = j + 1 := by show (t.val - 1) % 12 = _; omega
    rw [acc_C m c t (by omega), down_next, part_at m c t (by omega), ih (prev t) hp (by omega), part_prev m c t (by omega), Finset.sum_range_succ _ (j + 1), dif_pos (by omega)]
    exact congrArg _ (congrArg _ (Fin.ext (by show t.val % 12 - 1 = j + 1; omega)))

/-- The output as one function of the row and the column. -/
def out (c : Dev nD) : Vec Ideal S8192x2048 .f32 :=
  fun y => ffnAt (fH m c) (fUp m c) (fConv m c) (fDown m c) (fX m c) (fGate m c) (fPost m c) (y 0) (y 1)

/-- The last point of a group leaves the output's block. -/
theorem acc_last (c : Dev nD) (t : Fin cfg0.N) (h : t.val % 12 = 11) (p : Fin 1024) (n : Fin 2048) :
    acc m c t.val t.isLt (ix2 p n) = out m c (ix2 (row (rowOf t) p) n) := by
  have hp : (prev t).val % 12 = 9 + 1 := by show (t.val - 1) % 12 = _; omega
  have key : ∀ n', acc m c (prev t).val (prev t).isLt (ix2 p n') + ∑ k : Fin 512, ups m c (prev t) (ix3 0 p k) * (iblk m c 7 t : Vec Ideal S512x2048 .bf16) (ix2 k n')
      = downAt (fH m c) (fUp m c) (fConv m c) (fDown m c) (row (rowOf t) p) n' := by
    intro n'
    rw [part_at m c t (by omega), acc_at m c 9 (prev t) hp (by omega), part_prev m c t (by omega), downAt_eq]
    have e : (∑ i ∈ Finset.range 11, (if hi : i < 11 then part m c t p n' ⟨i, hi⟩ else 0)) = ∑ j, part m c t p n' j :=
      (Finset.sum_range (n := 11) _).trans (Finset.sum_congr rfl fun i _ => dif_pos i.isLt)
    rw [Finset.sum_range_succ, dif_pos (by decide)] at e
    refine Eq.trans (congrArg _ (congrArg _ (Fin.ext ?_))) e
    show t.val % 12 - 1 = 10
    omega
  rw [acc_D m c t h, fin_at]
  show xgrp m c t (ix2 p n) + (normAt (fun n' => acc m c (prev t).val (prev t).isLt (ix2 p n') + ∑ k : Fin 512, ups m c (prev t) (ix3 0 p k) * (iblk m c 7 t : Vec Ideal S512x2048 .bf16) (ix2 k n')) n * HMul.hMul (α := EReal) (β := EReal) (γ := EReal) (iblk m c 1 t (ix3 0 0 n)) (iblk m c 2 t (ix2 0 n))) = _
  rw [funext key, xgrp_at, iblk1, iblk2]
  rfl

/-! ## The array after the run -/

theorem flush_iff : ∀ t : Fin cfg0.N, (cfg0.win 8).flush t = true → t.val % 12 = 11 :=
  (by decide +kernel : ∀ t : Fin grid0.N, win0_8.flush t = true → t.val % 12 = 11)
theorem flush_last : ∀ i : Fin 8, ∃ t : Fin cfg0.N, (cfg0.win 8).flush t = true ∧ t.val / 12 = i.val :=
  (by decide +kernel : ∀ i : Fin 8, ∃ t : Fin grid0.N, win0_8.flush t = true ∧ t.val / 12 = i.val)

theorem flushed_out (c : Dev nD) (t : Fin cfg0.N) (hf : (cfg0.win 8).flush t = true) :
    (dats m 0 c).flushed 8 t = ((cfg0.win 8).blk t).view.read (Elt Ideal) (out m c) := by
  have f := idx_facts0 t
  show (cfg0.win 8).cut (grid0.coords t) ((dats m 0 c).after 8 t) = _
  rw [after_8]
  funext y
  obtain ⟨p, n, e⟩ : ∃ (p : Fin 1024) (n : Fin 2048), y = ix2 p n := ⟨_, _, eq_ix2 y⟩
  subst e
  show acc m c t.val t.isLt (ix2 p n) = out m c (((cfg0.win 8).blk t).view.emb (ix2 p n))
  rw [acc_last m c t (flush_iff t hf)]
  refine congrArg (out m c) (funext fun a => Fin.ext ?_)
  match a with
  | ⟨0, _⟩ => show 1024 * (t.val / 12) + p.val = win0_8.index t (0 : Fin 2) * 1024 + 1 * p.val; omega
  | ⟨1, _⟩ => show n.val = win0_8.index t (1 : Fin 2) * 2048 + 1 * n.val; omega

theorem mem_blk8 (t : Fin cfg0.N) (i : S8192x2048.Idx) :
    i ∈ ((cfg0.win 8).blk t).view.set ↔ ∀ a : Fin 2, win0_8.index t a * S1024x2048.size a ≤ (i a).val ∧ (i a).val < win0_8.index t a * S1024x2048.size a + S1024x2048.size a := by
  show i ∈ ((View.whole main_v1).slice (win0_8.rect t)).set ↔ _
  rw [View.set_slice_whole, Rect.mem_set_unit]
  exact Iff.rfl

/-- The output array after the run. -/
theorem arr_out (c : Dev nD) : (dats m 0 c).arrAt 8 cfg0.N = out m c :=
  (dats m 0 c).arrAt_eq_of_cover 8 _ (fun t hf => flushed_out m c t hf) fun i => by
    have h0 : (i 0).val < 8192 := (i 0).isLt
    have h1 : (i 1).val < 2048 := (i 1).isLt
    obtain ⟨t, hf, ht⟩ := flush_last ⟨(i 0).val / 1024, by omega⟩
    have f := idx_facts0 t
    have ht' : t.val / 12 = (i 0).val / 1024 := ht
    refine ⟨t, hf, (mem_blk8 t i).2 fun a => ?_⟩
    match a with
    | ⟨0, _⟩ => show win0_8.index t (0 : Fin 2) * 1024 ≤ (i 0).val ∧ (i 0).val < win0_8.index t (0 : Fin 2) * 1024 + 1024; omega
    | ⟨1, _⟩ => show win0_8.index t (1 : Fin 2) * 2048 ≤ (i 1).val ∧ (i 1).val < win0_8.index t (1 : Fin 2) * 2048 + 2048; omega

end Cert.FfnIdeal.Hand
end
end
-- ==== Proof.FfnRef.lean ====
module
public import proofs.«01_k».proof.Proof.Gen.FfnRefIdeal.Read
public import proofs.«01_k».proof.Proof.FfnMath

@[expose] public section

set_option maxRecDepth 16384

noncomputable section

open Idealize.ShloMosaic Idealize.ShloMosaic.TcCoe Idealize.SL.Sem

/-! The reference's result at one row and one column. -/

namespace Cert.FfnRefIdeal.Hand

open Cert.FfnRefIdeal Cert.FfnRefIdeal.Gen Cert.FfnRefIdeal.Read Cert.FeedForward

variable (x0 : Vec Ideal S8192x2048 .f32) (x1 : Vec Ideal S8192x2048 .bf16) (x2 : Vec Ideal S1x1x2048 .f32) (x3 : Vec Ideal S2048 .f32)
  (x4 : Vec Ideal S2048x11264 .bf16) (x5 : Vec Ideal S3x11264 .f32) (x6 : Vec Ideal S5632x2048 .bf16)

/-- The row of the array a sequence's row is. -/
def flat (s : Fin 32) (t : Fin 256) : Fin 8192 := ⟨256 * s.val + t.val, by omega⟩

/-- The up projection. -/
abbrev up : Fin 8192 → Fin 11264 → EReal := upAt (fun r d => x1 (ix2 r d)) (fun d k => x4 (ix2 d k))
/-- The convolution. -/
abbrev conv : Fin 8192 → Fin 11264 → EReal := convAt (fun r d => x1 (ix2 r d)) (fun d k => x4 (ix2 d k)) (fun t k => x5 (ix2 t k))

theorem v4_at (s : Fin 32) (t : Fin 256) (k : Fin 11264) : val_main_v4 (F := Ideal) x1 x4 (ix3 s t k) = up x1 x4 (flat s t) k := by
  pointwise [val_main_v4, val_main_v3, val_main_v2, val_main_v1]
  refine Finset.sum_congr rfl fun d _ => congrArg (fun r => x1 (ix2 r d) * x4 (ix2 d k)) (Fin.ext ?_)
  show s.val * 256 + t.val = 256 * s.val + t.val
  omega

theorem v5_at (s : Fin 32) (u : Fin 258) (k : Fin 11264) : val_main_v5 (F := Ideal) x1 x4 (ix3 s u k)
    = if h : 1 ≤ u.val ∧ u.val ≤ 256 then val_main_v4 (F := Ideal) x1 x4 (ix3 s ⟨u.val - 1, by omega⟩ k) else 0 := by
  unfold val_main_v5
  generalize val_main_v4 (F := Ideal) x1 x4 = y
  pointwise [val_main_call0_v0, val_main_c]
  have z : FloatOps.sitofp (F := Ideal) FTy.f32 0#32 = (0 : EReal) := by
    show (((0#32 : BitVec 32).toInt : ℝ) : EReal) = 0
    simp
  rw [z]
  by_cases h : 1 ≤ u.val ∧ u.val ≤ 256
  · rw [dif_pos h, dif_pos ⟨h.1, by omega⟩]
  · rw [dif_neg h, dif_neg (by omega)]

theorem v25_at (s : Fin 32) (t : Fin 256) (k : Fin 11264) : val_main_v25 (F := Ideal) x1 x4 x5 (ix3 s t k)
    = val_main_v5 (F := Ideal) x1 x4 (ix3 s ⟨t.val, by omega⟩ k) * x5 (ix2 0 k) + val_main_v5 (F := Ideal) x1 x4 (ix3 s ⟨1 + t.val, by omega⟩ k) * x5 (ix2 1 k)
      + val_main_v5 (F := Ideal) x1 x4 (ix3 s ⟨2 + t.val, by omega⟩ k) * x5 (ix2 2 k) := by
  unfold val_main_v25 val_main_v24 val_main_v18 val_main_v17 val_main_v11 val_main_v6 val_main_v12 val_main_v19
  generalize val_main_v5 (F := Ideal) x1 x4 = y
  pointwise [val_main_v23, val_main_v22, val_main_v21, val_main_v20, val_main_v16, val_main_v15, val_main_v14, val_main_v13, val_main_v10, val_main_v9, val_main_v8, val_main_v7]

theorem v41_at (s : Fin 32) (t : Fin 256) (k : Fin 5632) : val_main_v41 (F := Ideal) x1 x4 x5 (ix3 s t k)
    = geluRef (val_main_v25 (F := Ideal) x1 x4 x5 (ix3 s t (lo k))) * val_main_v25 (F := Ideal) x1 x4 x5 (ix3 s t (hi k)) := by
  unfold val_main_v41 val_main_v40 val_main_v39 val_main_v37 val_main_v35 val_main_v34 val_main_v32 val_main_v31 val_main_v29 val_main_v28 val_main_v27 val_main_v26
  generalize val_main_v25 (F := Ideal) x1 x4 x5 = y
  pointwise [val_main_v30, val_main_v33, val_main_v36, val_main_v38, val_main_cst, val_main_cst_0, val_main_cst_1, val_main_cst_2]
  unfold geluRef
  rw [one_eq, EReal.coe_one]
  rfl

theorem v43_at (s : Fin 32) (t : Fin 256) (n : Fin 2048) : val_main_v43 (F := Ideal) x1 x4 x5 x6 (ix3 s t n)
    = ∑ k, val_main_v41 (F := Ideal) x1 x4 x5 (ix3 s t k) * x6 (ix2 k n) := by
  unfold val_main_v43
  generalize val_main_v41 (F := Ideal) x1 x4 x5 = y
  pointwise [val_main_v42]

theorem v60_at (r : Fin 8192) (n : Fin 2048) : val_main_v60 (F := Ideal) x0 x1 x2 x3 x4 x5 x6 (ix2 r n)
    = x0 (ix2 r n) + x2 (ix3 0 0 n) * (normAt (fun n' => val_main_v43 (F := Ideal) x1 x4 x5 x6 (ix3 ⟨r.val / 256, by omega⟩ ⟨r.val % 256, by omega⟩ n')) n * x3 (ix1 n)) := by
  unfold val_main_v60 val_main_v59 val_main_v58 val_main_v56 val_main_v53 val_main_v52 val_main_v51 val_main_v50 val_main_v48 val_main_v46 val_main_v45 val_main_v44
  generalize val_main_v43 (F := Ideal) x1 x4 x5 x6 = y
  pointwise [val_main_v0, val_main_v57, val_main_v55, val_main_v54, val_main_v49, val_main_v47, val_main_cst_3, val_main_cst_4, val_main_cst_5]
  rfl

/-- The convolution of a sequence is the convolution of the rows. -/
theorem conv_at (s : Fin 32) (t : Fin 256) (k : Fin 11264) : val_main_v25 (F := Ideal) x1 x4 x5 (ix3 s t k) = conv x1 x4 x5 (flat s t) k := by
  rw [v25_at, v5_at, v5_at, v5_at]
  refine congrArg₂ (· + ·) (congrArg₂ (· + ·) ?_ ?_) ?_
  · refine congrArg (· * x5 (ix2 0 k)) ?_
    by_cases h : t.val = 0
    · rw [dif_neg (by show ¬(1 ≤ t.val ∧ _); omega), if_pos (by show (256 * s.val + t.val) % 256 = 0; omega)]
    · rw [dif_pos (by show 1 ≤ t.val ∧ t.val ≤ 256; omega), if_neg (by show ¬((256 * s.val + t.val) % 256 = 0); omega), v4_at]
      exact congrArg (fun r => up x1 x4 r k) (Fin.ext (by show 256 * s.val + (t.val - 1) = 256 * s.val + t.val - 1; omega))
  · refine congrArg (· * x5 (ix2 1 k)) ?_
    rw [dif_pos (by show 1 ≤ 1 + t.val ∧ 1 + t.val ≤ 256; omega), v4_at]
    exact congrArg (fun r => up x1 x4 r k) (Fin.ext (by show 256 * s.val + (1 + t.val - 1) = 256 * s.val + t.val; omega))
  · refine congrArg (· * x5 (ix2 2 k)) ?_
    by_cases h : t.val = 255
    · rw [dif_neg (by show ¬(1 ≤ 2 + t.val ∧ 2 + t.val ≤ 256); omega), if_pos (by show (256 * s.val + t.val) % 256 = 255; omega)]
    · rw [dif_pos (by show 1 ≤ 2 + t.val ∧ 2 + t.val ≤ 256; omega), if_neg (by show ¬((256 * s.val + t.val) % 256 = 255); omega), v4_at]
      exact congrArg (fun r => up x1 x4 r k) (Fin.ext (by show 256 * s.val + (2 + t.val - 1) = (256 * s.val + t.val + 1) % 8192; omega))

section
variable (hh : ∀ r d, ∃ a : ℝ, x1 (ix2 r d) = (a : EReal)) (hw : ∀ d (k : Fin 5632), ∃ a : ℝ, x4 (ix2 d (lo k)) = (a : EReal))
  (hc : ∀ t (k : Fin 5632), ∃ a : ℝ, x5 (ix2 t (lo k)) = (a : EReal))
include hh hw hc

/-- The down projection, of real rows, gate columns and gate filters. -/
theorem down_at (s : Fin 32) (t : Fin 256) (n : Fin 2048) : val_main_v43 (F := Ideal) x1 x4 x5 x6 (ix3 s t n)
    = downAt (fun r d => x1 (ix2 r d)) (fun d k => x4 (ix2 d k)) (fun t k => x5 (ix2 t k)) (fun k n => x6 (ix2 k n)) (flat s t) n := by
  rw [v43_at]
  refine Finset.sum_congr rfl fun k _ => congrArg (· * x6 (ix2 k n)) ?_
  rw [v41_at, conv_at, conv_at]
  obtain ⟨a, e⟩ := convAt_real (fun r d => x1 (ix2 r d)) (fun d k => x4 (ix2 d k)) (fun t k => x5 (ix2 t k)) hh (lo k) (fun d => hw d k) (fun t => hc t k) (flat s t)
  unfold actAt
  refine congrArg (· * conv x1 x4 x5 (flat s t) (hi k)) ?_
  show geluRef (convAt _ _ _ (flat s t) (lo k)) = gelu (convAt _ _ _ (flat s t) (lo k))
  rw [e, gelu_eq]

/-- The reference's result, of real rows, gate columns and gate filters. -/
theorem result_at (r : Fin 8192) (n : Fin 2048) : val_main_v60 (F := Ideal) x0 x1 x2 x3 x4 x5 x6 (ix2 r n)
    = ffnAt (fun r d => x1 (ix2 r d)) (fun d k => x4 (ix2 d k)) (fun t k => x5 (ix2 t k)) (fun k n => x6 (ix2 k n)) (fun r n => x0 (ix2 r n)) (fun n => x2 (ix3 0 0 n)) (fun n => x3 (ix1 n)) r n := by
  rw [v60_at, funext fun n' => down_at x1 x4 x5 x6 hh hw hc ⟨r.val / 256, by omega⟩ ⟨r.val % 256, by omega⟩ n']
  have e : flat ⟨r.val / 256, by omega⟩ ⟨r.val % 256, by omega⟩ = r := Fin.ext (by show 256 * (r.val / 256) + r.val % 256 = r.val; omega)
  rw [e]
  exact congrArg (x0 (ix2 r n) + ·) (mul_left_comm _ _ _)
end

end Cert.FfnRefIdeal.Hand

end

end
-- ==== Proof.Pre.lean ====
module
public import proofs.«01_k».proof.Pre_finite
public import Idealize.ShloMosaic.Lib.Pointwise
public import Idealize.ShloMosaic.Lib.ReduceAll
public import Idealize.ShloMosaic.Lib.WordArith
public import Idealize.ShloMosaic.PureOps.Ideal.Laws

@[expose] public section

set_option maxRecDepth 16384

noncomputable section

open Idealize.ShloMosaic Idealize.ShloMosaic.TcCoe

namespace Cert.Pre_finite.Hand

open Cert.Pre_finite

/-- The side conditions the precondition's operations take. -/
theorem facts : Facts where
  slices_S8192x11264_S8192x3072_0_3072 := by decide
  bitsLt_bf16_f32 := by decide
  bcast_S_S8192x3072 := by decide
  reducesTo_S8192x3072_S_d0_1 := by decide
  h_S_ := by decide
  bcast_S_S2x8 := by decide
  reducesTo_S2x8_S_d0_1 := by decide

/-- A number whose size is below infinity is a real number. -/
theorem real_of_lt {x : EReal} (h : (FloatOps.cmpf (F := Ideal) (φ := .f32) .olt (FloatOps.absf (F := Ideal) (φ := .f32) x) (Ideal.ofBits .f32 0x7F800000#32)) = 1#1) :
    x = ((x.toReal : ℝ) : EReal) := by
  have hb : Ideal.ofBits .f32 0x7F800000#32 = (⊤ : EReal) := by simp [Ideal.ofBits, Ideal.ieee]
  rw [hb] at h
  have hm : max x (-x) < ⊤ := of_decide_eq_true ((Idealize.ShloMosaic.WordArith.ofBool_eq_one_iff _).mp h)
  have h1 : x ≠ ⊤ := fun e => by rw [e] at hm; simp at hm
  have h2 : x ≠ ⊥ := fun e => by rw [e] at hm; simp at hm
  exact (EReal.coe_toReal h1 h2).symm

variable [Facts]

theorem pre_iff (x0 : FVec Ideal S8192x11264 .bf16) (x1 : FVec Ideal S2x8 .f32) (x2 : FVec Ideal S1024 .f32) (h : fn x0 x1 x2 = fun _ => 1#1) :
    (∀ (r : Fin 8192) (c : Fin 11264), 3072 ≤ c.val → c.val < 6144 → x0 (ix2 r c) = (((x0 (ix2 r c)).toReal : ℝ) : EReal))
      ∧ ∀ d k, x1 (ix2 d k) = (((x1 (ix2 d k)).toReal : ℝ) : EReal) := by
  have h0 := congrFun h ix0
  dsimp only [fn] at h0
  obtain ⟨ha, hb⟩ : _ ∧ _ := IntOp.andi_eq_one.1 h0
  haveI : Subsingleton S_.Idx := ⟨fun a b => funext fun i => i.elim0⟩
  refine ⟨fun r c h1 h2 => ?_, fun d k => ?_⟩
  · have := real_of_lt (Host.reduce_andi_all _ _ _ _ _ ha (ix2 r (⟨c.val - 3072, by omega⟩ : Fin 3072)))
    have e : (⟨3072 + (c.val - 3072), by omega⟩ : Fin 11264) = c := Fin.ext (by show 3072 + (c.val - 3072) = c.val; omega)
    pointwise at this
    rwa [e] at this
  · have := Host.reduce_andi_all _ _ _ _ _ hb (ix2 d k)
    exact real_of_lt this

end Cert.Pre_finite.Hand

end

end
-- ==== Proof.FfnPre.lean ====
module
public import proofs.«01_k».proof.Pre_finite_ffn
public import proofs.«01_k».proof.Proof.Pre
public import proofs.«01_k».proof.Proof.FfnMath

@[expose] public section

set_option maxRecDepth 16384

noncomputable section

open Idealize.ShloMosaic Idealize.ShloMosaic.TcCoe

namespace Cert.Pre_finite_ffn.Hand

open Cert.Pre_finite_ffn Cert.FeedForward Cert.Pre_finite.Hand

/-- The side conditions the precondition's operations take. -/
theorem facts : Facts where
  bitsLt_bf16_f32 := by decide
  bcast_S_S8192x2048 := by decide
  reducesTo_S8192x2048_S_d0_1 := by decide
  h_S_ := by decide
  slices_S2048x11264_S2048x5632_0_0 := by decide
  bcast_S_S2048x5632 := by decide
  reducesTo_S2048x5632_S_d0_1 := by decide
  slices_S3x11264_S3x5632_0_0 := by decide
  bcast_S_S3x5632 := by decide
  reducesTo_S3x5632_S_d0_1 := by decide

variable [Facts]

/-- The rows, the gate's columns and the gate's filters are real numbers. -/
theorem pre_iff (x0 : FVec Ideal S8192x2048 .f32) (x1 : FVec Ideal S8192x2048 .bf16) (x2 : FVec Ideal S1x1x2048 .f32) (x3 : FVec Ideal S2048 .f32)
    (x4 : FVec Ideal S2048x11264 .bf16) (x5 : FVec Ideal S3x11264 .f32) (x6 : FVec Ideal S5632x2048 .bf16) (h : fn x0 x1 x2 x3 x4 x5 x6 = fun _ => 1#1) :
    (∀ r d, ∃ a : ℝ, x1 (ix2 r d) = (a : EReal)) ∧ (∀ d (k : Fin 5632), ∃ a : ℝ, x4 (ix2 d (lo k)) = (a : EReal))
      ∧ ∀ t (k : Fin 5632), ∃ a : ℝ, x5 (ix2 t (lo k)) = (a : EReal) := by
  have h0 := congrFun h ix0
  dsimp only [fn] at h0
  obtain ⟨hab, hc⟩ : _ ∧ _ := IntOp.andi_eq_one.1 h0
  obtain ⟨ha, hb⟩ : _ ∧ _ := IntOp.andi_eq_one.1 hab
  haveI : Subsingleton S_.Idx := ⟨fun a b => funext fun i => i.elim0⟩
  refine ⟨fun r d => ?_, fun d k => ?_, fun t k => ?_⟩
  · exact ⟨_, real_of_lt (Host.reduce_andi_all _ _ _ _ _ ha (ix2 r d))⟩
  · have := real_of_lt (Host.reduce_andi_all _ _ _ _ _ hb (ix2 d k))
    pointwise at this
    exact ⟨_, this⟩
  · have := real_of_lt (Host.reduce_andi_all _ _ _ _ _ hc (ix2 t k))
    pointwise at this
    exact ⟨_, this⟩

end Cert.Pre_finite_ffn.Hand

end

end
-- ==== Proof.MergeMath.lean ====
module
public import proofs.«01_k».proof.Proof.FfnMath

@[expose] public section

noncomputable section

open Idealize.ShloMosaic

/-! The gated merge at one row and one column, of the arrays as functions of their indices. -/

namespace Cert.GatedMerge

open Cert.FeedForward (normAt)

variable (p : Fin 8192 → Fin 11264 → EReal) (yh yr : Fin 8192 → Fin 1024 → EReal) (x : Fin 8192 → Fin 2048 → EReal) (wh wr : Fin 1024 → Fin 2048 → EReal)
  (wo : Fin 2048 → Fin 2048 → EReal) (post gate pre sc sh : Fin 2048 → EReal)

/-- A column's gate of the hyena branch. -/
def gh (k : Fin 2048) : Fin 11264 := ⟨7168 + k.val, by omega⟩
/-- A column's gate of the retention branch. -/
def gr (k : Fin 2048) : Fin 11264 := ⟨9216 + k.val, by omega⟩

/-- The two branches, each projected and gated, added. -/
def mixAt (r : Fin 8192) (k : Fin 2048) : EReal := p r (gh k) * (∑ d, yh r d * wh d k) + p r (gr k) * (∑ d, yr r d * wr d k)

/-- The output projection. -/
def projAt (r : Fin 8192) (n : Fin 2048) : EReal := ∑ k, mixAt p yh yr wh wr r k * wo k n

/-- The rows after the merge. -/
def rowAt (r : Fin 8192) (n : Fin 2048) : EReal := x r n + normAt (projAt p yh yr wh wr wo r) n * (gate n * post n)

/-- The rows the feed-forward takes. -/
def nextAt (r : Fin 8192) (n : Fin 2048) : EReal := normAt (rowAt p yh yr x wh wr wo post gate r) n * (pre n * (1 + sc n)) + sh n

end Cert.GatedMerge

end

end
-- ==== Proof.MergeAt.lean ====
module
public import proofs.«01_k».proof.Proof.Gen.MergeIdeal.Value
public import proofs.«01_k».proof.Proof.MergeMath
public import Idealize.ShloMosaic.Lib.Pipeline.Value
public import Idealize.ShloMosaic.Lib.Pipeline.ValueKit.Tiles
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

/-! The merge's block of 512 rows, at a row and a column. -/

namespace Cert.MergeIdeal.Hand

open Cert.MergeIdeal Cert.MergeIdeal.Gen Cert.GatedMerge Cert.FeedForward

/-- A column of the first half. -/
def left (k : Fin 1024) : Fin 2048 := ⟨k.val, by omega⟩
/-- A column of the second half. -/
def right (k : Fin 1024) : Fin 2048 := ⟨1024 + k.val, by omega⟩

/-! ## The body's values -/

/-- The gated sum in its first 1024 columns. -/
theorem mix_lo (v0 : Vec Ideal S512x1024 .bf16) (v1 : Vec Ideal S1024x2048 .bf16) (v3 : Vec Ideal S512x1024 .bf16) (v4 : Vec Ideal S1024x2048 .bf16) (v6 v8 v16 v18 : Vec Ideal S512x1024 .bf16) (p : Fin 512) (k : Fin 2048) (h : k.val < 1024) :
    k0_pay2 v0 v1 v3 v4 v6 v8 v16 v18 (ix2 p k) = v6 (ix2 p ⟨k.val, h⟩) * (∑ d, v0 (ix2 p d) * v1 (ix2 d k)) + v8 (ix2 p ⟨k.val, h⟩) * (∑ d, v3 (ix2 p d) * v4 (ix2 d k)) := by
  pointwise [k0_pay2]
  rw [dif_pos h]

/-- The gated sum in its last 1024 columns. -/
theorem mix_hi (v0 : Vec Ideal S512x1024 .bf16) (v1 : Vec Ideal S1024x2048 .bf16) (v3 : Vec Ideal S512x1024 .bf16) (v4 : Vec Ideal S1024x2048 .bf16) (v6 v8 v16 v18 : Vec Ideal S512x1024 .bf16) (p : Fin 512) (k : Fin 2048) (h : ¬k.val < 1024) :
    k0_pay2 v0 v1 v3 v4 v6 v8 v16 v18 (ix2 p k) = v16 (ix2 p ⟨k.val - 1024, by omega⟩) * (∑ d, v0 (ix2 p d) * v1 (ix2 d k)) + v18 (ix2 p ⟨k.val - 1024, by omega⟩) * (∑ d, v3 (ix2 p d) * v4 (ix2 d k)) := by
  pointwise [k0_pay2]
  have e : (⟨1024 + (k.val - 1024), by omega⟩ : Fin 2048) = k := Fin.ext (by show 1024 + (k.val - 1024) = k.val; omega)
  rw [dif_neg h, e]

theorem proj_lo (v0 : Vec Ideal S512x1024 .bf16) (v1 : Vec Ideal S1024x2048 .bf16) (v3 : Vec Ideal S512x1024 .bf16) (v4 : Vec Ideal S1024x2048 .bf16) (v6 v8 v16 v18 : Vec Ideal S512x1024 .bf16) (v28 : Vec Ideal S2048x2048 .bf16) (q : Fin 256) (n : Fin 2048) :
    k0_pay3 v0 v1 v3 v4 v6 v8 v16 v18 v28 (ix2 q n) = ∑ k, k0_pay2 v0 v1 v3 v4 v6 v8 v16 v18 (ix2 ⟨q.val, by omega⟩ k) * v28 (ix2 k n) := by
  unfold k0_pay3
  generalize k0_pay2 v0 v1 v3 v4 v6 v8 v16 v18 = u
  pointwise

theorem row_lo (v29 : FVec Ideal S256x2048 .f32) (v30 : Vec Ideal S256x2048 .f32) (v31 : Vec Ideal S1x1x2048 .f32) (v33 : Vec Ideal S1x2048 .f32) (q : Fin 256) (n : Fin 2048) :
    k0_pay5 v29 v30 (k0_pay4 v31) v33 (ix2 q n) = v30 (ix2 q n) + normAt (fun n' => v29 (ix2 q n')) n * (v31 (ix3 0 0 n) * v33 (ix2 0 n)) := by
  pointwise [k0_pay5, k0_pay4]
  rfl

theorem next_lo (v29 : FVec Ideal S256x2048 .f32) (v30 : Vec Ideal S256x2048 .f32) (v32 : FVec Ideal S1x2048 .f32) (v33 v50 : Vec Ideal S1x2048 .f32) (v52 v69 : Vec Ideal S1x1x2048 .f32) (q : Fin 256) (n : Fin 2048) :
    k0_pay7 (k0_pay6 v29 v30 v32 v33 v50 v52 v69) (ix2 q n)
      = normAt (fun n' => k0_pay5 v29 v30 v32 v33 (ix2 q n')) n * (v50 (ix2 0 n) * (1 + v52 (ix3 0 0 n))) + v69 (ix3 0 0 n) := by
  unfold k0_pay7 k0_pay6
  generalize k0_pay5 v29 v30 v32 v33 = u
  pointwise
  rfl

theorem row_hi (v26 : FVec Ideal S512x2048 .bf16) (v76 : Vec Ideal S2048x2048 .bf16) (v78 : Vec Ideal S256x2048 .f32) (v79 : Vec Ideal S1x1x2048 .f32) (v81 : Vec Ideal S1x2048 .f32) (q : Fin 256) (n : Fin 2048) :
    k0_pay8 v26 v76 v78 v79 v81 (ix2 q n)
      = v78 (ix2 q n) + normAt (fun n' => ∑ k, v26 (ix2 ⟨256 + q.val, by omega⟩ k) * v76 (ix2 k n')) n * (v79 (ix3 0 0 n) * v81 (ix2 0 n)) := by
  pointwise [k0_pay8]
  rfl

theorem next_hi (v26 : FVec Ideal S512x2048 .bf16) (v76 : Vec Ideal S2048x2048 .bf16) (v78 : Vec Ideal S256x2048 .f32) (v79 : Vec Ideal S1x1x2048 .f32) (v81 v98 : Vec Ideal S1x2048 .f32) (v100 v117 : Vec Ideal S1x1x2048 .f32) (q : Fin 256) (n : Fin 2048) :
    k0_pay1 (k0_pay8 v26 v76 v78 v79 v81) (k0_pay9 v98 v100) (k0_pay10 v26 v76 v78 v79 v81) v117 (ix2 q n)
      = normAt (fun n' => k0_pay8 v26 v76 v78 v79 v81 (ix2 q n')) n * (v98 (ix2 0 n) * (1 + v100 (ix3 0 0 n))) + v117 (ix3 0 0 n) := by
  unfold k0_pay10
  generalize k0_pay8 v26 v76 v78 v79 v81 = u
  pointwise [k0_pay1, k0_pay9]
  rfl

/-! ## The loads and the places of the two halves -/

theorem ld_half (x : Vec Ideal S512x2048 .f32) (o : ℕ) (inb) (q : Fin 256) (p : Fin 512) (hp : p.val = o + q.val) (n : Fin 2048) :
    View.ld x (Rect.unit (s := S512x2048) ![o, 0] S256x2048.size inb) (ix2 q n) = x (ix2 p n) :=
  View.ld_unit_apply_of _ _ _ _ _ _ fun a => by
    match a with
    | ⟨0, _⟩ => exact hp
    | ⟨1, _⟩ => exact (Nat.zero_add _).symm

theorem emb_half (o : ℕ) (inb) (q : Fin 256) (p : Fin 512) (hp : p.val = o + q.val) (n : Fin 2048) :
    (Rect.unit (s := S512x2048) ![o, 0] S256x2048.size inb).emb (ix2 q n) = ix2 p n :=
  funext fun a => Fin.ext ((Rect.idx_unit_val _ _ inb (ix2 q n) a).trans (by
    match a with
    | ⟨0, _⟩ => exact hp.symm
    | ⟨1, _⟩ => exact Nat.zero_add _))

theorem ld_full2 {e : EltTy} {a b : ℕ} (x : Vec Ideal ⟨2, ![a, b]⟩ e) (inb) : View.ld x (Rect.unit (s := ⟨2, ![a, b]⟩) ![0, 0] ![a, b] inb) = x :=
  funext fun y => View.ld_unit_apply_of x ![0, 0] ![a, b] inb y y fun i => by
    match i with
    | ⟨0, _⟩ => exact (Nat.zero_add _).symm
    | ⟨1, _⟩ => exact (Nat.zero_add _).symm

theorem ld_full3 {e : EltTy} {a b d : ℕ} (x : Vec Ideal ⟨3, ![a, b, d]⟩ e) (inb) : View.ld x (Rect.unit (s := ⟨3, ![a, b, d]⟩) ![0, 0, 0] ![a, b, d] inb) = x :=
  funext fun y => View.ld_unit_apply_of x ![0, 0, 0] ![a, b, d] inb y y fun i => by
    match i with
    | ⟨0, _⟩ => exact (Nat.zero_add _).symm
    | ⟨1, _⟩ => exact (Nat.zero_add _).symm
    | ⟨2, _⟩ => exact (Nat.zero_add _).symm

/-! ## The block's two results, of blocks that are rows of the arrays -/

section
variable (P : Fin 8192 → Fin 11264 → EReal) (yh yr : Fin 8192 → Fin 1024 → EReal) (X : Fin 8192 → Fin 2048 → EReal) (wh wr : Fin 1024 → Fin 2048 → EReal)
  (wo : Fin 2048 → Fin 2048 → EReal) (post gate pre sc sh : Fin 2048 → EReal) (R : Fin 512 → Fin 8192)
variable (x0 x1 x2 x3 x4 x5 : Vec Ideal S512x1024 .bf16) (x6 : Vec Ideal S512x2048 .f32) (x7 x8 : Vec Ideal S1024x2048 .bf16) (x9 : Vec Ideal S2048x2048 .bf16)
  (x10 : Vec Ideal S1x2048 .f32) (x11 : Vec Ideal S1x1x2048 .f32) (x12 : Vec Ideal S1x2048 .f32) (x13 x14 : Vec Ideal S1x1x2048 .f32)
variable (h0 : ∀ p (k : Fin 1024), x0 (ix2 p k) = P (R p) (gh (left k))) (h1 : ∀ p (k : Fin 1024), x1 (ix2 p k) = P (R p) (gh (right k)))
  (h2 : ∀ p (k : Fin 1024), x2 (ix2 p k) = P (R p) (gr (left k))) (h3 : ∀ p (k : Fin 1024), x3 (ix2 p k) = P (R p) (gr (right k)))
  (h4 : ∀ p d, x4 (ix2 p d) = yh (R p) d) (h5 : ∀ p d, x5 (ix2 p d) = yr (R p) d) (h6 : ∀ p n, x6 (ix2 p n) = X (R p) n)
  (h7 : ∀ d k, x7 (ix2 d k) = wh d k) (h8 : ∀ d k, x8 (ix2 d k) = wr d k) (h9 : ∀ k n, x9 (ix2 k n) = wo k n)
  (h10 : ∀ n, x10 (ix2 0 n) = post n) (h11 : ∀ n, x11 (ix3 0 0 n) = gate n) (h12 : ∀ n, x12 (ix2 0 n) = pre n) (h13 : ∀ n, x13 (ix3 0 0 n) = sc n) (h14 : ∀ n, x14 (ix3 0 0 n) = sh n)

section
include h0 h1 h2 h3 h4 h5 h7 h8
theorem mix_at (p : Fin 512) (k : Fin 2048) : k0_pay2 x4 x7 x5 x8 x0 x2 x1 x3 (ix2 p k) = mixAt P yh yr wh wr (R p) k := by
  have ea : (∑ d, x4 (ix2 p d) * x7 (ix2 d k)) = ∑ d, yh (R p) d * wh d k := Finset.sum_congr rfl fun d _ => congrArg₂ (· * ·) (h4 p d) (h7 d k)
  have eb : (∑ d, x5 (ix2 p d) * x8 (ix2 d k)) = ∑ d, yr (R p) d * wr d k := Finset.sum_congr rfl fun d _ => congrArg₂ (· * ·) (h5 p d) (h8 d k)
  by_cases h : k.val < 1024
  · rw [mix_lo _ _ _ _ _ _ _ _ p k h, h0, h2, ea, eb]
    rfl
  · have e : right ⟨k.val - 1024, by omega⟩ = k := Fin.ext (by show 1024 + (k.val - 1024) = k.val; omega)
    rw [mix_hi _ _ _ _ _ _ _ _ p k h, h1, h3, e, ea, eb]
    rfl

include h6 h9 h10 h11
theorem rowLo_at (q : Fin 256) (p : Fin 512) (hp : p.val = q.val) (n : Fin 2048) (v : Vec Ideal S256x2048 .f32) (hv : ∀ n, v (ix2 q n) = x6 (ix2 p n)) :
    k0_pay5 (k0_pay3 x4 x7 x5 x8 x0 x2 x1 x3 x9) v (k0_pay4 x11) x10 (ix2 q n) = rowAt P yh yr X wh wr wo post gate (R p) n := by
  have e : ∀ n', k0_pay3 x4 x7 x5 x8 x0 x2 x1 x3 x9 (ix2 q n') = projAt P yh yr wh wr wo (R p) n' := by
    intro n'
    rw [proj_lo]
    unfold projAt
    refine Finset.sum_congr rfl fun k _ => ?_
    rw [mix_at P yh yr wh wr R x0 x1 x2 x3 x4 x5 x7 x8 h0 h1 h2 h3 h4 h5 h7 h8, h9]
    exact congrArg (fun p => mixAt P yh yr wh wr (R p) k * wo k n') (Fin.ext hp.symm)
  rw [row_lo, funext e, hv, h6, h10, h11]
  rfl

theorem rowHi_at (q : Fin 256) (p : Fin 512) (hp : p.val = 256 + q.val) (n : Fin 2048) (v : Vec Ideal S256x2048 .f32) (hv : ∀ n, v (ix2 q n) = x6 (ix2 p n)) :
    k0_pay8 (k0_pay2 x4 x7 x5 x8 x0 x2 x1 x3) x9 v x11 x10 (ix2 q n) = rowAt P yh yr X wh wr wo post gate (R p) n := by
  have e : ∀ n', (∑ k, k0_pay2 x4 x7 x5 x8 x0 x2 x1 x3 (ix2 ⟨256 + q.val, by omega⟩ k) * x9 (ix2 k n')) = projAt P yh yr wh wr wo (R p) n' := by
    intro n'
    unfold projAt
    refine Finset.sum_congr rfl fun k _ => ?_
    rw [mix_at P yh yr wh wr R x0 x1 x2 x3 x4 x5 x7 x8 h0 h1 h2 h3 h4 h5 h7 h8, h9]
    exact congrArg (fun p => mixAt P yh yr wh wr (R p) k * wo k n') (Fin.ext hp.symm)
  rw [row_hi, funext e, hv, h6, h10, h11]
  rfl

/-- The first result's block. -/
theorem out15_at : out0_15 x0 x1 x2 x3 x4 x5 x6 x7 x8 x9 x10 x11 x12 x13 x14 = fun y => rowAt P yh yr X wh wr wo post gate (R (y 0)) (y 1) := by
  funext y
  unfold_out out0_15
  refine View.canon_apply_of_pieces (Val := Elt Ideal) ((fun y => rowAt P yh yr X wh wr wo post gate (R (y 0)) (y 1)) : Vec Ideal S512x2048 .f32) _ ?_ y (cover0_15 _ _ y)
  rw [ld_full2 x0, ld_full2 x1, ld_full2 x2, ld_full2 x3, ld_full2 x4, ld_full2 x5, ld_full2 x7, ld_full2 x8, ld_full2 x9, ld_full2 x10, ld_full3 x11]
  refine List.forall_mem_cons.mpr ⟨fun x => ?_, List.forall_mem_cons.mpr ⟨fun x => ?_, by simp⟩⟩
  · obtain ⟨q, n, e⟩ : ∃ (q : Fin 256) (n : Fin 2048), x = ix2 q n := ⟨_, _, eq_ix2 x⟩
    subst e
    have hp : (⟨256 + q.val, by omega⟩ : Fin 512).val = 256 + q.val := rfl
    rw [emb_half 256 _ q _ hp n]
    exact rowHi_at P yh yr X wh wr wo post gate R x0 x1 x2 x3 x4 x5 x6 x7 x8 x9 x10 x11 h0 h1 h2 h3 h4 h5 h6 h7 h8 h9 h10 h11 q _ hp n _ (fun n => ld_half x6 256 _ q _ hp n)
  · obtain ⟨q, n, e⟩ : ∃ (q : Fin 256) (n : Fin 2048), x = ix2 q n := ⟨_, _, eq_ix2 x⟩
    subst e
    have hp : (⟨q.val, by omega⟩ : Fin 512).val = 0 + q.val := (Nat.zero_add _).symm
    rw [emb_half 0 _ q _ hp n]
    exact rowLo_at P yh yr X wh wr wo post gate R x0 x1 x2 x3 x4 x5 x6 x7 x8 x9 x10 x11 h0 h1 h2 h3 h4 h5 h6 h7 h8 h9 h10 h11 q ⟨q.val, by omega⟩ rfl n _ (fun n => ld_half x6 0 _ q _ hp n)

include h12 h13 h14
/-- The second result's block. -/
theorem out16_at : out0_16 x0 x1 x2 x3 x4 x5 x6 x7 x8 x9 x10 x11 x12 x13 x14 = fun y => nextAt P yh yr X wh wr wo post gate pre sc sh (R (y 0)) (y 1) := by
  funext y
  unfold_out out0_16
  refine View.canon_apply_of_pieces (Val := Elt Ideal) ((fun y => nextAt P yh yr X wh wr wo post gate pre sc sh (R (y 0)) (y 1)) : Vec Ideal S512x2048 .bf16) _ ?_ y (cover0_16 _ _ y)
  rw [ld_full2 x0, ld_full2 x1, ld_full2 x2, ld_full2 x3, ld_full2 x4, ld_full2 x5, ld_full2 x7, ld_full2 x8, ld_full2 x9, ld_full2 x10, ld_full3 x11, ld_full2 x12, ld_full3 x13, ld_full3 x14]
  refine List.forall_mem_cons.mpr ⟨fun x => ?_, List.forall_mem_cons.mpr ⟨fun x => ?_, by simp⟩⟩
  · obtain ⟨q, n, e⟩ : ∃ (q : Fin 256) (n : Fin 2048), x = ix2 q n := ⟨_, _, eq_ix2 x⟩
    subst e
    have hp : (⟨256 + q.val, by omega⟩ : Fin 512).val = 256 + q.val := rfl
    rw [emb_half 256 _ q _ hp n]
    refine (next_hi _ _ _ _ _ _ _ _ q n).trans ?_
    rw [funext fun n' => rowHi_at P yh yr X wh wr wo post gate R x0 x1 x2 x3 x4 x5 x6 x7 x8 x9 x10 x11 h0 h1 h2 h3 h4 h5 h6 h7 h8 h9 h10 h11 q _ hp n' _ (fun n => ld_half x6 256 _ q _ hp n), h12, h13, h14]
    rfl
  · obtain ⟨q, n, e⟩ : ∃ (q : Fin 256) (n : Fin 2048), x = ix2 q n := ⟨_, _, eq_ix2 x⟩
    subst e
    have hp : (⟨q.val, by omega⟩ : Fin 512).val = 0 + q.val := (Nat.zero_add _).symm
    rw [emb_half 0 _ q _ hp n]
    refine (next_lo _ _ _ _ _ _ _ q n).trans ?_
    rw [funext fun n' => rowLo_at P yh yr X wh wr wo post gate R x0 x1 x2 x3 x4 x5 x6 x7 x8 x9 x10 x11 h0 h1 h2 h3 h4 h5 h6 h7 h8 h9 h10 h11 q ⟨q.val, by omega⟩ rfl n' _ (fun n => ld_half x6 0 _ q _ hp n), h12, h13, h14]
    rfl
end
end

end Cert.MergeIdeal.Hand
end
end
-- ==== Proof.MergeWhole.lean ====
module
public import proofs.«01_k».proof.Proof.MergeAt
public import Idealize.ShloMosaic.Lib.Claim

@[expose] public section

set_option maxRecDepth 16384

noncomputable section

open Idealize.ShloMosaic Idealize.ShloMosaic.TcCoe Idealize.SL.Sem

/-! The merge's two arrays after the run, as functions of the launched arrays. -/

namespace Cert.MergeIdeal.Hand

open Cert.MergeIdeal Cert.MergeIdeal.Gen Cert.GatedMerge

variable (m : (ℓ : Loc nD τ sig) → Buf (Elt Ideal) ℓ)

/-! ## The arrays as launched, as functions of a row and a column -/

abbrev aProj (c : Dev nD) : Vec Ideal S8192x11264 .bf16 := m ((c : Thread nD τ).loc main_arg0)
abbrev aHy (c : Dev nD) : Vec Ideal S8192x1024 .bf16 := m ((c : Thread nD τ).loc main_arg1)
abbrev aRet (c : Dev nD) : Vec Ideal S8192x1024 .bf16 := m ((c : Thread nD τ).loc main_arg2)
abbrev aX (c : Dev nD) : Vec Ideal S8192x2048 .f32 := m ((c : Thread nD τ).loc main_arg3)
abbrev aWHy (c : Dev nD) : Vec Ideal S1024x2048 .bf16 := m ((c : Thread nD τ).loc main_arg4)
abbrev aWRet (c : Dev nD) : Vec Ideal S1024x2048 .bf16 := m ((c : Thread nD τ).loc main_arg5)
abbrev aWOut (c : Dev nD) : Vec Ideal S2048x2048 .bf16 := m ((c : Thread nD τ).loc main_arg6)
abbrev aPost (c : Dev nD) : Vec Ideal S2048 .f32 := m ((c : Thread nD τ).loc main_arg7)
abbrev aGate (c : Dev nD) : Vec Ideal S1x1x2048 .f32 := m ((c : Thread nD τ).loc main_arg8)
abbrev aPre (c : Dev nD) : Vec Ideal S2048 .f32 := m ((c : Thread nD τ).loc main_arg9)
abbrev aScale (c : Dev nD) : Vec Ideal S1x1x2048 .f32 := m ((c : Thread nD τ).loc main_arg10)
abbrev aShift (c : Dev nD) : Vec Ideal S1x1x2048 .f32 := m ((c : Thread nD τ).loc main_arg11)

abbrev fProj (c : Dev nD) : Fin 8192 → Fin 11264 → EReal := fun r k => aProj m c (ix2 r k)
abbrev fHy (c : Dev nD) : Fin 8192 → Fin 1024 → EReal := fun r k => aHy m c (ix2 r k)
abbrev fRet (c : Dev nD) : Fin 8192 → Fin 1024 → EReal := fun r k => aRet m c (ix2 r k)
abbrev fX (c : Dev nD) : Fin 8192 → Fin 2048 → EReal := fun r k => aX m c (ix2 r k)
abbrev fWHy (c : Dev nD) : Fin 1024 → Fin 2048 → EReal := fun r k => aWHy m c (ix2 r k)
abbrev fWRet (c : Dev nD) : Fin 1024 → Fin 2048 → EReal := fun r k => aWRet m c (ix2 r k)
abbrev fWOut (c : Dev nD) : Fin 2048 → Fin 2048 → EReal := fun r k => aWOut m c (ix2 r k)
abbrev fPost (c : Dev nD) : Fin 2048 → EReal := fun n => aPost m c (ix1 n)
abbrev fGate (c : Dev nD) : Fin 2048 → EReal := fun n => aGate m c (ix3 0 0 n)
abbrev fPre (c : Dev nD) : Fin 2048 → EReal := fun n => aPre m c (ix1 n)
abbrev fScale (c : Dev nD) : Fin 2048 → EReal := fun n => aScale m c (ix3 0 0 n)
abbrev fShift (c : Dev nD) : Fin 2048 → EReal := fun n => aShift m c (ix3 0 0 n)

/-- The norm weights after the output projection as the host lays them out: one row. -/
theorem V_post (c : Dev nD) : (V m c main_v0 : Vec Ideal S1x2048 .f32) = fun p => aPost m c (ix1 (p 1)) := by
  have e : (V m c main_v0 : Vec Ideal S1x2048 .f32) = broadcastInDim S1x2048 ![1] bcast_S2048_S1x2048_1 (aPost m c) := by
    entry_read
    rfl
  rw [e]
  funext p
  obtain ⟨a, b, hp⟩ : ∃ a b, p = ix2 a b := ⟨_, _, eq_ix2 p⟩
  subst hp
  pointwise

/-- The norm weights before the feed-forward as the host lays them out: one row. -/
theorem V_pre (c : Dev nD) : (V m c main_v1 : Vec Ideal S1x2048 .f32) = fun p => aPre m c (ix1 (p 1)) := by
  have e : (V m c main_v1 : Vec Ideal S1x2048 .f32) = broadcastInDim S1x2048 ![1] bcast_S2048_S1x2048_1 (aPre m c) := by
    entry_read
    rfl
  rw [e]
  funext p
  obtain ⟨a, b, hp⟩ : ∃ a b, p = ix2 a b := ⟨_, _, eq_ix2 p⟩
  subst hp
  pointwise

/-- The array's row that a row of a point's block is. -/
def rowOf (t : Fin cfg0.N) (p : Fin 512) : Fin 8192 := ⟨512 * t.val + p.val, by have : t.val < 16 := lt_of_lt_of_eq t.isLt N_0; omega⟩

theorem idx_facts : ∀ t : Fin cfg0.N, win0_0.index t (0 : Fin 2) = t.val
    ∧ win0_0.index t (1 : Fin 2) = 7
    ∧ win0_1.index t (0 : Fin 2) = t.val
    ∧ win0_1.index t (1 : Fin 2) = 8
    ∧ win0_2.index t (0 : Fin 2) = t.val
    ∧ win0_2.index t (1 : Fin 2) = 9
    ∧ win0_3.index t (0 : Fin 2) = t.val
    ∧ win0_3.index t (1 : Fin 2) = 10
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 3) = 0
    ∧ win0_11.index t (1 : Fin 3) = 0
    ∧ win0_11.index t (2 : Fin 3) = 0
    ∧ win0_12.index t (0 : Fin 2) = 0
    ∧ win0_12.index t (1 : Fin 2) = 0
    ∧ win0_13.index t (0 : Fin 3) = 0
    ∧ win0_13.index t (1 : Fin 3) = 0
    ∧ win0_13.index t (2 : Fin 3) = 0
    ∧ win0_14.index t (0 : Fin 3) = 0
    ∧ win0_14.index t (1 : Fin 3) = 0
    ∧ win0_14.index t (2 : Fin 3) = 0
    ∧ win0_15.index t (0 : Fin 2) = t.val
    ∧ win0_15.index t (1 : Fin 2) = 0
    ∧ win0_16.index t (0 : Fin 2) = t.val
    ∧ win0_16.index t (1 : Fin 2) = 0 :=
  (by decide +kernel : ∀ t : Fin grid0.N, _)

theorem iblk0 (c : Dev nD) (t : Fin cfg0.N) (p : Fin 512) (k : Fin 1024) : iblk m c 0 t (ix2 p k) = fProj m c (rowOf t p) (gh (left k)) := by
  have f := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 1024 + 1 * k.val = 7168 + (k.val); omega

theorem iblk1 (c : Dev nD) (t : Fin cfg0.N) (p : Fin 512) (k : Fin 1024) : iblk m c 1 t (ix2 p k) = fProj m c (rowOf t p) (gh (right k)) := by
  have f := idx_facts t
  show V m c main_arg0 (((cfg0.win 1).blk t).view.emb (ix2 p k)) = _
  rw [V_main_arg0]
  refine congrArg _ (funext fun a => Fin.ext ?_)
  match a with
  | ⟨0, _⟩ => show win0_1.index t (0 : Fin 2) * 512 + 1 * p.val = 512 * t.val + p.val; omega
  | ⟨1, _⟩ => show win0_1.index t (1 : Fin 2) * 1024 + 1 * k.val = 7168 + (1024 + k.val); omega

theorem iblk2 (c : Dev nD) (t : Fin cfg0.N) (p : Fin 512) (k : Fin 1024) : iblk m c 2 t (ix2 p k) = fProj m c (rowOf t p) (gr (left k)) := by
  have f := idx_facts t
  show V m c main_arg0 (((cfg0.win 2).blk t).view.emb (ix2 p k)) = _
  rw [V_main_arg0]
  refine congrArg _ (funext fun a => Fin.ext ?_)
  match a with
  | ⟨0, _⟩ => show win0_2.index t (0 : Fin 2) * 512 + 1 * p.val = 512 * t.val + p.val; omega
  | ⟨1, _⟩ => show win0_2.index t (1 : Fin 2) * 1024 + 1 * k.val = 9216 + (k.val); omega

theorem iblk3 (c : Dev nD) (t : Fin cfg0.N) (p : Fin 512) (k : Fin 1024) : iblk m c 3 t (ix2 p k) = fProj m c (rowOf t p) (gr (right k)) := by
  have f := idx_facts t
  show V m c main_arg0 (((cfg0.win 3).blk t).view.emb (ix2 p k)) = _
  rw [V_main_arg0]
  refine congrArg _ (funext fun a => Fin.ext ?_)
  match a with
  | ⟨0, _⟩ => show win0_3.index t (0 : Fin 2) * 512 + 1 * p.val = 512 * t.val + p.val; omega
  | ⟨1, _⟩ => show win0_3.index t (1 : Fin 2) * 1024 + 1 * k.val = 9216 + (1024 + k.val); omega

theorem iblk4 (c : Dev nD) (t : Fin cfg0.N) (p : Fin 512) (d : Fin 1024) : iblk m c 4 t (ix2 p d) = fHy m c (rowOf t p) d := by
  have f := idx_facts t
  show V m c main_arg1 (((cfg0.win 4).blk t).view.emb (ix2 p d)) = _
  rw [V_main_arg1]
  refine congrArg _ (funext fun a => Fin.ext ?_)
  match a with
  | ⟨0, _⟩ => show win0_4.index t (0 : Fin 2) * 512 + 1 * p.val = 512 * t.val + p.val; omega
  | ⟨1, _⟩ => show win0_4.index t (1 : Fin 2) * 1024 + 1 * d.val = d.val; omega

theorem iblk5 (c : Dev nD) (t : Fin cfg0.N) (p : Fin 512) (d : Fin 1024) : iblk m c 5 t (ix2 p d) = fRet m c (rowOf t p) d := by
  have f := idx_facts t
  show V m c main_arg2 (((cfg0.win 5).blk t).view.emb (ix2 p d)) = _
  rw [V_main_arg2]
  refine congrArg _ (funext fun a => Fin.ext ?_)
  match a with
  | ⟨0, _⟩ => show win0_5.index t (0 : Fin 2) * 512 + 1 * p.val = 512 * t.val + p.val; omega
  | ⟨1, _⟩ => show win0_5.index t (1 : Fin 2) * 1024 + 1 * d.val = d.val; omega

theorem iblk6 (c : Dev nD) (t : Fin cfg0.N) (p : Fin 512) (n : Fin 2048) : iblk m c 6 t (ix2 p n) = fX m c (rowOf t p) n := by
  have f := idx_facts t
  show V m c main_arg3 (((cfg0.win 6).blk t).view.emb (ix2 p n)) = _
  rw [V_main_arg3]
  refine congrArg _ (funext fun a => Fin.ext ?_)
  match a with
  | ⟨0, _⟩ => show win0_6.index t (0 : Fin 2) * 512 + 1 * p.val = 512 * t.val + p.val; omega
  | ⟨1, _⟩ => show win0_6.index t (1 : Fin 2) * 2048 + 1 * n.val = n.val; omega

theorem iblk7 (c : Dev nD) (t : Fin cfg0.N) (d : Fin 1024) (k : Fin 2048) : iblk m c 7 t (ix2 d k) = fWHy m c d k := by
  have f := idx_facts t
  show V m c main_arg4 (((cfg0.win 7).blk t).view.emb (ix2 d k)) = _
  rw [V_main_arg4]
  refine congrArg _ (funext fun a => Fin.ext ?_)
  match a with
  | ⟨0, _⟩ => show win0_7.index t (0 : Fin 2) * 1024 + 1 * d.val = d.val; omega
  | ⟨1, _⟩ => show win0_7.index t (1 : Fin 2) * 2048 + 1 * k.val = k.val; omega

theorem iblk8 (c : Dev nD) (t : Fin cfg0.N) (d : Fin 1024) (k : Fin 2048) : iblk m c 8 t (ix2 d k) = fWRet m c d k := by
  have f := idx_facts t
  show V m c main_arg5 (((cfg0.win 8).blk t).view.emb (ix2 d k)) = _
  rw [V_main_arg5]
  refine congrArg _ (funext fun a => Fin.ext ?_)
  match a with
  | ⟨0, _⟩ => show win0_8.index t (0 : Fin 2) * 1024 + 1 * d.val = d.val; omega
  | ⟨1, _⟩ => show win0_8.index t (1 : Fin 2) * 2048 + 1 * k.val = k.val; omega

theorem iblk9 (c : Dev nD) (t : Fin cfg0.N) (d : Fin 2048) (k : Fin 2048) : iblk m c 9 t (ix2 d k) = fWOut m c d k := by
  have f := idx_facts t
  show V m c main_arg6 (((cfg0.win 9).blk t).view.emb (ix2 d k)) = _
  rw [V_main_arg6]
  refine congrArg _ (funext fun a => Fin.ext ?_)
  match a with
  | ⟨0, _⟩ => show win0_9.index t (0 : Fin 2) * 2048 + 1 * d.val = d.val; omega
  | ⟨1, _⟩ => show win0_9.index t (1 : Fin 2) * 2048 + 1 * k.val = k.val; omega

theorem iblk10 (c : Dev nD) (t : Fin cfg0.N) (n : Fin 2048) : iblk m c 10 t (ix2 0 n) = fPost m c n := by
  have f := idx_facts t
  show V m c main_v0 (((cfg0.win 10).blk t).view.emb (ix2 0 n)) = _
  rw [V_post]
  refine congrArg (aPost m c) (funext fun a => Fin.ext ?_)
  match a with
  | ⟨0, _⟩ => show win0_10.index t (1 : Fin 2) * 2048 + 1 * n.val = n.val; omega

theorem iblk12 (c : Dev nD) (t : Fin cfg0.N) (n : Fin 2048) : iblk m c 12 t (ix2 0 n) = fPre m c n := by
  have f := idx_facts t
  show V m c main_v1 (((cfg0.win 12).blk t).view.emb (ix2 0 n)) = _
  rw [V_pre]
  refine congrArg (aPre m c) (funext fun a => Fin.ext ?_)
  match a with
  | ⟨0, _⟩ => show win0_12.index t (1 : Fin 2) * 2048 + 1 * n.val = n.val; omega

theorem iblk11 (c : Dev nD) (t : Fin cfg0.N) (n : Fin 2048) : iblk m c 11 t (ix3 0 0 n) = fGate m c n := by
  have f := idx_facts t
  show V m c main_arg8 (((cfg0.win 11).blk t).view.emb (ix3 0 0 n)) = _
  rw [V_main_arg8]
  refine congrArg _ (funext fun a => Fin.ext ?_)
  match a with
  | ⟨0, _⟩ => show win0_11.index t (0 : Fin 3) * 1 + 1 * 0 = 0; omega
  | ⟨1, _⟩ => show win0_11.index t (1 : Fin 3) * 1 + 1 * 0 = 0; omega
  | ⟨2, _⟩ => show win0_11.index t (2 : Fin 3) * 2048 + 1 * n.val = n.val; omega

theorem iblk13 (c : Dev nD) (t : Fin cfg0.N) (n : Fin 2048) : iblk m c 13 t (ix3 0 0 n) = fScale m c n := by
  have f := idx_facts t
  show V m c main_arg10 (((cfg0.win 13).blk t).view.emb (ix3 0 0 n)) = _
  rw [V_main_arg10]
  refine congrArg _ (funext fun a => Fin.ext ?_)
  match a with
  | ⟨0, _⟩ => show win0_13.index t (0 : Fin 3) * 1 + 1 * 0 = 0; omega
  | ⟨1, _⟩ => show win0_13.index t (1 : Fin 3) * 1 + 1 * 0 = 0; omega
  | ⟨2, _⟩ => show win0_13.index t (2 : Fin 3) * 2048 + 1 * n.val = n.val; omega

theorem iblk14 (c : Dev nD) (t : Fin cfg0.N) (n : Fin 2048) : iblk m c 14 t (ix3 0 0 n) = fShift m c n := by
  have f := idx_facts t
  show V m c main_arg11 (((cfg0.win 14).blk t).view.emb (ix3 0 0 n)) = _
  rw [V_main_arg11]
  refine congrArg _ (funext fun a => Fin.ext ?_)
  match a with
  | ⟨0, _⟩ => show win0_14.index t (0 : Fin 3) * 1 + 1 * 0 = 0; omega
  | ⟨1, _⟩ => show win0_14.index t (1 : Fin 3) * 1 + 1 * 0 = 0; omega
  | ⟨2, _⟩ => show win0_14.index t (2 : Fin 3) * 2048 + 1 * n.val = n.val; omega

/-! ## The arrays after the run -/

/-- The rows after the merge. -/
def rows (c : Dev nD) : Vec Ideal S8192x2048 .f32 := fun y => rowAt (fProj m c) (fHy m c) (fRet m c) (fX m c) (fWHy m c) (fWRet m c) (fWOut m c) (fPost m c) (fGate m c) (y 0) (y 1)
/-- The rows the feed-forward takes. -/
def nexts (c : Dev nD) : Vec Ideal S8192x2048 .bf16 := fun y => nextAt (fProj m c) (fHy m c) (fRet m c) (fX m c) (fWHy m c) (fWRet m c) (fWOut m c) (fPost m c) (fGate m c) (fPre m c) (fScale m c) (fShift m c) (y 0) (y 1)

theorem flushed_rows (c : Dev nD) (t : Fin cfg0.N) : (dats m 0 c).flushed 15 t = ((cfg0.win 15).blk t).view.read (Elt Ideal) (rows m c) := by
  have f := idx_facts t
  rw [Value.flushed15, out15_at (fProj m c) (fHy m c) (fRet m c) (fX m c) (fWHy m c) (fWRet m c) (fWOut m c) (fPost m c) (fGate m c) (rowOf t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk0 m c t) (iblk1 m c t) (iblk2 m c t) (iblk3 m c t) (iblk4 m c t) (iblk5 m c t) (iblk6 m c t) (iblk7 m c t) (iblk8 m c t) (iblk9 m c t) (iblk10 m c t) (iblk11 m c t)]
  funext y
  obtain ⟨p, n, e⟩ : ∃ (p : Fin 512) (n : Fin 2048), y = ix2 p n := ⟨_, _, eq_ix2 y⟩
  subst e
  show rows m c (ix2 (rowOf t p) n) = rows m c (((cfg0.win 15).blk t).view.emb (ix2 p n))
  refine congrArg (rows m c) (funext fun a => Fin.ext ?_)
  match a with
  | ⟨0, _⟩ => show 512 * t.val + p.val = win0_15.index t (0 : Fin 2) * 512 + 1 * p.val; omega
  | ⟨1, _⟩ => show n.val = win0_15.index t (1 : Fin 2) * 2048 + 1 * n.val; omega

theorem mem_blk15 (t : Fin cfg0.N) (i : S8192x2048.Idx) :
    i ∈ ((cfg0.win 15).blk t).view.set ↔ ∀ a : Fin 2, win0_15.index t a * S512x2048.size a ≤ (i a).val ∧ (i a).val < win0_15.index t a * S512x2048.size a + S512x2048.size a := by
  show i ∈ ((View.whole main_v2_0).slice (win0_15.rect t)).set ↔ _
  rw [View.set_slice_whole, Rect.mem_set_unit]
  exact Iff.rfl

theorem flush15 : ∀ i : Fin 16, ∃ t : Fin cfg0.N, (cfg0.win 15).flush t = true ∧ t.val = i.val :=
  (by decide +kernel : ∀ i : Fin 16, ∃ t : Fin grid0.N, win0_15.flush t = true ∧ t.val = i.val)

theorem arr_rows (c : Dev nD) : (dats m 0 c).arrAt 15 cfg0.N = rows m c :=
  (dats m 0 c).arrAt_eq_of_cover 15 _ (fun t _ => flushed_rows m c t) fun i => by
    have h0 : (i 0).val < 8192 := (i 0).isLt
    have h1 : (i 1).val < 2048 := (i 1).isLt
    obtain ⟨t, hf, ht⟩ := flush15 ⟨(i 0).val / 512, by omega⟩
    have f := idx_facts t
    have ht' : t.val = (i 0).val / 512 := ht
    refine ⟨t, hf, (mem_blk15 t i).2 fun a => ?_⟩
    match a with
    | ⟨0, _⟩ => show win0_15.index t (0 : Fin 2) * 512 ≤ (i 0).val ∧ (i 0).val < win0_15.index t (0 : Fin 2) * 512 + 512; omega
    | ⟨1, _⟩ => show win0_15.index t (1 : Fin 2) * 2048 ≤ (i 1).val ∧ (i 1).val < win0_15.index t (1 : Fin 2) * 2048 + 2048; omega

theorem flushed_nexts (c : Dev nD) (t : Fin cfg0.N) : (dats m 0 c).flushed 16 t = ((cfg0.win 16).blk t).view.read (Elt Ideal) (nexts m c) := by
  have f := idx_facts t
  rw [Value.flushed16, out16_at (fProj m c) (fHy m c) (fRet m c) (fX m c) (fWHy m c) (fWRet m c) (fWOut m c) (fPost m c) (fGate m c) (fPre m c) (fScale m c) (fShift m c) (rowOf t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk0 m c t) (iblk1 m c t) (iblk2 m c t) (iblk3 m c t) (iblk4 m c t) (iblk5 m c t) (iblk6 m c t) (iblk7 m c t) (iblk8 m c t) (iblk9 m c t) (iblk10 m c t) (iblk11 m c t) (iblk12 m c t) (iblk13 m c t) (iblk14 m c t)]
  funext y
  obtain ⟨p, n, e⟩ : ∃ (p : Fin 512) (n : Fin 2048), y = ix2 p n := ⟨_, _, eq_ix2 y⟩
  subst e
  show nexts m c (ix2 (rowOf t p) n) = nexts m c (((cfg0.win 16).blk t).view.emb (ix2 p n))
  refine congrArg (nexts m c) (funext fun a => Fin.ext ?_)
  match a with
  | ⟨0, _⟩ => show 512 * t.val + p.val = win0_16.index t (0 : Fin 2) * 512 + 1 * p.val; omega
  | ⟨1, _⟩ => show n.val = win0_16.index t (1 : Fin 2) * 2048 + 1 * n.val; omega

theorem mem_blk16 (t : Fin cfg0.N) (i : S8192x2048.Idx) :
    i ∈ ((cfg0.win 16).blk t).view.set ↔ ∀ a : Fin 2, win0_16.index t a * S512x2048.size a ≤ (i a).val ∧ (i a).val < win0_16.index t a * S512x2048.size a + S512x2048.size a := by
  show i ∈ ((View.whole main_v2_1).slice (win0_16.rect t)).set ↔ _
  rw [View.set_slice_whole, Rect.mem_set_unit]
  exact Iff.rfl

theorem flush16 : ∀ i : Fin 16, ∃ t : Fin cfg0.N, (cfg0.win 16).flush t = true ∧ t.val = i.val :=
  (by decide +kernel : ∀ i : Fin 16, ∃ t : Fin grid0.N, win0_16.flush t = true ∧ t.val = i.val)

theorem arr_nexts (c : Dev nD) : (dats m 0 c).arrAt 16 cfg0.N = nexts m c :=
  (dats m 0 c).arrAt_eq_of_cover 16 _ (fun t _ => flushed_nexts m c t) fun i => by
    have h0 : (i 0).val < 8192 := (i 0).isLt
    have h1 : (i 1).val < 2048 := (i 1).isLt
    obtain ⟨t, hf, ht⟩ := flush16 ⟨(i 0).val / 512, by omega⟩
    have f := idx_facts t
    have ht' : t.val = (i 0).val / 512 := ht
    refine ⟨t, hf, (mem_blk16 t i).2 fun a => ?_⟩
    match a with
    | ⟨0, _⟩ => show win0_16.index t (0 : Fin 2) * 512 ≤ (i 0).val ∧ (i 0).val < win0_16.index t (0 : Fin 2) * 512 + 512; omega
    | ⟨1, _⟩ => show win0_16.index t (1 : Fin 2) * 2048 ≤ (i 1).val ∧ (i 1).val < win0_16.index t (1 : Fin 2) * 2048 + 2048; omega

end Cert.MergeIdeal.Hand
end
end
-- ==== Proof.MergeRef.lean ====
module
public import proofs.«01_k».proof.Proof.Gen.MergeRefIdeal.Read
public import proofs.«01_k».proof.Proof.MergeMath

@[expose] public section

set_option maxRecDepth 16384

noncomputable section

open Idealize.ShloMosaic Idealize.ShloMosaic.TcCoe Idealize.SL.Sem

/-! The reference's two results at one row and one column. -/

namespace Cert.MergeRefIdeal.Hand

open Cert.MergeRefIdeal Cert.MergeRefIdeal.Gen Cert.MergeRefIdeal.Read Cert.GatedMerge Cert.FeedForward

variable (x0 : Vec Ideal S8192x11264 .bf16) (x1 x2 : Vec Ideal S8192x1024 .bf16) (x3 : Vec Ideal S8192x2048 .f32) (x4 x5 : Vec Ideal S1024x2048 .bf16)
  (x6 : Vec Ideal S2048x2048 .bf16) (x7 : Vec Ideal S2048 .f32) (x8 : Vec Ideal S1x1x2048 .f32) (x9 : Vec Ideal S2048 .f32) (x10 x11 : Vec Ideal S1x1x2048 .f32)

/-- The row of the array a sequence's row is. -/
def flat (s : Fin 32) (t : Fin 256) : Fin 8192 := ⟨256 * s.val + t.val, by omega⟩

theorem flat_of (r : Fin 8192) (h : r.val / 256 < 32) (h' : r.val % 256 < 256) : flat ⟨r.val / 256, h⟩ ⟨r.val % 256, h'⟩ = r :=
  Fin.ext (by show 256 * (r.val / 256) + r.val % 256 = r.val; omega)

/-- The output projection. -/
abbrev out : Fin 8192 → Fin 2048 → EReal :=
  projAt (fun r k => x0 (ix2 r k)) (fun r d => x1 (ix2 r d)) (fun r d => x2 (ix2 r d)) (fun d k => x4 (ix2 d k)) (fun d k => x5 (ix2 d k)) (fun k n => x6 (ix2 k n))
/-- The rows after the merge. -/
abbrev next : Fin 8192 → Fin 2048 → EReal :=
  rowAt (fun r k => x0 (ix2 r k)) (fun r d => x1 (ix2 r d)) (fun r d => x2 (ix2 r d)) (fun r n => x3 (ix2 r n)) (fun d k => x4 (ix2 d k)) (fun d k => x5 (ix2 d k)) (fun k n => x6 (ix2 k n))
    (fun n => x7 (ix1 n)) (fun n => x8 (ix3 0 0 n))

theorem v10_at (s : Fin 32) (t : Fin 256) (k : Fin 2048) : val_main_v10 (F := Ideal) x1 x4 (ix3 s t k) = ∑ d, x1 (ix2 (flat s t) d) * x4 (ix2 d k) := by
  pointwise [val_main_v10, val_main_v8, val_main_v9, val_main_v1]
  refine Finset.sum_congr rfl fun d _ => congrArg (fun r => x1 (ix2 r d) * x4 (ix2 d k)) (Fin.ext ?_)
  show s.val * 256 + t.val = 256 * s.val + t.val
  omega

theorem v14_at (s : Fin 32) (t : Fin 256) (k : Fin 2048) : val_main_v14 (F := Ideal) x2 x5 (ix3 s t k) = ∑ d, x2 (ix2 (flat s t) d) * x5 (ix2 d k) := by
  pointwise [val_main_v14, val_main_v12, val_main_v13, val_main_v2]
  refine Finset.sum_congr rfl fun d _ => congrArg (fun r => x2 (ix2 r d) * x5 (ix2 d k)) (Fin.ext ?_)
  show s.val * 256 + t.val = 256 * s.val + t.val
  omega

theorem v6_at (s : Fin 32) (t : Fin 256) (k : Fin 2048) : val_main_v6 (F := Ideal) x0 (ix3 s t k) = x0 (ix2 (flat s t) (gh k)) := by
  pointwise [val_main_v6, val_main_v5, val_main_v4, val_main_v0]
  refine congrArg₂ (fun r k => x0 (ix2 r k)) (Fin.ext ?_) (Fin.ext ?_)
  · show s.val * 256 + t.val = 256 * s.val + t.val
    omega
  · rfl

theorem v7_at (s : Fin 32) (t : Fin 256) (k : Fin 2048) : val_main_v7 (F := Ideal) x0 (ix3 s t k) = x0 (ix2 (flat s t) (gr k)) := by
  pointwise [val_main_v7, val_main_v5, val_main_v4, val_main_v0]
  refine congrArg₂ (fun r k => x0 (ix2 r k)) (Fin.ext ?_) (Fin.ext ?_)
  · show s.val * 256 + t.val = 256 * s.val + t.val
    omega
  · show 7168 + (2048 + k.val) = 9216 + k.val
    omega

theorem v18_at (s : Fin 32) (t : Fin 256) (n : Fin 2048) : val_main_v18 (F := Ideal) x0 x1 x2 x4 x5 x6 (ix3 s t n) = out x0 x1 x2 x4 x5 x6 (flat s t) n := by
  have e : ∀ k, val_main_v16 (F := Ideal) x0 x1 x2 x4 x5 (ix3 s t k)
      = mixAt (fun r k => x0 (ix2 r k)) (fun r d => x1 (ix2 r d)) (fun r d => x2 (ix2 r d)) (fun d k => x4 (ix2 d k)) (fun d k => x5 (ix2 d k)) (flat s t) k := by
    intro k
    show val_main_v6 (F := Ideal) x0 (ix3 s t k) * val_main_v10 (F := Ideal) x1 x4 (ix3 s t k) + val_main_v7 (F := Ideal) x0 (ix3 s t k) * val_main_v14 (F := Ideal) x2 x5 (ix3 s t k) = _
    rw [v6_at, v7_at, v10_at, v14_at]
    rfl
  unfold val_main_v18
  revert e
  generalize val_main_v16 (F := Ideal) x0 x1 x2 x4 x5 = y
  intro e
  pointwise [val_main_v17]
  exact Finset.sum_congr rfl fun k _ => congrArg (· * x6 (ix2 k n)) (e k)

theorem v34_eq (s : Fin 32) (t : Fin 256) (n : Fin 2048) : val_main_v34 (F := Ideal) x0 x1 x2 x3 x4 x5 x6 x7 x8 (ix3 s t n)
    = x3 (ix2 (flat s t) n) + x8 (ix3 0 0 n) * (normAt (fun n' => val_main_v18 (F := Ideal) x0 x1 x2 x4 x5 x6 (ix3 s t n')) n * x7 (ix1 n)) := by
  unfold val_main_v34 val_main_v33 val_main_v31 val_main_v28 val_main_v27 val_main_v26 val_main_v25 val_main_v23 val_main_v21 val_main_v20 val_main_v19
  generalize val_main_v18 (F := Ideal) x0 x1 x2 x4 x5 x6 = y
  pointwise [val_main_v3, val_main_v32, val_main_v30, val_main_v29, val_main_v24, val_main_v22, val_main_cst, val_main_cst_0, val_main_cst_1]
  refine congrArg₂ (· + ·) (congrArg (fun r => x3 (ix2 r n)) (Fin.ext ?_)) rfl
  show s.val * 256 + t.val = 256 * s.val + t.val
  omega

theorem v34_at (s : Fin 32) (t : Fin 256) (n : Fin 2048) : val_main_v34 (F := Ideal) x0 x1 x2 x3 x4 x5 x6 x7 x8 (ix3 s t n) = next x0 x1 x2 x3 x4 x5 x6 x7 x8 (flat s t) n := by
  rw [v34_eq, funext fun n' => v18_at x0 x1 x2 x4 x5 x6 s t n']
  exact congrArg (x3 (ix2 (flat s t) n) + ·) (mul_left_comm _ _ _)

theorem v53_eq (s : Fin 32) (t : Fin 256) (n : Fin 2048) : val_main_v53 (F := Ideal) x0 x1 x2 x3 x4 x5 x6 x7 x8 x9 x10 x11 (ix3 s t n)
    = normAt (fun n' => val_main_v34 (F := Ideal) x0 x1 x2 x3 x4 x5 x6 x7 x8 (ix3 s t n')) n * x9 (ix1 n) * (1 + x10 (ix3 0 0 n)) + x11 (ix3 0 0 n) := by
  unfold val_main_v53 val_main_v51 val_main_v47 val_main_v44 val_main_v43 val_main_v42 val_main_v41 val_main_v39 val_main_v37 val_main_v36 val_main_v35
  generalize val_main_v34 (F := Ideal) x0 x1 x2 x3 x4 x5 x6 x7 x8 = y
  pointwise [val_main_v52, val_main_v50, val_main_v49, val_main_v48, val_main_v46, val_main_v45, val_main_v40, val_main_v38, val_main_cst_2, val_main_cst_3, val_main_cst_4, val_main_cst_5]
  rfl

/-- The first result: the rows after the merge. -/
theorem first_at (r : Fin 8192) (n : Fin 2048) : val_main_v54 (F := Ideal) x0 x1 x2 x3 x4 x5 x6 x7 x8 (ix2 r n) = next x0 x1 x2 x3 x4 x5 x6 x7 x8 r n := by
  have e : val_main_v54 (F := Ideal) x0 x1 x2 x3 x4 x5 x6 x7 x8 (ix2 r n) = val_main_v34 (F := Ideal) x0 x1 x2 x3 x4 x5 x6 x7 x8 (ix3 ⟨r.val / 256, by omega⟩ ⟨r.val % 256, by omega⟩ n) := by
    unfold val_main_v54
    generalize val_main_v34 (F := Ideal) x0 x1 x2 x3 x4 x5 x6 x7 x8 = y
    pointwise
  rw [e, v34_at, flat_of]

/-- The second result: the rows the feed-forward takes. -/
theorem second_at (r : Fin 8192) (n : Fin 2048) : val_main_v56 (F := Ideal) x0 x1 x2 x3 x4 x5 x6 x7 x8 x9 x10 x11 (ix2 r n)
    = nextAt (fun r k => x0 (ix2 r k)) (fun r d => x1 (ix2 r d)) (fun r d => x2 (ix2 r d)) (fun r n => x3 (ix2 r n)) (fun d k => x4 (ix2 d k)) (fun d k => x5 (ix2 d k)) (fun k n => x6 (ix2 k n))
      (fun n => x7 (ix1 n)) (fun n => x8 (ix3 0 0 n)) (fun n => x9 (ix1 n)) (fun n => x10 (ix3 0 0 n)) (fun n => x11 (ix3 0 0 n)) r n := by
  have e : val_main_v56 (F := Ideal) x0 x1 x2 x3 x4 x5 x6 x7 x8 x9 x10 x11 (ix2 r n)
      = val_main_v53 (F := Ideal) x0 x1 x2 x3 x4 x5 x6 x7 x8 x9 x10 x11 (ix3 ⟨r.val / 256, by omega⟩ ⟨r.val % 256, by omega⟩ n) := by
    unfold val_main_v56 val_main_v55
    generalize val_main_v53 (F := Ideal) x0 x1 x2 x3 x4 x5 x6 x7 x8 x9 x10 x11 = y
    pointwise
  rw [e, v53_eq, funext fun n' => v34_at x0 x1 x2 x3 x4 x5 x6 x7 x8 _ _ n', flat_of, mul_assoc]
  rfl

end Cert.MergeRefIdeal.Hand

end

end
-- ==== Proof.lean ====
/- The certificate's claim: the retention, the feed-forward and the merge run and leave their arguments alone, and
   each agrees with its reference at the ideal numbers, the first two wherever what their preconditions name is finite. -/
module

public import proofs.«01_k».proof.Proof.FfnFrame
public import proofs.«01_k».proof.Proof.FfnFrameB
public import proofs.«01_k».proof.Proof.Gen.Ffn.Frame
public import proofs.«01_k».proof.Proof.Gen.Ffn.Launch
public import proofs.«01_k».proof.Proof.Gen.Ffn.Points
public import proofs.«01_k».proof.Proof.Gen.Ffn.Skeleton
public import proofs.«01_k».proof.Proof.Gen.FfnIdeal.Frame
public import proofs.«01_k».proof.Proof.Gen.FfnIdeal.Launch
public import proofs.«01_k».proof.Proof.Gen.FfnIdeal.Points
public import proofs.«01_k».proof.Proof.Gen.FfnIdeal.Skeleton
public import proofs.«01_k».proof.Proof.Gen.FfnRefIdeal.Read
public import proofs.«01_k».proof.Proof.Gen.Ffn
public import proofs.«01_k».proof.Proof.Gen.FfnIdeal
public import proofs.«01_k».proof.Proof.Gen.FfnRefIdeal
public import proofs.«01_k».proof.Proof.Gen.FfnRefIdeal.Run
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Merge
public import proofs.«01_k».proof.Proof.Gen.MergeIdeal
public import proofs.«01_k».proof.Proof.Gen.MergeRefIdeal
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Match
public import proofs.«01_k».proof.Proof.FfnWhole
public import proofs.«01_k».proof.Proof.FfnRef
public import proofs.«01_k».proof.Proof.FfnPre
public import proofs.«01_k».proof.Proof.MergeWhole
public import proofs.«01_k».proof.Proof.MergeRef
public import proofs.«01_k».proof.Proof.Pre
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

instance : Cert.Pre_finite.Facts := Cert.Pre_finite.Hand.facts

/-- The reference runs, and leaves its arguments and the counters alone. -/
theorem reference_frame : Cert.quiescent_ReferenceIdeal := fun m g _ =>
  (θ_run _ _ _).mono (fun r h => ⟨fun c => ⟨(h c).2.2.1, (h c).2.2.2.1, (h c).2.2.2.2⟩, sem_eq_zero_of_no_sems (by decide) r.2⟩)
    (Cert.ReferenceIdeal.Value.run m g)

section
open Cert.KernelIdeal Cert.KernelIdeal.Hand
variable (m : (ℓ : Loc nD τ sig) → Buf (Elt Ideal) ℓ) (c : Dev nD)
variable (hm : Cert.Pre_finite.fn (F := Ideal) (aProj m c) (aLogit m c) (aGn m c) = fun _ => 1#1)
include hm

/-- The first result: the kernel's array is the reference's term. -/
theorem first_eq : Value.G6 m c = Cert.ReferenceIdeal.Read.val_main_v226 (F := Ideal) (aProj m c) (aLogit m c) (aGn m c) := by
  obtain ⟨hp, hl⟩ := Cert.Pre_finite.Hand.pre_iff _ _ _ hm
  funext p
  obtain ⟨r, l, e⟩ : ∃ (r : Fin 8192) (l : Fin 1024), p = ix2 r l := ⟨_, _, eq_ix2 p⟩
  subst e
  rw [G6_at, yBlock_at (lx := Gen.V m c main_v2) hp (lg := fun d h => (aLogit m c (ix2 d h)).toReal) (fun h r l => by rw [V_logit]; exact hl r h) _ _ _ _ ⟨r.val / 256, by omega⟩ (by show r.val / 256 = 4 * (r.val / 1024) + r.val % 1024 / 256; omega),
    Cert.ReferenceIdeal.Hand.v226_at _ hp hl, V_gn]
  refine congrArg₂ (· * ·) (congrArg₂ (· * ·) (congrArg₂ Cert.Retention.normAt (funext fun e => ?_) rfl) rfl) ?_
  · refine congrArg (fun t => ((Cert.ReferenceIdeal.Hand.sumOut _ _ _ t _ e : ℝ) : EReal)) (Fin.ext ?_)
    show r.val % 1024 % 256 = r.val % 256
    omega
  · refine congrArg (aProj m c) (congrArg₂ ix2 (Fin.ext ?_) rfl)
    show 1024 * (r.val / 1024) + r.val % 1024 = r.val
    omega

/-- The second result: the kernel's array is the reference's term. -/
theorem second_eq : Value.G7 m c = Cert.ReferenceIdeal.Read.val_main_v229 (F := Ideal) (aProj m c) (aLogit m c) := by
  obtain ⟨hp, hl⟩ := Cert.Pre_finite.Hand.pre_iff _ _ _ hm
  funext p
  obtain ⟨s, d, h, i, j, e⟩ : ∃ (s : Fin 32) (d : Fin 2) (h : Fin 8) (i j : Fin 128), p = ix5 s d h i j := ⟨_, _, _, _, _, eq_ix5 p⟩
  subst e
  rw [G7_at, sBlock_at (lx := Gen.V m c main_v2) hp (lg := fun d h => (aLogit m c (ix2 d h)).toReal) (fun h r l => by rw [V_logit]; exact hl r h) _ _ _ _ _ _ s (by show s.val = 4 * (s.val / 4) + s.val % 4; omega),
    Cert.ReferenceIdeal.Hand.v229_at hp hl]
end

/-- The kernel and the reference agree. -/
theorem agree : Cert.algebraic_KernelIdeal_ReferenceIdeal_pre_finite := fun m g m' g' hm ha =>
  ⟨fun c => Cert.KernelIdeal.Value.G6 m c, fun c => Cert.KernelIdeal.Value.G7 m c, Cert.KernelIdeal.Value.run m g,
    (θ_run _ _ _).mono (fun r h c => by
      obtain ⟨h0, h1, h2, h3, h4⟩ := h c
      obtain ⟨a0, a1, a2⟩ := ha c
      refine ⟨?_, ?_, h2, h3, h4⟩
      · refine h0.trans ((Cert.ReferenceIdeal.Read.val_main_v226_eq _).trans (Eq.trans ?_ (first_eq m c (hm c)).symm))
        exact congr (congr (congrArg Cert.ReferenceIdeal.Read.val_main_v226 a0) a1) a2
      · refine h1.trans ((Cert.ReferenceIdeal.Read.val_main_v229_eq _).trans (Eq.trans ?_ (second_eq m c (hm c)).symm))
        exact congr (congrArg Cert.ReferenceIdeal.Read.val_main_v229 a0) a1)
    (Cert.ReferenceIdeal.Value.run m' g')⟩

instance : Cert.Pre_finite_ffn.Facts := Cert.Pre_finite_ffn.Hand.facts

/-- The feed-forward's reference runs, and leaves its arguments and the counters alone. -/
theorem ffn_reference_frame : Cert.quiescent_FfnRefIdeal := fun m g _ =>
  (θ_run _ _ _).mono (fun r h => ⟨fun c => (h c).2, sem_eq_zero_of_no_sems (by decide) r.2⟩) (Cert.FfnRefIdeal.Value.run m g)

section
open Cert.FfnIdeal Cert.FfnIdeal.Hand
variable (m : (ℓ : Loc nD τ sig) → Buf (Elt Ideal) ℓ)

/-- The feed-forward runs to its output, and leaves its arguments alone. -/
theorem ffn_run (g : Dev nD → PrngReg) : θ_run defs (onTc (τ := τ) (main (F := Ideal))) ⟨m, fun _ => 0, g⟩ (fun r => ∀ c : Dev nD,
    r.2.mem ((c.tc : Thread nD τ).loc main_v1) = out m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun _ h c => ⟨((h.1 c).1 8).trans (arr_out m c),
      ((h.1 c).2 main_arg0 (Pipeline.mem_restRefs_of main_arg0 (by decide) (by decide))).trans (Gen.V_main_arg0 m c),
      ((h.1 c).1 0).trans (((Hand.dats m 0 c).arrAt_in 0 rfl _).trans ((Hand.A_eq m c 0).trans (Gen.V_main_arg1 m c))),
      ((h.1 c).1 1).trans (((Hand.dats m 0 c).arrAt_in 1 rfl _).trans ((Hand.A_eq m c 1).trans (Gen.V_main_arg2 m c))),
      ((h.1 c).2 main_arg3 (Pipeline.mem_restRefs_of main_arg3 (by decide) (by decide))).trans (Gen.V_main_arg3 m c),
      ((h.1 c).1 4).trans (((Hand.dats m 0 c).arrAt_in 4 rfl _).trans ((Hand.A_eq m c 4).trans (Gen.V_main_arg4 m c))),
      ((h.1 c).1 6).trans (((Hand.dats m 0 c).arrAt_in 6 rfl _).trans ((Hand.A_eq m c 6).trans (Gen.V_main_arg5 m c))),
      ((h.1 c).1 7).trans (((Hand.dats m 0 c).arrAt_in 7 rfl _).trans ((Hand.A_eq m c 7).trans (Gen.V_main_arg6 m c)))⟩) (Hand.run_main m g)

variable (c : Dev nD)
variable (hm : Cert.Pre_finite_ffn.fn (F := Ideal) (aX m c) (aH m c) (aGate m c) (aPost m c) (aUp m c) (aConv m c) (aDown m c) = fun _ => 1#1)
include hm

/-- The feed-forward's array is the reference's term. -/
theorem ffn_eq : out m c = Cert.FfnRefIdeal.Read.val_main_v60 (F := Ideal) (aX m c) (aH m c) (aGate m c) (aPost m c) (aUp m c) (aConv m c) (aDown m c) := by
  obtain ⟨hh, hw, hc⟩ := Cert.Pre_finite_ffn.Hand.pre_iff _ _ _ _ _ _ _ hm
  funext p
  obtain ⟨r, n, e⟩ : ∃ (r : Fin 8192) (n : Fin 2048), p = ix2 r n := ⟨_, _, eq_ix2 p⟩
  subst e
  rw [Cert.FfnRefIdeal.Hand.result_at _ _ _ _ _ _ _ hh hw hc]
  rfl
end

/-- The feed-forward and its reference agree. -/
theorem ffn_agree : Cert.algebraic_FfnIdeal_FfnRefIdeal_pre_finite_ffn := fun m g m' g' hm ha =>
  ⟨fun c => Cert.FfnIdeal.Hand.out m c, ffn_run m g,
    (θ_run _ _ _).mono (fun r h c => by
      obtain ⟨h0, hr⟩ := h c
      obtain ⟨a0, a1, a2, a3, a4, a5, a6⟩ := ha c
      refine ⟨h0.trans ((Cert.FfnRefIdeal.Read.val_main_v60_eq _ _).trans (Eq.trans ?_ (ffn_eq m c (hm c)).symm)), hr⟩
      exact congr (congr (congr (congr (congr (congr (congrArg Cert.FfnRefIdeal.Read.val_main_v60 a0) a1) a2) a3) a4) a5) a6)
    (Cert.FfnRefIdeal.Value.run m' g')⟩

/-- The merge's reference runs, and leaves its arguments and the counters alone. -/
theorem merge_reference_frame : Cert.quiescent_MergeRefIdeal := fun m g _ =>
  (θ_run _ _ _).mono (fun r h => ⟨fun c => (h c).2.2, sem_eq_zero_of_no_sems (by decide) r.2⟩) (Cert.MergeRefIdeal.Value.run m g)

section
open Cert.MergeIdeal Cert.MergeIdeal.Hand
variable (m : (ℓ : Loc nD τ sig) → Buf (Elt Ideal) ℓ) (c : Dev nD)

/-- The merge's first array is the reference's term. -/
theorem merge_first_eq : rows m c = Cert.MergeRefIdeal.Read.val_main_v54 (F := Ideal) (aProj m c) (aHy m c) (aRet m c) (aX m c) (aWHy m c) (aWRet m c) (aWOut m c) (aPost m c) (aGate m c) := by
  funext p
  obtain ⟨r, n, e⟩ : ∃ (r : Fin 8192) (n : Fin 2048), p = ix2 r n := ⟨_, _, eq_ix2 p⟩
  subst e
  rw [Cert.MergeRefIdeal.Hand.first_at]
  rfl

/-- The merge's second array is the reference's term. -/
theorem merge_second_eq : nexts m c = Cert.MergeRefIdeal.Read.val_main_v56 (F := Ideal) (aProj m c) (aHy m c) (aRet m c) (aX m c) (aWHy m c) (aWRet m c) (aWOut m c) (aPost m c) (aGate m c) (aPre m c) (aScale m c) (aShift m c) := by
  funext p
  obtain ⟨r, n, e⟩ : ∃ (r : Fin 8192) (n : Fin 2048), p = ix2 r n := ⟨_, _, eq_ix2 p⟩
  subst e
  rw [Cert.MergeRefIdeal.Hand.second_at]
  rfl
end

/-- The merge and its reference agree. -/
theorem merge_agree : Cert.algebraic_MergeIdeal_MergeRefIdeal := fun m g m' g' _ ha =>
  ⟨fun c => Cert.MergeIdeal.Hand.rows m c, fun c => Cert.MergeIdeal.Hand.nexts m c,
    (θ_run _ _ _).mono (fun r h c => ⟨(h c).1.trans (Cert.MergeIdeal.Hand.arr_rows m c), (h c).2.1.trans (Cert.MergeIdeal.Hand.arr_nexts m c), (h c).2.2⟩)
      (Cert.MergeIdeal.Value.run_blocks m g),
    (θ_run _ _ _).mono (fun r h c => by
      obtain ⟨h0, h1, hr⟩ := h c
      obtain ⟨a0, a1, a2, a3, a4, a5, a6, a7, a8, a9, a10, a11⟩ := ha c
      refine ⟨?_, ?_, hr⟩
      · refine h0.trans ((Cert.MergeRefIdeal.Read.val_main_v54_eq _ _).trans (Eq.trans ?_ (merge_first_eq m c).symm))
        exact congr (congr (congr (congr (congr (congr (congr (congr (congrArg Cert.MergeRefIdeal.Read.val_main_v54 a0) a1) a2) a3) a4) a5) a6) a7) a8
      · refine h1.trans ((Cert.MergeRefIdeal.Read.val_main_v56_eq _ _).trans (Eq.trans ?_ (merge_second_eq m c).symm))
        exact congr (congr (congr (congr (congr (congr (congr (congr (congr (congr (congr (congrArg Cert.MergeRefIdeal.Read.val_main_v56 a0) a1) a2) a3) a4) a5) a6) a7) a8) a9) a10) a11)
    (Cert.MergeRefIdeal.Value.run m' g')⟩

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts, Cert.Merge.Gen.facts, Cert.MergeIdeal.Gen.facts, Cert.MergeRefIdeal.Gen.facts, Cert.Pre_finite.Hand.facts, Cert.Pre_finite_ffn.Hand.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.Ffn.Hand.frame m g, fun m g _ => Cert.FfnIdeal.Hand.frame m g, fun m g _ => Cert.FfnIdeal.Hand.frame m g,
  ffn_reference_frame, fun m g _ => ffn_reference_frame m g trivial,
  fun m g _ => Cert.Merge.Gen.frame m g, fun m g _ => Cert.MergeIdeal.Gen.frame m g, merge_reference_frame,
  trivial, agree, IdealRules.named_const.statement _ _ _ _ _ rfl, ffn_agree, trivial, merge_agree⟩

end Cert.Proof

end

end
